-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_diff_finite [hPre_diff_finite : Cert.Pre_diff_finite.Facts] (m : (ℓ : Loc Cert.KernelIdeal.nD Cert.KernelIdeal.τ Cert.KernelIdeal.sig) → Buf (Elt Ideal) ℓ) : Prop :=
  ∀ c : Dev Cert.KernelIdeal.nD,
    (Cert.Pre_diff_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_diff_finite [hPre_diff_finite : Cert.Pre_diff_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_diff_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_full_finite [hPre_full_finite : Cert.Pre_full_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_full_finite.fn (F := Ideal) (m ((c.tc : Thread Cert.Kernel2Ideal.nD Cert.Kernel2Ideal.τ).loc Cert.Kernel2Ideal.main_arg0))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_full_finite [hPre_full_finite : Cert.Pre_full_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_full_finite.fn (F := Ideal) (m ((c.tc : Thread Cert.Reference2Ideal.nD Cert.Reference2Ideal.τ).loc Cert.Reference2Ideal.main_arg0))) = (fun _ => 1#1)

def Pre_Kernel3 [hPre_gmm_tables : Cert.Pre_gmm_tables.Facts] (m : (ℓ : Loc Cert.Kernel3.nD Cert.Kernel3.τ Cert.Kernel3.sig) → Buf (Elt Bits) ℓ) : Prop :=
  ∀ c : Dev Cert.Kernel3.nD,
    (Cert.Pre_gmm_tables.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_gmm_tables : Cert.Pre_gmm_tables.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gmm_tables.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gmm_tables [hPre_gmm_tables : Cert.Pre_gmm_tables.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gmm_tables.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_diff_finite [hKernelIdeal : Cert.KernelIdeal.Facts] [hPre_diff_finite : Cert.Pre_diff_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_diff_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_diff_finite [hReferenceIdeal : Cert.ReferenceIdeal.Facts] [hPre_diff_finite : Cert.Pre_diff_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_diff_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_full_finite [hKernel2Ideal : Cert.Kernel2Ideal.Facts] [hPre_full_finite : Cert.Pre_full_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_full_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_full_finite [hReference2Ideal : Cert.Reference2Ideal.Facts] [hPre_full_finite : Cert.Pre_full_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_full_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] [hPre_gmm_tables : Cert.Pre_gmm_tables.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_gmm_tables : Cert.Pre_gmm_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_gmm_tables [hReference3Ideal : Cert.Reference3Ideal.Facts] [hPre_gmm_tables : Cert.Pre_gmm_tables.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gmm_tables m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  True

def algebraic_KernelIdeal_ReferenceIdeal_pre_diff_finite [hKernelIdeal : Cert.KernelIdeal.Facts] [hReferenceIdeal : Cert.ReferenceIdeal.Facts] [hPre_diff_finite : Cert.Pre_diff_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_diff_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_full_finite [hKernel2Ideal : Cert.Kernel2Ideal.Facts] [hReference2Ideal : Cert.Reference2Ideal.Facts] [hPre_full_finite : Cert.Pre_full_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_full_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  True

def algebraic_Kernel3Ideal_Reference3Ideal [hKernel3Ideal : Cert.Kernel3Ideal.Facts] [hReference3Ideal : Cert.Reference3Ideal.Facts] [hPre_gmm_tables : Cert.Pre_gmm_tables.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v41) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v101) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v26) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_diff_finite : Cert.Pre_diff_finite.Facts) (hPre_full_finite : Cert.Pre_full_finite.Facts) (hPre_gmm_tables : Cert.Pre_gmm_tables.Facts),
    quiescent_Kernel (hKernel := hKernel)
    ∧ quiescent_KernelIdeal (hKernelIdeal := hKernelIdeal)
    ∧ quiescent_KernelIdeal_pre_diff_finite (hKernelIdeal := hKernelIdeal) (hPre_diff_finite := hPre_diff_finite)
    ∧ quiescent_ReferenceIdeal (hReferenceIdeal := hReferenceIdeal)
    ∧ quiescent_ReferenceIdeal_pre_diff_finite (hReferenceIdeal := hReferenceIdeal) (hPre_diff_finite := hPre_diff_finite)
    ∧ quiescent_Kernel2 (hKernel2 := hKernel2)
    ∧ quiescent_Kernel2Ideal (hKernel2Ideal := hKernel2Ideal)
    ∧ quiescent_Kernel2Ideal_pre_full_finite (hKernel2Ideal := hKernel2Ideal) (hPre_full_finite := hPre_full_finite)
    ∧ quiescent_Reference2Ideal (hReference2Ideal := hReference2Ideal)
    ∧ quiescent_Reference2Ideal_pre_full_finite (hReference2Ideal := hReference2Ideal) (hPre_full_finite := hPre_full_finite)
    ∧ quiescent_Kernel3 (hKernel3 := hKernel3) (hPre_gmm_tables := hPre_gmm_tables)
    ∧ quiescent_Kernel3Ideal (hKernel3Ideal := hKernel3Ideal) (hPre_gmm_tables := hPre_gmm_tables)
    ∧ quiescent_Reference3Ideal (hReference3Ideal := hReference3Ideal)
    ∧ quiescent_Reference3Ideal_pre_gmm_tables (hReference3Ideal := hReference3Ideal) (hPre_gmm_tables := hPre_gmm_tables)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_diff_finite (hKernelIdeal := hKernelIdeal) (hReferenceIdeal := hReferenceIdeal) (hPre_diff_finite := hPre_diff_finite)
    ∧ preserves_Kernel2_Kernel2Ideal
    ∧ algebraic_Kernel2Ideal_Reference2Ideal_pre_full_finite (hKernel2Ideal := hKernel2Ideal) (hReference2Ideal := hReference2Ideal) (hPre_full_finite := hPre_full_finite)
    ∧ preserves_Kernel3_Kernel3Ideal
    ∧ algebraic_Kernel3Ideal_Reference3Ideal (hKernel3Ideal := hKernel3Ideal) (hReference3Ideal := hReference3Ideal) (hPre_gmm_tables := hPre_gmm_tables)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_diff_finite.lean ====
abbrev S4x4096x6144 : Shape := ⟨3, ![4, 4096, 6144]⟩
abbrev S4x128 : Shape := ⟨2, ![4, 128]⟩
abbrev S256 : Shape := ⟨1, ![256]⟩
abbrev S4x4096x5120 : Shape := ⟨3, ![4, 4096, 5120]⟩
abbrev S_ : Shape := ⟨0, ![]⟩

class Facts : Prop where
  slices_S4x4096x6144_S4x4096x5120_0_0_0 : S4x4096x6144.Slices ![0, 0, 0] S4x4096x5120
  bitsLt_bf16_f32 : FTy.bits .bf16 < FTy.bits .f32
  bcast_S_S4x4096x5120 : S_.BroadcastsInDim S4x4096x5120 (![] : Fin 0 → Fin S4x4096x5120.rank)
  reducesTo_S4x4096x5120_S_d0_1_2 : S4x4096x5120.ReducesTo [0, 1, 2] S_
  h_S_ : 0 < S_.numel

variable [Facts]

def fn {F : FTy → Type} [FloatOps F] (main_arg0 : FVec F S4x4096x6144 .bf16) (main_arg1 : FVec F S4x128 .f32) (main_arg2 : FVec F S256 .f32) : IVec S_ 1 :=
  let main_v0 : FVec F S4x4096x5120 .bf16 := (extractStridedSlice S4x4096x5120 ![0, 0, 0] · slices_S4x4096x6144_S4x4096x5120_0_0_0) main_arg0
  let main_v1 : FVec F S4x4096x5120 .f32 := (extf .f32 · bitsLt_bf16_f32) main_v0
  let main_v2 : FVec F S4x4096x5120 .f32 := Host.absf main_v1
  let main_cst : FVec F S_ .f32 := constant S_ .f32 0x7F800000#32
  let main_v3 : FVec F S4x4096x5120 .f32 := broadcastInDim S4x4096x5120 ![] bcast_S_S4x4096x5120 main_cst
  let main_v4 : IVec S4x4096x5120 1 := cmpf .olt main_v2 main_v3
  let main_c : IVec S_ 1 := constantI S_ 1 1#1
  let main_v5 : IVec S_ 1 := (fun x v => Host.reduce IntOp.andi x v reducesTo_S4x4096x5120_S_d0_1_2 h_S_) main_v4 main_c
  main_v5
-- ==== Pre_full_finite.lean ====
abbrev S4x4096x6144 : Shape := ⟨3, ![4, 4096, 6144]⟩
abbrev S4x4096x5120 : Shape := ⟨3, ![4, 4096, 5120]⟩
abbrev S_ : Shape := ⟨0, ![]⟩

class Facts : Prop where
  slices_S4x4096x6144_S4x4096x5120_0_0_0 : S4x4096x6144.Slices ![0, 0, 0] S4x4096x5120
  bitsLt_bf16_f32 : FTy.bits .bf16 < FTy.bits .f32
  bcast_S_S4x4096x5120 : S_.BroadcastsInDim S4x4096x5120 (![] : Fin 0 → Fin S4x4096x5120.rank)
  reducesTo_S4x4096x5120_S_d0_1_2 : S4x4096x5120.ReducesTo [0, 1, 2] S_
  h_S_ : 0 < S_.numel

variable [Facts]

def fn {F : FTy → Type} [FloatOps F] (main_arg0 : FVec F S4x4096x6144 .bf16) : IVec S_ 1 :=
  let main_v0 : FVec F S4x4096x5120 .bf16 := (extractStridedSlice S4x4096x5120 ![0, 0, 0] · slices_S4x4096x6144_S4x4096x5120_0_0_0) main_arg0
  let main_v1 : FVec F S4x4096x5120 .f32 := (extf .f32 · bitsLt_bf16_f32) main_v0
  let main_v2 : FVec F S4x4096x5120 .f32 := Host.absf main_v1
  let main_cst : FVec F S_ .f32 := constant S_ .f32 0x7F800000#32
  let main_v3 : FVec F S4x4096x5120 .f32 := broadcastInDim S4x4096x5120 ![] bcast_S_S4x4096x5120 main_cst
  let main_v4 : IVec S4x4096x5120 1 := cmpf .olt main_v2 main_v3
  let main_c : IVec S_ 1 := constantI S_ 1 1#1
  let main_v5 : IVec S_ 1 := (fun x v => Host.reduce IntOp.andi x v reducesTo_S4x4096x5120_S_d0_1_2 h_S_) main_v4 main_c
  main_v5
-- ==== Pre_gmm_tables.lean ====
abbrev S576 : Shape := ⟨1, ![576]⟩
abbrev S1 : Shape := ⟨1, ![1]⟩
abbrev S147456x2048 : Shape := ⟨2, ![147456, 2048]⟩
abbrev S4x64x192x4096 : Shape := ⟨4, ![4, 64, 192, 4096]⟩
abbrev S_ : Shape := ⟨0, ![]⟩

class Facts : Prop where
  bcast_S_S576 : S_.BroadcastsInDim S576 (![] : Fin 0 → Fin S576.rank)
  reducesTo_S576_S_d0 : S576.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S576 32) (main_arg1 : IVec S1 32) (main_arg2 : IVec S147456x2048 32) (main_arg3 : FVec F S4x64x192x4096 .f32) (main_arg4 : FVec F S4x64x192x4096 .f32) (main_arg5 : FVec F S4x64x192x4096 .f32) : IVec S_ 1 :=
  let main_c : IVec S_ 32 := constantI S_ 32 0#32
  let main_v0 : IVec S576 32 := broadcastInDim S576 ![] bcast_S_S576 main_c
  let main_v1 : IVec S576 1 := cmpi .sge main_arg0 main_v0
  let main_c_0 : IVec S_ 1 := constantI S_ 1 1#1
  let main_v2 : IVec S_ 1 := (fun x v => Host.reduce IntOp.andi x v reducesTo_S576_S_d0 h_S_) main_v1 main_c_0
  let main_c_1 : IVec S_ 32 := constantI S_ 32 64#32
  let main_v3 : IVec S576 32 := broadcastInDim S576 ![] bcast_S_S576 main_c_1
  let main_v4 : IVec S576 1 := cmpi .slt main_arg0 main_v3
  let main_c_2 : IVec S_ 1 := constantI S_ 1 1#1
  let main_v5 : IVec S_ 1 := (fun x v => Host.reduce IntOp.andi x v reducesTo_S576_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 576#32
  let main_v11 : IVec S1 32 := broadcastInDim S1 ![] bcast_S_S1 main_c_5
  let main_v12 : IVec S1 1 := cmpi .sle main_arg1 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Kernel.lean ====
abbrev S4x4096x6144 : Shape := ⟨3, ![4, 4096, 6144]⟩
abbrev S4x128 : Shape := ⟨2, ![4, 128]⟩
abbrev S256 : Shape := ⟨1, ![256]⟩
abbrev S1x256 : Shape := ⟨2, ![1, 256]⟩
abbrev S4x4096x4096 : Shape := ⟨3, ![4, 4096, 4096]⟩
abbrev S1x256x1024 : Shape := ⟨3, ![1, 256, 1024]⟩
abbrev S1x4096x256 : Shape := ⟨3, ![1, 4096, 256]⟩
abbrev S1x128 : Shape := ⟨2, ![1, 128]⟩
abbrev S1 : Shape := ⟨1, ![1]⟩
abbrev S1x1 : Shape := ⟨2, ![1, 1]⟩
abbrev S4096x256 : Shape := ⟨2, ![4096, 256]⟩
abbrev S1x256x128 : Shape := ⟨3, ![1, 256, 128]⟩
abbrev S256x128 : Shape := ⟨2, ![256, 128]⟩
abbrev S1x4096x128 : Shape := ⟨3, ![1, 4096, 128]⟩
abbrev S4096x128 : Shape := ⟨2, ![4096, 128]⟩
abbrev S256x4096 : Shape := ⟨2, ![256, 4096]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 5
  | .vmem => 10
  | .smem => 0
  | _ => 0

abbrev bufTy : (tb : Table) → Fin (tcTables nBuf tb) → BufTy
  | .hbm, ⟨0, _⟩ => ⟨S4x4096x6144, .bf16⟩
  | .hbm, ⟨1, _⟩ => ⟨S4x128, .f32⟩
  | .hbm, ⟨2, _⟩ => ⟨S256, .f32⟩
  | .hbm, ⟨3, _⟩ => ⟨S1x256, .f32⟩
  | .hbm, ⟨4, _⟩ => ⟨S4x4096x4096, .bf16⟩
  | .local _ .vmem, ⟨0, _⟩ => ⟨S4x128, .f32⟩
  | .local _ .vmem, ⟨1, _⟩ => ⟨S1x256, .f32⟩
  | .local _ .vmem, ⟨2, _⟩ => ⟨S1x256x1024, .bf16⟩
  | .local _ .vmem, ⟨3, _⟩ => ⟨S1x256x1024, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x4096x256, .bf16⟩
  | .local _ .vmem, ⟨7, _⟩ => ⟨S1x4096x256, .bf16⟩
  | .local _ .vmem, ⟨8, _⟩ => ⟨S1x256x1024, .bf16⟩
  | .local _ .vmem, ⟨9, _⟩ => ⟨S1x256x1024, .bf16⟩
  | _, _ => ⟨S4x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x4096x6144 : Shape := ⟨3, ![4, 4096, 6144]⟩
abbrev S4x128 : Shape := ⟨2, ![4, 128]⟩
abbrev S256 : Shape := ⟨1, ![256]⟩
abbrev S4x4096x4096 : Shape := ⟨3, ![4, 4096, 4096]⟩
abbrev S4x4096x1024 : Shape := ⟨3, ![4, 4096, 1024]⟩
abbrev S4x4096x4x4x256 : Shape := ⟨5, ![4, 4096, 4, 4, 256]⟩
abbrev S4x4096x4x256 : Shape := ⟨4, ![4, 4096, 4, 256]⟩
abbrev S1x128 : Shape := ⟨2, ![1, 128]⟩
abbrev S128 : Shape := ⟨1, ![128]⟩
abbrev S_ : Shape := ⟨0, ![]⟩
abbrev S4x4096x4x4x128 : Shape := ⟨5, ![4, 4096, 4, 4, 128]⟩
abbrev S4x4096x4x128 : Shape := ⟨4, ![4, 4096, 4, 128]⟩
abbrev S4x4x4096x4096x4 : Shape := ⟨5, ![4, 4, 4096, 4096, 4]⟩
abbrev S4x4x4x4096x4096 : Shape := ⟨5, ![4, 4, 4, 4096, 4096]⟩
abbrev S4x4x4x4096 : Shape := ⟨4, ![4, 4, 4, 4096]⟩
abbrev S4x4x4x4096x1 : Shape := ⟨5, ![4, 4, 4, 4096, 1]⟩
abbrev S4x4x256x4x4096 : Shape := ⟨5, ![4, 4, 256, 4, 4096]⟩
abbrev S4x4096x4x4 : Shape := ⟨4, ![4, 4096, 4, 4]⟩
abbrev S4x4096x4x4x1 : Shape := ⟨5, ![4, 4096, 4, 4, 1]⟩
abbrev S1x1x1x1x256 : Shape := ⟨5, ![1, 1, 1, 1, 256]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x6144, .bf16⟩
  | .hbm, ⟨1, _⟩ => ⟨S4x128, .f32⟩
  | .hbm, ⟨2, _⟩ => ⟨S256, .f32⟩
  | .hbm, ⟨3, _⟩ => ⟨S4x4096x6144, .f32⟩
  | .hbm, ⟨4, _⟩ => ⟨S4x4096x4096, .f32⟩
  | .hbm, ⟨5, _⟩ => ⟨S4x4096x1024, .f32⟩
  | .hbm, ⟨6, _⟩ => ⟨S4x4096x1024, .f32⟩
  | .hbm, ⟨7, _⟩ => ⟨S4x4096x4x4x256, .f32⟩
  | .hbm, ⟨8, _⟩ => ⟨S4x4096x4x256, .f32⟩
  | .hbm, ⟨9, _⟩ => ⟨S4x4096x4x256, .f32⟩
  | .hbm, ⟨10, _⟩ => ⟨S1x128, .f32⟩
  | .hbm, ⟨11, _⟩ => ⟨S128, .f32⟩
  | .hbm, ⟨12, _⟩ => ⟨S1x128, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4x4096x4x4x128, .f32⟩
  | .hbm, ⟨30, _⟩ => ⟨S4x4096x4x128, .f32⟩
  | .hbm, ⟨31, _⟩ => ⟨S4x4x4096x4096x4, .f32⟩
  | .hbm, ⟨32, _⟩ => ⟨S4x4x4x4096x4096, .f32⟩
  | .hbm, ⟨33, _⟩ => ⟨S4x4096x4x4x128, .f32⟩
  | .hbm, ⟨34, _⟩ => ⟨S4x4096x4x128, .f32⟩
  | .hbm, ⟨35, _⟩ => ⟨S4x4x4096x4096x4, .f32⟩
  | .hbm, ⟨36, _⟩ => ⟨S4x4x4x4096x4096, .f32⟩
  | .hbm, ⟨37, _⟩ => ⟨S_, .f32⟩
  | .hbm, ⟨38, _⟩ => ⟨S4x4x4x4096, .f32⟩
  | .hbm, ⟨39, _⟩ => ⟨S_, .f32⟩
  | .hbm, ⟨40, _⟩ => ⟨S4x4x4x4096, .f32⟩
  | .hbm, ⟨41, _⟩ => ⟨S4x4x4x4096, .f32⟩
  | .hbm, ⟨42, _⟩ => ⟨S4x4x4x4096x1, .f32⟩
  | .hbm, ⟨43, _⟩ => ⟨S4x4x4x4096x4096, .f32⟩
  | .hbm, ⟨44, _⟩ => ⟨S4x4x4x4096x4096, .f32⟩
  | .hbm, ⟨45, _⟩ => ⟨S4x4x4x4096x4096, .f32⟩
  | .hbm, ⟨46, _⟩ => ⟨S_, .f32⟩
  | .hbm, ⟨47, _⟩ => ⟨S4x4x4x4096, .f32⟩
  | .hbm, ⟨48, _⟩ => ⟨S4x4x4x4096x1, .f32⟩
  | .hbm, ⟨49, _⟩ => ⟨S4x4x4x4096x4096, .f32⟩
  | .hbm, ⟨50, _⟩ => ⟨S4x4x4x4096x4096, .f32⟩
  | .hbm, ⟨51, _⟩ => ⟨S_, .f32⟩
  | .hbm, ⟨52, _⟩ => ⟨S4x4x4x4096, .f32⟩
  | .hbm, ⟨53, _⟩ => ⟨S_, .f32⟩
  | .hbm, ⟨54, _⟩ => ⟨S4x4x4x4096, .f32⟩
  | .hbm, ⟨55, _⟩ => ⟨S4x4x4x4096, .f32⟩
  | .hbm, ⟨56, _⟩ => ⟨S4x4x4x4096x1, .f32⟩
  | .hbm, ⟨57, _⟩ => ⟨S4x4x4x4096x4096, .f32⟩
  | .hbm, ⟨58, _⟩ => ⟨S4x4x4x4096x4096, .f32⟩
  | .hbm, ⟨59, _⟩ => ⟨S4x4x4x4096x4096, .f32⟩
  | .hbm, ⟨60, _⟩ => ⟨S_, .f32⟩
  | .hbm, ⟨61, _⟩ => ⟨S4x4x4x4096, .f32⟩
  | .hbm, ⟨62, _⟩ => ⟨S4x4x4x4096x1, .f32⟩
  | .hbm, ⟨63, _⟩ => ⟨S4x4x4x4096x4096, .f32⟩
  | .hbm, ⟨64, _⟩ => ⟨S4x4x4x4096x4096, .f32⟩
  | .hbm, ⟨65, _⟩ => ⟨S4x4x4x4096x4096, .f32⟩
  | .hbm, ⟨66, _⟩ => ⟨S4x4x4x4096x4096, .f32⟩
  | .hbm, ⟨67, _⟩ => ⟨S4x4x4x4096x4096, .f32⟩
  | .hbm, ⟨68, _⟩ => ⟨S4x4x256x4x4096, .f32⟩
  | .hbm, ⟨69, _⟩ => ⟨S4x4096x4x4x256, .f32⟩
  | .hbm, ⟨70, _⟩ => ⟨S4x4096x4x4x256, .f32⟩
  | .hbm, ⟨71, _⟩ => ⟨S_, .f32⟩
  | .hbm, ⟨72, _⟩ => ⟨S4x4096x4x4, .f32⟩
  | .hbm, ⟨73, _⟩ => ⟨S4x4096x4x4x1, .f32⟩
  | .hbm, ⟨74, _⟩ => ⟨S_, .f32⟩
  | .hbm, ⟨75, _⟩ => ⟨S4x4096x4x4x1, .f32⟩
  | .hbm, ⟨76, _⟩ => ⟨S4x4096x4x4x1, .f32⟩
  | .hbm, ⟨77, _⟩ => ⟨S_, .f32⟩
  | .hbm, ⟨78, _⟩ => ⟨S4x4096x4x4x1, .f32⟩
  | .hbm, ⟨79, _⟩ => ⟨S4x4096x4x4x1, .f32⟩
  | .hbm, ⟨80, _⟩ => ⟨S4x4096x4x4x1, .f32⟩
  | .hbm, ⟨81, _⟩ => ⟨S4x4096x4x4x256, .f32⟩
  | .hbm, ⟨82, _⟩ => ⟨S4x4096x4x4x256, .f32⟩
  | .hbm, ⟨83, _⟩ => ⟨S1x1x1x1x256, .f32⟩
  | .hbm, ⟨84, _⟩ => ⟨S4x4096x4x4x256, .f32⟩
  | .hbm, ⟨85, _⟩ => ⟨S4x4096x4x4x256, .f32⟩
  | .hbm, ⟨86, _⟩ => ⟨S_, .f32⟩
  | .hbm, ⟨87, _⟩ => ⟨S4x4096x4x4x256, .f32⟩
  | .hbm, ⟨88, _⟩ => ⟨S4x4096x4x4x256, .f32⟩
  | .hbm, ⟨89, _⟩ => ⟨S4x4096x4096, .f32⟩
  | .hbm, ⟨90, _⟩ => ⟨S4x4096x4096, .bf16⟩
  | _, _ => ⟨S4x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_cst_6 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_8 : Ref sig .tc := ⟨.hbm, 71, rfl⟩
abbrev main_v59 : Ref sig .tc := ⟨.hbm, 72, rfl⟩
abbrev main_v60 : Ref sig .tc := ⟨.hbm, 73, rfl⟩
abbrev main_cst_9 : Ref sig .tc := ⟨.hbm, 74, rfl⟩
abbrev main_v61 : Ref sig .tc := ⟨.hbm, 75, rfl⟩
abbrev main_v62 : Ref sig .tc := ⟨.hbm, 76, rfl⟩
abbrev main_cst_10 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_11 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩

abbrev nD : Nat := 1
abbrev τ : Topo := Topo.v7x

variable {F : FTy → Type} [FloatOps F]
-- ==== Kernel2.lean ====
abbrev S4x4096x6144 : Shape := ⟨3, ![4, 4096, 6144]⟩
abbrev S4x4096x4096 : Shape := ⟨3, ![4, 4096, 4096]⟩
abbrev S1x256x512 : Shape := ⟨3, ![1, 256, 512]⟩
abbrev S1x4096x128 : Shape := ⟨3, ![1, 4096, 128]⟩
abbrev S4096x128 : Shape := ⟨2, ![4096, 128]⟩
abbrev S1x256x128 : Shape := ⟨3, ![1, 256, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S4x4096x6144, .bf16⟩
  | .hbm, ⟨1, _⟩ => ⟨S4x4096x4096, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x256x512, .bf16⟩
  | .local _ .vmem, ⟨7, _⟩ => ⟨S1x256x512, .bf16⟩
  | _, _ => ⟨S4x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S4x4096x6144 : Shape := ⟨3, ![4, 4096, 6144]⟩
abbrev S4x4096x4096 : Shape := ⟨3, ![4, 4096, 4096]⟩
abbrev S4x4096x1024 : Shape := ⟨3, ![4, 4096, 1024]⟩
abbrev S4x4096x8x4x128 : Shape := ⟨5, ![4, 4096, 8, 4, 128]⟩
abbrev S4x4096x8x128 : Shape := ⟨4, ![4, 4096, 8, 128]⟩
abbrev S4x8x4096x4096x4 : Shape := ⟨5, ![4, 8, 4096, 4096, 4]⟩
abbrev S4x8x4x4096x4096 : Shape := ⟨5, ![4, 8, 4, 4096, 4096]⟩
abbrev S_ : Shape := ⟨0, ![]⟩
abbrev S4x8x4x4096 : Shape := ⟨4, ![4, 8, 4, 4096]⟩
abbrev S4x8x4x4096x1 : Shape := ⟨5, ![4, 8, 4, 4096, 1]⟩
abbrev S4x8x128x4x4096 : Shape := ⟨5, ![4, 8, 128, 4, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x4096x6144, .bf16⟩
  | .hbm, ⟨1, _⟩ => ⟨S4x4096x6144, .f32⟩
  | .hbm, ⟨2, _⟩ => ⟨S4x4096x4096, .f32⟩
  | .hbm, ⟨3, _⟩ => ⟨S4x4096x1024, .f32⟩
  | .hbm, ⟨4, _⟩ => ⟨S4x4096x1024, .f32⟩
  | .hbm, ⟨5, _⟩ => ⟨S4x4096x8x4x128, .f32⟩
  | .hbm, ⟨6, _⟩ => ⟨S4x4096x8x128, .f32⟩
  | .hbm, ⟨7, _⟩ => ⟨S4x4096x8x128, .f32⟩
  | .hbm, ⟨8, _⟩ => ⟨S4x8x4096x4096x4, .f32⟩
  | .hbm, ⟨9, _⟩ => ⟨S4x8x4x4096x4096, .f32⟩
  | .hbm, ⟨10, _⟩ => ⟨S_, .f32⟩
  | .hbm, ⟨11, _⟩ => ⟨S4x8x4x4096, .f32⟩
  | .hbm, ⟨12, _⟩ => ⟨S_, .f32⟩
  | .hbm, ⟨13, _⟩ => ⟨S4x8x4x4096, .f32⟩
  | .hbm, ⟨14, _⟩ => ⟨S4x8x4x4096, .f32⟩
  | .hbm, ⟨15, _⟩ => ⟨S4x8x4x4096x1, .f32⟩
  | .hbm, ⟨16, _⟩ => ⟨S4x8x4x4096x4096, .f32⟩
  | .hbm, ⟨17, _⟩ => ⟨S4x8x4x4096x4096, .f32⟩
  | .hbm, ⟨18, _⟩ => ⟨S4x8x4x4096x4096, .f32⟩
  | .hbm, ⟨19, _⟩ => ⟨S_, .f32⟩
  | .hbm, ⟨20, _⟩ => ⟨S4x8x4x4096, .f32⟩
  | .hbm, ⟨21, _⟩ => ⟨S4x8x4x4096x1, .f32⟩
  | .hbm, ⟨22, _⟩ => ⟨S4x8x4x4096x4096, .f32⟩
  | .hbm, ⟨23, _⟩ => ⟨S4x8x4x4096x4096, .f32⟩
  | .hbm, ⟨24, _⟩ => ⟨S4x8x128x4x4096, .f32⟩
  | .hbm, ⟨25, _⟩ => ⟨S4x4096x8x4x128, .f32⟩
  | .hbm, ⟨26, _⟩ => ⟨S4x4096x4096, .f32⟩
  | .hbm, ⟨27, _⟩ => ⟨S4x4096x4096, .bf16⟩
  | _, _ => ⟨S4x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Kernel3.lean ====
abbrev S576 : Shape := ⟨1, ![576]⟩
abbrev S1 : Shape := ⟨1, ![1]⟩
abbrev S147456x2048 : Shape := ⟨2, ![147456, 2048]⟩
abbrev S4x64x192x4096 : Shape := ⟨4, ![4, 64, 192, 4096]⟩
abbrev S147456x4096 : Shape := ⟨2, ![147456, 4096]⟩
abbrev S256x2048 : Shape := ⟨2, ![256, 2048]⟩
abbrev S1x1x192x4096 : Shape := ⟨4, ![1, 1, 192, 4096]⟩
abbrev S256x4096 : Shape := ⟨2, ![256, 4096]⟩
abbrev S192x4096 : Shape := ⟨2, ![192, 4096]⟩
abbrev S192x2048 : Shape := ⟨2, ![192, 2048]⟩
abbrev S256x192 : Shape := ⟨2, ![256, 192]⟩

abbrev nBuf : Space → Nat
  | .hbm => 5
  | .vmem => 13
  | .smem => 2
  | _ => 0

abbrev bufTy : (tb : Table) → Fin (tcTables nBuf tb) → BufTy
  | .hbm, ⟨0, _⟩ => ⟨S147456x2048, .i32⟩
  | .hbm, ⟨1, _⟩ => ⟨S4x64x192x4096, .f32⟩
  | .hbm, ⟨2, _⟩ => ⟨S4x64x192x4096, .f32⟩
  | .hbm, ⟨3, _⟩ => ⟨S4x64x192x4096, .f32⟩
  | .hbm, ⟨4, _⟩ => ⟨S147456x4096, .bf16⟩
  | .local _ .vmem, ⟨0, _⟩ => ⟨S256x2048, .i32⟩
  | .local _ .vmem, ⟨1, _⟩ => ⟨S256x2048, .i32⟩
  | .local _ .vmem, ⟨2, _⟩ => ⟨S1x1x192x4096, .f32⟩
  | .local _ .vmem, ⟨3, _⟩ => ⟨S1x1x192x4096, .f32⟩
  | .local _ .vmem, ⟨4, _⟩ => ⟨S1x1x192x4096, .f32⟩
  | .local _ .vmem, ⟨5, _⟩ => ⟨S1x1x192x4096, .f32⟩
  | .local _ .vmem, ⟨6, _⟩ => ⟨S1x1x192x4096, .f32⟩
  | .local _ .vmem, ⟨7, _⟩ => ⟨S1x1x192x4096, .f32⟩
  | .local _ .vmem, ⟨8, _⟩ => ⟨S256x4096, .bf16⟩
  | .local _ .vmem, ⟨9, _⟩ => ⟨S256x4096, .bf16⟩
  | .local _ .vmem, ⟨10, _⟩ => ⟨S192x4096, .bf16⟩
  | .local _ .vmem, ⟨11, _⟩ => ⟨S192x4096, .bf16⟩
  | .local _ .vmem, ⟨12, _⟩ => ⟨S192x4096, .bf16⟩
  | .local _ .smem, ⟨0, _⟩ => ⟨S576, .i32⟩
  | .local _ .smem, ⟨1, _⟩ => ⟨S1, .i32⟩
  | _, _ => ⟨S147456x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![576], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S576.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S576) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x192x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x192x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x192x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S576 : Shape := ⟨1, ![576]⟩
abbrev S1 : Shape := ⟨1, ![1]⟩
abbrev S147456x2048 : Shape := ⟨2, ![147456, 2048]⟩
abbrev S4x64x192x4096 : Shape := ⟨4, ![4, 64, 192, 4096]⟩
abbrev S_ : Shape := ⟨0, ![]⟩
abbrev S147456x4096 : Shape := ⟨2, ![147456, 4096]⟩
abbrev S576x256x4096 : Shape := ⟨3, ![576, 256, 4096]⟩
abbrev S1x64x192x4096 : Shape := ⟨4, ![1, 64, 192, 4096]⟩
abbrev S64x192x4096 : Shape := ⟨3, ![64, 192, 4096]⟩
abbrev S576x256x64x192 : Shape := ⟨4, ![576, 256, 64, 192]⟩
abbrev S576x1 : Shape := ⟨2, ![576, 1]⟩
abbrev S64 : Shape := ⟨1, ![64]⟩
abbrev S1x64 : Shape := ⟨2, ![1, 64]⟩
abbrev S576x64 : Shape := ⟨2, ![576, 64]⟩
abbrev S576x1x64x1 : Shape := ⟨4, ![576, 1, 64, 1]⟩

abbrev nBuf : Space → Nat
  | .hbm => 54
  | .vmem => 0
  | .smem => 0
  | _ => 0

abbrev bufTy : (tb : Table) → Fin (tcTables nBuf tb) → BufTy
  | .hbm, ⟨0, _⟩ => ⟨S576, .i32⟩
  | .hbm, ⟨1, _⟩ => ⟨S1, .i32⟩
  | .hbm, ⟨2, _⟩ => ⟨S147456x2048, .i32⟩
  | .hbm, ⟨3, _⟩ => ⟨S4x64x192x4096, .f32⟩
  | .hbm, ⟨4, _⟩ => ⟨S4x64x192x4096, .f32⟩
  | .hbm, ⟨5, _⟩ => ⟨S4x64x192x4096, .f32⟩
  | .hbm, ⟨6, _⟩ => ⟨S_, .i32⟩
  | .hbm, ⟨7, _⟩ => ⟨S147456x2048, .i32⟩
  | .hbm, ⟨8, _⟩ => ⟨S147456x2048, .i32⟩
  | .hbm, ⟨9, _⟩ => ⟨S147456x2048, .f32⟩
  | .hbm, ⟨10, _⟩ => ⟨S_, .i32⟩
  | .hbm, ⟨11, _⟩ => ⟨S147456x2048, .i32⟩
  | .hbm, ⟨12, _⟩ => ⟨S147456x2048, .i32⟩
  | .hbm, ⟨13, _⟩ => ⟨S147456x2048, .f32⟩
  | .hbm, ⟨14, _⟩ => ⟨S147456x4096, .f32⟩
  | .hbm, ⟨15, _⟩ => ⟨S576x256x4096, .f32⟩
  | .hbm, ⟨16, _⟩ => ⟨S1x64x192x4096, .f32⟩
  | .hbm, ⟨17, _⟩ => ⟨S64x192x4096, .f32⟩
  | .hbm, ⟨18, _⟩ => ⟨S576x256x64x192, .f32⟩
  | .hbm, ⟨19, _⟩ => ⟨S1x64x192x4096, .f32⟩
  | .hbm, ⟨20, _⟩ => ⟨S64x192x4096, .f32⟩
  | .hbm, ⟨21, _⟩ => ⟨S576x256x64x192, .f32⟩
  | .hbm, ⟨22, _⟩ => ⟨S576x1, .i32⟩
  | .hbm, ⟨23, _⟩ => ⟨S64, .i32⟩
  | .hbm, ⟨24, _⟩ => ⟨S1x64, .i32⟩
  | .hbm, ⟨25, _⟩ => ⟨S576x64, .i32⟩
  | .hbm, ⟨26, _⟩ => ⟨S576x64, .i32⟩
  | .hbm, ⟨27, _⟩ => ⟨S576x64, .i1⟩
  | .hbm, ⟨28, _⟩ => ⟨S576, .i32⟩
  | .hbm, ⟨29, _⟩ => ⟨S_, .i32⟩
  | .hbm, ⟨30, _⟩ => ⟨S576, .i32⟩
  | .hbm, ⟨31, _⟩ => ⟨S576, .i1⟩
  | .hbm, ⟨32, _⟩ => ⟨S576x1, .i1⟩
  | .hbm, ⟨33, _⟩ => ⟨S576x64, .i1⟩
  | .hbm, ⟨34, _⟩ => ⟨S576x64, .i1⟩
  | .hbm, ⟨35, _⟩ => ⟨S576x256x64x192, .f32⟩
  | .hbm, ⟨36, _⟩ => ⟨S576x256x64x192, .f32⟩
  | .hbm, ⟨37, _⟩ => ⟨S_, .f32⟩
  | .hbm, ⟨38, _⟩ => ⟨S576x256x64x192, .f32⟩
  | .hbm, ⟨39, _⟩ => ⟨S576x256x64x192, .f32⟩
  | .hbm, ⟨40, _⟩ => ⟨S_, .f32⟩
  | .hbm, ⟨41, _⟩ => ⟨S576x256x64x192, .f32⟩
  | .hbm, ⟨42, _⟩ => ⟨S576x256x64x192, .f32⟩
  | .hbm, ⟨43, _⟩ => ⟨S576x256x64x192, .f32⟩
  | .hbm, ⟨44, _⟩ => ⟨S576x256x64x192, .f32⟩
  | .hbm, ⟨45, _⟩ => ⟨S576x64, .f32⟩
  | .hbm, ⟨46, _⟩ => ⟨S576x1x64x1, .f32⟩
  | .hbm, ⟨47, _⟩ => ⟨S576x256x64x192, .f32⟩
  | .hbm, ⟨48, _⟩ => ⟨S576x256x64x192, .f32⟩
  | .hbm, ⟨49, _⟩ => ⟨S1x64x192x4096, .f32⟩
  | .hbm, ⟨50, _⟩ => ⟨S64x192x4096, .f32⟩
  | .hbm, ⟨51, _⟩ => ⟨S576x256x4096, .f32⟩
  | .hbm, ⟨52, _⟩ => ⟨S147456x4096, .f32⟩
  | .hbm, ⟨53, _⟩ => ⟨S147456x4096, .bf16⟩
  | _, _ => ⟨S576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== Kernel4.lean ====
abbrev S16384x4096 : Shape := ⟨2, ![16384, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16384x4096 : Shape := ⟨2, ![16384, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x4096, .bf16⟩
  | .hbm, ⟨2, _⟩ => ⟨S16384x4096, .f32⟩
  | .hbm, ⟨3, _⟩ => ⟨S4096x4096, .f32⟩
  | .hbm, ⟨4, _⟩ => ⟨S16384x4096, .f32⟩
  | .hbm, ⟨5, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S16384x4096 : Shape := ⟨2, ![16384, 4096]⟩
abbrev S4096x6144 : Shape := ⟨2, ![4096, 6144]⟩
abbrev S4096x128 : Shape := ⟨2, ![4096, 128]⟩
abbrev S1x128 : Shape := ⟨2, ![1, 128]⟩
abbrev S16384x6144 : Shape := ⟨2, ![16384, 6144]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S4096x128, .f32⟩
  | .hbm, ⟨3, _⟩ => ⟨S4096x128, .f32⟩
  | .hbm, ⟨4, _⟩ => ⟨S1x128, .f32⟩
  | .hbm, ⟨5, _⟩ => ⟨S1x128, .f32⟩
  | .hbm, ⟨6, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x128, .f32⟩
  | .local _ .vmem, ⟨9, _⟩ => ⟨S1x128, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v6 : BitVec 1 := Scalar.cmpi .sge arg1 c0_i32
  let c8_i32 : BitVec 32 := 8#32
  let v7 : BitVec 1 := Scalar.cmpi .slt arg1 c8_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond2 (i : grid0.Coords) : BitVec 1 :=
  let arg1 : BitVec 32 := BitVec.ofNat 32 (i 1).val
  let c8_i32_6 : BitVec 32 := 8#32
  let v11 : BitVec 1 := Scalar.cmpi .sge arg1 c8_i32_6
  let c12_i32 : BitVec 32 := 12#32
  let v12 : BitVec 1 := Scalar.cmpi .slt arg1 c12_i32
  let v13 : BitVec 1 := Scalar.andi v11 v12
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S16384x4096 : Shape := ⟨2, ![16384, 4096]⟩
abbrev S4096x6144 : Shape := ⟨2, ![4096, 6144]⟩
abbrev S4096x128 : Shape := ⟨2, ![4096, 128]⟩
abbrev S1x128 : Shape := ⟨2, ![1, 128]⟩
abbrev S16384x6144 : Shape := ⟨2, ![16384, 6144]⟩
abbrev S16384x1024 : Shape := ⟨2, ![16384, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S4096x128, .f32⟩
  | .hbm, ⟨3, _⟩ => ⟨S4096x128, .f32⟩
  | .hbm, ⟨4, _⟩ => ⟨S1x128, .f32⟩
  | .hbm, ⟨5, _⟩ => ⟨S1x128, .f32⟩
  | .hbm, ⟨6, _⟩ => ⟨S16384x4096, .f32⟩
  | .hbm, ⟨7, _⟩ => ⟨S4096x6144, .f32⟩
  | .hbm, ⟨8, _⟩ => ⟨S16384x6144, .f32⟩
  | .hbm, ⟨9, _⟩ => ⟨S16384x4096, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x4096, .f32⟩
  | .hbm, ⟨14, _⟩ => ⟨S16384x4096, .f32⟩
  | .hbm, ⟨15, _⟩ => ⟨S16384x6144, .f32⟩
  | .hbm, ⟨16, _⟩ => ⟨S16384x6144, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== Kernel6.lean ====
abbrev S16384x4096 : Shape := ⟨2, ![16384, 4096]⟩
abbrev S4096x6144 : Shape := ⟨2, ![4096, 6144]⟩
abbrev S4096x64 : Shape := ⟨2, ![4096, 64]⟩
abbrev S1x128 : Shape := ⟨2, ![1, 128]⟩
abbrev S4096x128 : Shape := ⟨2, ![4096, 128]⟩
abbrev S16384x6144 : Shape := ⟨2, ![16384, 6144]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩

abbrev nBuf : Space → Nat
  | .hbm => 10
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S4096x64, .f32⟩
  | .hbm, ⟨3, _⟩ => ⟨S4096x64, .f32⟩
  | .hbm, ⟨4, _⟩ => ⟨S1x128, .f32⟩
  | .hbm, ⟨5, _⟩ => ⟨S1x128, .f32⟩
  | .hbm, ⟨6, _⟩ => ⟨S4096x128, .f32⟩
  | .hbm, ⟨7, _⟩ => ⟨S4096x64, .f32⟩
  | .hbm, ⟨8, _⟩ => ⟨S4096x128, .f32⟩
  | .hbm, ⟨9, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x128, .f32⟩
  | .local _ .vmem, ⟨9, _⟩ => ⟨S1x128, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v6 : BitVec 1 := Scalar.cmpi .sge arg1 c0_i32
  let c8_i32 : BitVec 32 := 8#32
  let v7 : BitVec 1 := Scalar.cmpi .slt arg1 c8_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond2 (i : grid0.Coords) : BitVec 1 :=
  let arg1 : BitVec 32 := BitVec.ofNat 32 (i 1).val
  let c8_i32_6 : BitVec 32 := 8#32
  let v11 : BitVec 1 := Scalar.cmpi .sge arg1 c8_i32_6
  let c10_i32 : BitVec 32 := 10#32
  let v12 : BitVec 1 := Scalar.cmpi .slt arg1 c10_i32
  let v13 : BitVec 1 := Scalar.andi v11 v12
  let v14 : BitVec 32 := Scalar.extui v13
  let c0_i32_7 : BitVec 32 := 0#32
  let v15 : BitVec 1 := Scalar.cmpi .ne v14 c0_i32_7
  v15

def k0_cond3 (i : grid0.Coords) : BitVec 1 :=
  let arg1 : BitVec 32 := BitVec.ofNat 32 (i 1).val
  let c10_i32_8 : BitVec 32 := 10#32
  let v16 : BitVec 1 := Scalar.cmpi .sge arg1 c10_i32_8
  let c12_i32 : BitVec 32 := 12#32
  let v17 : BitVec 1 := Scalar.cmpi .slt arg1 c12_i32
  let v18 : BitVec 1 := Scalar.andi v16 v17
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S16384x4096 : Shape := ⟨2, ![16384, 4096]⟩
abbrev S4096x6144 : Shape := ⟨2, ![4096, 6144]⟩
abbrev S4096x64 : Shape := ⟨2, ![4096, 64]⟩
abbrev S1x128 : Shape := ⟨2, ![1, 128]⟩
abbrev S16384x6144 : Shape := ⟨2, ![16384, 6144]⟩
abbrev S16384x1024 : Shape := ⟨2, ![16384, 1024]⟩
abbrev S1x4096x1x64 : Shape := ⟨4, ![1, 4096, 1, 64]⟩
abbrev S4x4096x32x128 : Shape := ⟨4, ![4, 4096, 32, 128]⟩
abbrev S4x4096x32x64 : Shape := ⟨4, ![4, 4096, 32, 64]⟩
abbrev S4x4096x8x128 : Shape := ⟨4, ![4, 4096, 8, 128]⟩
abbrev S4x4096x8x64 : Shape := ⟨4, ![4, 4096, 8, 64]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S4096x64, .f32⟩
  | .hbm, ⟨3, _⟩ => ⟨S4096x64, .f32⟩
  | .hbm, ⟨4, _⟩ => ⟨S1x128, .f32⟩
  | .hbm, ⟨5, _⟩ => ⟨S1x128, .f32⟩
  | .hbm, ⟨6, _⟩ => ⟨S16384x4096, .f32⟩
  | .hbm, ⟨7, _⟩ => ⟨S4096x6144, .f32⟩
  | .hbm, ⟨8, _⟩ => ⟨S16384x6144, .f32⟩
  | .hbm, ⟨9, _⟩ => ⟨S16384x4096, .f32⟩
  | .hbm, ⟨10, _⟩ => ⟨S16384x1024, .f32⟩
  | .hbm, ⟨11, _⟩ => ⟨S16384x1024, .f32⟩
  | .hbm, ⟨12, _⟩ => ⟨S1x4096x1x64, .f32⟩
  | .hbm, ⟨13, _⟩ => ⟨S1x4096x1x64, .f32⟩
  | .hbm, ⟨14, _⟩ => ⟨S4x4096x32x128, .f32⟩
  | .hbm, ⟨15, _⟩ => ⟨S4x4096x32x64, .f32⟩
  | .hbm, ⟨16, _⟩ => ⟨S4x4096x32x64, .f32⟩
  | .hbm, ⟨17, _⟩ => ⟨S4x4096x32x64, .f32⟩
  | .hbm, ⟨18, _⟩ => ⟨S4x4096x32x64, .f32⟩
  | .hbm, ⟨19, _⟩ => ⟨S4x4096x32x64, .f32⟩
  | .hbm, ⟨20, _⟩ => ⟨S4x4096x32x64, .f32⟩
  | .hbm, ⟨21, _⟩ => ⟨S4x4096x32x64, .f32⟩
  | .hbm, ⟨22, _⟩ => ⟨S4x4096x32x64, .f32⟩
  | .hbm, ⟨23, _⟩ => ⟨S4x4096x32x64, .f32⟩
  | .hbm, ⟨24, _⟩ => ⟨S4x4096x32x64, .f32⟩
  | .hbm, ⟨25, _⟩ => ⟨S4x4096x32x64, .f32⟩
  | .hbm, ⟨26, _⟩ => ⟨S4x4096x32x64, .f32⟩
  | .hbm, ⟨27, _⟩ => ⟨S4x4096x32x128, .f32⟩
  | .hbm, ⟨28, _⟩ => ⟨S16384x4096, .f32⟩
  | .hbm, ⟨29, _⟩ => ⟨S4x4096x8x128, .f32⟩
  | .hbm, ⟨30, _⟩ => ⟨S4x4096x8x64, .f32⟩
  | .hbm, ⟨31, _⟩ => ⟨S4x4096x8x64, .f32⟩
  | .hbm, ⟨32, _⟩ => ⟨S4x4096x8x64, .f32⟩
  | .hbm, ⟨33, _⟩ => ⟨S4x4096x8x64, .f32⟩
  | .hbm, ⟨34, _⟩ => ⟨S4x4096x8x64, .f32⟩
  | .hbm, ⟨35, _⟩ => ⟨S4x4096x8x64, .f32⟩
  | .hbm, ⟨36, _⟩ => ⟨S4x4096x8x64, .f32⟩
  | .hbm, ⟨37, _⟩ => ⟨S4x4096x8x64, .f32⟩
  | .hbm, ⟨38, _⟩ => ⟨S4x4096x8x64, .f32⟩
  | .hbm, ⟨39, _⟩ => ⟨S4x4096x8x64, .f32⟩
  | .hbm, ⟨40, _⟩ => ⟨S4x4096x8x64, .f32⟩
  | .hbm, ⟨41, _⟩ => ⟨S4x4096x8x64, .f32⟩
  | .hbm, ⟨42, _⟩ => ⟨S4x4096x8x128, .f32⟩
  | .hbm, ⟨43, _⟩ => ⟨S16384x1024, .f32⟩
  | .hbm, ⟨44, _⟩ => ⟨S_, .f32⟩
  | .hbm, ⟨45, _⟩ => ⟨S16384x4096, .f32⟩
  | .hbm, ⟨46, _⟩ => ⟨S16384x4096, .f32⟩
  | .hbm, ⟨47, _⟩ => ⟨S16384x6144, .f32⟩
  | .hbm, ⟨48, _⟩ => ⟨S16384x6144, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Kernel7.lean ====
abbrev S16384x4096 : Shape := ⟨2, ![16384, 4096]⟩
abbrev S4096x9216 : Shape := ⟨2, ![4096, 9216]⟩
abbrev S4096x64 : Shape := ⟨2, ![4096, 64]⟩
abbrev S1x128 : Shape := ⟨2, ![1, 128]⟩
abbrev S4096x128 : Shape := ⟨2, ![4096, 128]⟩
abbrev S16384x9216 : Shape := ⟨2, ![16384, 9216]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩

abbrev nBuf : Space → Nat
  | .hbm => 10
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x9216, .bf16⟩
  | .hbm, ⟨2, _⟩ => ⟨S4096x64, .f32⟩
  | .hbm, ⟨3, _⟩ => ⟨S4096x64, .f32⟩
  | .hbm, ⟨4, _⟩ => ⟨S1x128, .f32⟩
  | .hbm, ⟨5, _⟩ => ⟨S1x128, .f32⟩
  | .hbm, ⟨6, _⟩ => ⟨S4096x128, .f32⟩
  | .hbm, ⟨7, _⟩ => ⟨S4096x64, .f32⟩
  | .hbm, ⟨8, _⟩ => ⟨S4096x128, .f32⟩
  | .hbm, ⟨9, _⟩ => ⟨S16384x9216, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x128, .f32⟩
  | .local _ .vmem, ⟨9, _⟩ => ⟨S1x128, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 18], ![false, false]⟩

def k0_cond1 (i : grid0.Coords) : BitVec 1 :=
  let arg1 : BitVec 32 := BitVec.ofNat 32 (i 1).val
  let c0_i32 : BitVec 32 := 0#32
  let v6 : BitVec 1 := Scalar.cmpi .sge arg1 c0_i32
  let c12_i32 : BitVec 32 := 12#32
  let v7 : BitVec 1 := Scalar.cmpi .slt arg1 c12_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond2 (i : grid0.Coords) : BitVec 1 :=
  let arg1 : BitVec 32 := BitVec.ofNat 32 (i 1).val
  let c12_i32_6 : BitVec 32 := 12#32
  let v11 : BitVec 1 := Scalar.cmpi .sge arg1 c12_i32_6
  let c15_i32 : BitVec 32 := 15#32
  let v12 : BitVec 1 := Scalar.cmpi .slt arg1 c15_i32
  let v13 : BitVec 1 := Scalar.andi v11 v12
  let v14 : BitVec 32 := Scalar.extui v13
  let c0_i32_7 : BitVec 32 := 0#32
  let v15 : BitVec 1 := Scalar.cmpi .ne v14 c0_i32_7
  v15

def k0_cond3 (i : grid0.Coords) : BitVec 1 :=
  let arg1 : BitVec 32 := BitVec.ofNat 32 (i 1).val
  let c15_i32_8 : BitVec 32 := 15#32
  let v16 : BitVec 1 := Scalar.cmpi .sge arg1 c15_i32_8
  let c18_i32 : BitVec 32 := 18#32
  let v17 : BitVec 1 := Scalar.cmpi .slt arg1 c18_i32
  let v18 : BitVec 1 := Scalar.andi v16 v17
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S16384x4096 : Shape := ⟨2, ![16384, 4096]⟩
abbrev S4096x9216 : Shape := ⟨2, ![4096, 9216]⟩
abbrev S4096x64 : Shape := ⟨2, ![4096, 64]⟩
abbrev S1x128 : Shape := ⟨2, ![1, 128]⟩
abbrev S16384x9216 : Shape := ⟨2, ![16384, 9216]⟩
abbrev S16384x6144 : Shape := ⟨2, ![16384, 6144]⟩
abbrev S16384x1536 : Shape := ⟨2, ![16384, 1536]⟩
abbrev S1x4096x1x64 : Shape := ⟨4, ![1, 4096, 1, 64]⟩
abbrev S4x4096x48x128 : Shape := ⟨4, ![4, 4096, 48, 128]⟩
abbrev S4x4096x48x64 : Shape := ⟨4, ![4, 4096, 48, 64]⟩
abbrev S4x4096x12x128 : Shape := ⟨4, ![4, 4096, 12, 128]⟩
abbrev S4x4096x12x64 : Shape := ⟨4, ![4, 4096, 12, 64]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x9216, .bf16⟩
  | .hbm, ⟨2, _⟩ => ⟨S4096x64, .f32⟩
  | .hbm, ⟨3, _⟩ => ⟨S4096x64, .f32⟩
  | .hbm, ⟨4, _⟩ => ⟨S1x128, .f32⟩
  | .hbm, ⟨5, _⟩ => ⟨S1x128, .f32⟩
  | .hbm, ⟨6, _⟩ => ⟨S16384x4096, .f32⟩
  | .hbm, ⟨7, _⟩ => ⟨S4096x9216, .f32⟩
  | .hbm, ⟨8, _⟩ => ⟨S16384x9216, .f32⟩
  | .hbm, ⟨9, _⟩ => ⟨S16384x6144, .f32⟩
  | .hbm, ⟨10, _⟩ => ⟨S16384x1536, .f32⟩
  | .hbm, ⟨11, _⟩ => ⟨S16384x1536, .f32⟩
  | .hbm, ⟨12, _⟩ => ⟨S1x4096x1x64, .f32⟩
  | .hbm, ⟨13, _⟩ => ⟨S1x4096x1x64, .f32⟩
  | .hbm, ⟨14, _⟩ => ⟨S4x4096x48x128, .f32⟩
  | .hbm, ⟨15, _⟩ => ⟨S4x4096x48x64, .f32⟩
  | .hbm, ⟨16, _⟩ => ⟨S4x4096x48x64, .f32⟩
  | .hbm, ⟨17, _⟩ => ⟨S4x4096x48x64, .f32⟩
  | .hbm, ⟨18, _⟩ => ⟨S4x4096x48x64, .f32⟩
  | .hbm, ⟨19, _⟩ => ⟨S4x4096x48x64, .f32⟩
  | .hbm, ⟨20, _⟩ => ⟨S4x4096x48x64, .f32⟩
  | .hbm, ⟨21, _⟩ => ⟨S4x4096x48x64, .f32⟩
  | .hbm, ⟨22, _⟩ => ⟨S4x4096x48x64, .f32⟩
  | .hbm, ⟨23, _⟩ => ⟨S4x4096x48x64, .f32⟩
  | .hbm, ⟨24, _⟩ => ⟨S4x4096x48x64, .f32⟩
  | .hbm, ⟨25, _⟩ => ⟨S4x4096x48x64, .f32⟩
  | .hbm, ⟨26, _⟩ => ⟨S4x4096x48x64, .f32⟩
  | .hbm, ⟨27, _⟩ => ⟨S4x4096x48x128, .f32⟩
  | .hbm, ⟨28, _⟩ => ⟨S16384x6144, .f32⟩
  | .hbm, ⟨29, _⟩ => ⟨S4x4096x12x128, .f32⟩
  | .hbm, ⟨30, _⟩ => ⟨S4x4096x12x64, .f32⟩
  | .hbm, ⟨31, _⟩ => ⟨S4x4096x12x64, .f32⟩
  | .hbm, ⟨32, _⟩ => ⟨S4x4096x12x64, .f32⟩
  | .hbm, ⟨33, _⟩ => ⟨S4x4096x12x64, .f32⟩
  | .hbm, ⟨34, _⟩ => ⟨S4x4096x12x64, .f32⟩
  | .hbm, ⟨35, _⟩ => ⟨S4x4096x12x64, .f32⟩
  | .hbm, ⟨36, _⟩ => ⟨S4x4096x12x64, .f32⟩
  | .hbm, ⟨37, _⟩ => ⟨S4x4096x12x64, .f32⟩
  | .hbm, ⟨38, _⟩ => ⟨S4x4096x12x64, .f32⟩
  | .hbm, ⟨39, _⟩ => ⟨S4x4096x12x64, .f32⟩
  | .hbm, ⟨40, _⟩ => ⟨S4x4096x12x64, .f32⟩
  | .hbm, ⟨41, _⟩ => ⟨S4x4096x12x64, .f32⟩
  | .hbm, ⟨42, _⟩ => ⟨S4x4096x12x128, .f32⟩
  | .hbm, ⟨43, _⟩ => ⟨S16384x1536, .f32⟩
  | .hbm, ⟨44, _⟩ => ⟨S_, .f32⟩
  | .hbm, ⟨45, _⟩ => ⟨S16384x6144, .f32⟩
  | .hbm, ⟨46, _⟩ => ⟨S16384x6144, .f32⟩
  | .hbm, ⟨47, _⟩ => ⟨S16384x9216, .f32⟩
  | .hbm, ⟨48, _⟩ => ⟨S16384x9216, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== Kernel8.lean ====
abbrev S16384x2048 : Shape := ⟨2, ![16384, 2048]⟩
abbrev S2048x4096 : Shape := ⟨2, ![2048, 4096]⟩
abbrev S16384x4096 : Shape := ⟨2, ![16384, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16384x2048 : Shape := ⟨2, ![16384, 2048]⟩
abbrev S2048x4096 : Shape := ⟨2, ![2048, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x4096, .bf16⟩
  | .hbm, ⟨2, _⟩ => ⟨S16384x2048, .f32⟩
  | .hbm, ⟨3, _⟩ => ⟨S2048x4096, .f32⟩
  | .hbm, ⟨4, _⟩ => ⟨S16384x4096, .f32⟩
  | .hbm, ⟨5, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S16384x4096 : Shape := ⟨2, ![16384, 4096]⟩
abbrev S4096x6144 : Shape := ⟨2, ![4096, 6144]⟩
abbrev S4096x32 : Shape := ⟨2, ![4096, 32]⟩
abbrev S128 : Shape := ⟨1, ![128]⟩
abbrev S4096x128 : Shape := ⟨2, ![4096, 128]⟩
abbrev S1x128 : Shape := ⟨2, ![1, 128]⟩
abbrev S16384x6144 : Shape := ⟨2, ![16384, 6144]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S4096x32, .f32⟩
  | .hbm, ⟨3, _⟩ => ⟨S4096x32, .f32⟩
  | .hbm, ⟨4, _⟩ => ⟨S4096x32, .f32⟩
  | .hbm, ⟨5, _⟩ => ⟨S4096x32, .f32⟩
  | .hbm, ⟨6, _⟩ => ⟨S128, .f32⟩
  | .hbm, ⟨7, _⟩ => ⟨S128, .f32⟩
  | .hbm, ⟨8, _⟩ => ⟨S4096x128, .f32⟩
  | .hbm, ⟨9, _⟩ => ⟨S4096x32, .f32⟩
  | .hbm, ⟨10, _⟩ => ⟨S4096x32, .f32⟩
  | .hbm, ⟨11, _⟩ => ⟨S4096x128, .f32⟩
  | .hbm, ⟨12, _⟩ => ⟨S1x128, .f32⟩
  | .hbm, ⟨13, _⟩ => ⟨S1x128, .f32⟩
  | .hbm, ⟨14, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1x128, .f32⟩
  | .local _ .vmem, ⟨9, _⟩ => ⟨S1x128, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c0_i32 : BitVec 32 := 0#32
  let v6 : BitVec 1 := Scalar.cmpi .sge arg1 c0_i32
  let c8_i32 : BitVec 32 := 8#32
  let v7 : BitVec 1 := Scalar.cmpi .slt arg1 c8_i32
  let v8 : BitVec 1 := Scalar.andi v6 v7
  let v9 : BitVec 32 := Scalar.extui v8
  let c0_i32_5 : BitVec 32 := 0#32
  let v10 : BitVec 1 := Scalar.cmpi .ne v9 c0_i32_5
  v10

def k0_cond2 (i : grid0.Coords) : BitVec 1 :=
  let arg1 : BitVec 32 := BitVec.ofNat 32 (i 1).val
  let c8_i32_6 : BitVec 32 := 8#32
  let v11 : BitVec 1 := Scalar.cmpi .sge arg1 c8_i32_6
  let c10_i32 : BitVec 32 := 10#32
  let v12 : BitVec 1 := Scalar.cmpi .slt arg1 c10_i32
  let v13 : BitVec 1 := Scalar.andi v11 v12
  let v14 : BitVec 32 := Scalar.extui v13
  let c0_i32_7 : BitVec 32 := 0#32
  let v15 : BitVec 1 := Scalar.cmpi .ne v14 c0_i32_7
  v15

def k0_cond3 (i : grid0.Coords) : BitVec 1 :=
  let arg1 : BitVec 32 := BitVec.ofNat 32 (i 1).val
  let c10_i32_8 : BitVec 32 := 10#32
  let v16 : BitVec 1 := Scalar.cmpi .sge arg1 c10_i32_8
  let c12_i32 : BitVec 32 := 12#32
  let v17 : BitVec 1 := Scalar.cmpi .slt arg1 c12_i32
  let v18 : BitVec 1 := Scalar.andi v16 v17
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S16384x4096 : Shape := ⟨2, ![16384, 4096]⟩
abbrev S4096x6144 : Shape := ⟨2, ![4096, 6144]⟩
abbrev S4096x32 : Shape := ⟨2, ![4096, 32]⟩
abbrev S128 : Shape := ⟨1, ![128]⟩
abbrev S16384x6144 : Shape := ⟨2, ![16384, 6144]⟩
abbrev S16384x1024 : Shape := ⟨2, ![16384, 1024]⟩
abbrev S1x4096x1x32 : Shape := ⟨4, ![1, 4096, 1, 32]⟩
abbrev S4x4096x32x128 : Shape := ⟨4, ![4, 4096, 32, 128]⟩
abbrev S_ : Shape := ⟨0, ![]⟩
abbrev S4x4096x32 : Shape := ⟨3, ![4, 4096, 32]⟩
abbrev S4x4096x32x1 : Shape := ⟨4, ![4, 4096, 32, 1]⟩
abbrev S1x1x1x128 : Shape := ⟨4, ![1, 1, 1, 128]⟩
abbrev S4x4096x32x64 : Shape := ⟨4, ![4, 4096, 32, 64]⟩
abbrev S4x4096x32x32 : Shape := ⟨4, ![4, 4096, 32, 32]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S4x4096x8x64 : Shape := ⟨4, ![4, 4096, 8, 64]⟩
abbrev S4x4096x8x32 : Shape := ⟨4, ![4, 4096, 8, 32]⟩

abbrev nBuf : Space → Nat
  | .hbm => 117
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x6144, .bf16⟩
  | .hbm, ⟨2, _⟩ => ⟨S4096x32, .f32⟩
  | .hbm, ⟨3, _⟩ => ⟨S4096x32, .f32⟩
  | .hbm, ⟨4, _⟩ => ⟨S4096x32, .f32⟩
  | .hbm, ⟨5, _⟩ => ⟨S4096x32, .f32⟩
  | .hbm, ⟨6, _⟩ => ⟨S128, .f32⟩
  | .hbm, ⟨7, _⟩ => ⟨S128, .f32⟩
  | .hbm, ⟨8, _⟩ => ⟨S16384x4096, .f32⟩
  | .hbm, ⟨9, _⟩ => ⟨S4096x6144, .f32⟩
  | .hbm, ⟨10, _⟩ => ⟨S16384x6144, .f32⟩
  | .hbm, ⟨11, _⟩ => ⟨S16384x4096, .f32⟩
  | .hbm, ⟨12, _⟩ => ⟨S16384x1024, .f32⟩
  | .hbm, ⟨13, _⟩ => ⟨S16384x1024, .f32⟩
  | .hbm, ⟨14, _⟩ => ⟨S1x4096x1x32, .f32⟩
  | .hbm, ⟨15, _⟩ => ⟨S1x4096x1x32, .f32⟩
  | .hbm, ⟨16, _⟩ => ⟨S1x4096x1x32, .f32⟩
  | .hbm, ⟨17, _⟩ => ⟨S1x4096x1x32, .f32⟩
  | .hbm, ⟨18, _⟩ => ⟨S4x4096x32x128, .f32⟩
  | .hbm, ⟨19, _⟩ => ⟨S4x4096x32x128, .f32⟩
  | .hbm, ⟨20, _⟩ => ⟨S_, .f32⟩
  | .hbm, ⟨21, _⟩ => ⟨S4x4096x32, .f32⟩
  | .hbm, ⟨22, _⟩ => ⟨S4x4096x32x1, .f32⟩
  | .hbm, ⟨23, _⟩ => ⟨S_, .f32⟩
  | .hbm, ⟨24, _⟩ => ⟨S4x4096x32x1, .f32⟩
  | .hbm, ⟨25, _⟩ => ⟨S4x4096x32x1, .f32⟩
  | .hbm, ⟨26, _⟩ => ⟨S_, .f32⟩
  | .hbm, ⟨27, _⟩ => ⟨S4x4096x32x1, .f32⟩
  | .hbm, ⟨28, _⟩ => ⟨S4x4096x32x1, .f32⟩
  | .hbm, ⟨29, _⟩ => ⟨S4x4096x32x1, .f32⟩
  | .hbm, ⟨30, _⟩ => ⟨S4x4096x32x128, .f32⟩
  | .hbm, ⟨31, _⟩ => ⟨S4x4096x32x128, .f32⟩
  | .hbm, ⟨32, _⟩ => ⟨S1x1x1x128, .f32⟩
  | .hbm, ⟨33, _⟩ => ⟨S4x4096x32x128, .f32⟩
  | .hbm, ⟨34, _⟩ => ⟨S4x4096x32x128, .f32⟩
  | .hbm, ⟨35, _⟩ => ⟨S4x4096x32x64, .f32⟩
  | .hbm, ⟨36, _⟩ => ⟨S4x4096x32x32, .f32⟩
  | .hbm, ⟨37, _⟩ => ⟨S4x4096x32x32, .f32⟩
  | .hbm, ⟨38, _⟩ => ⟨S4x4096x32x32, .f32⟩
  | .hbm, ⟨39, _⟩ => ⟨S4x4096x32x32, .f32⟩
  | .hbm, ⟨40, _⟩ => ⟨S4x4096x32x32, .f32⟩
  | .hbm, ⟨41, _⟩ => ⟨S4x4096x32x32, .f32⟩
  | .hbm, ⟨42, _⟩ => ⟨S4x4096x32x32, .f32⟩
  | .hbm, ⟨43, _⟩ => ⟨S4x4096x32x32, .f32⟩
  | .hbm, ⟨44, _⟩ => ⟨S4x4096x32x32, .f32⟩
  | .hbm, ⟨45, _⟩ => ⟨S4x4096x32x32, .f32⟩
  | .hbm, ⟨46, _⟩ => ⟨S4x4096x32x32, .f32⟩
  | .hbm, ⟨47, _⟩ => ⟨S4x4096x32x32, .f32⟩
  | .hbm, ⟨48, _⟩ => ⟨S4x4096x32x64, .f32⟩
  | .hbm, ⟨49, _⟩ => ⟨S4x4096x32x64, .f32⟩
  | .hbm, ⟨50, _⟩ => ⟨S4x4096x32x32, .f32⟩
  | .hbm, ⟨51, _⟩ => ⟨S4x4096x32x32, .f32⟩
  | .hbm, ⟨52, _⟩ => ⟨S4x4096x32x32, .f32⟩
  | .hbm, ⟨53, _⟩ => ⟨S4x4096x32x32, .f32⟩
  | .hbm, ⟨54, _⟩ => ⟨S4x4096x32x32, .f32⟩
  | .hbm, ⟨55, _⟩ => ⟨S4x4096x32x32, .f32⟩
  | .hbm, ⟨56, _⟩ => ⟨S4x4096x32x32, .f32⟩
  | .hbm, ⟨57, _⟩ => ⟨S4x4096x32x32, .f32⟩
  | .hbm, ⟨58, _⟩ => ⟨S4x4096x32x32, .f32⟩
  | .hbm, ⟨59, _⟩ => ⟨S4x4096x32x32, .f32⟩
  | .hbm, ⟨60, _⟩ => ⟨S4x4096x32x32, .f32⟩
  | .hbm, ⟨61, _⟩ => ⟨S4x4096x32x32, .f32⟩
  | .hbm, ⟨62, _⟩ => ⟨S4x4096x32x64, .f32⟩
  | .hbm, ⟨63, _⟩ => ⟨S4x4096x32x128, .f32⟩
  | .hbm, ⟨64, _⟩ => ⟨S16384x4096, .f32⟩
  | .hbm, ⟨65, _⟩ => ⟨S4x4096x8x128, .f32⟩
  | .hbm, ⟨66, _⟩ => ⟨S4x4096x8x128, .f32⟩
  | .hbm, ⟨67, _⟩ => ⟨S_, .f32⟩
  | .hbm, ⟨68, _⟩ => ⟨S4x4096x8, .f32⟩
  | .hbm, ⟨69, _⟩ => ⟨S4x4096x8x1, .f32⟩
  | .hbm, ⟨70, _⟩ => ⟨S_, .f32⟩
  | .hbm, ⟨71, _⟩ => ⟨S4x4096x8x1, .f32⟩
  | .hbm, ⟨72, _⟩ => ⟨S4x4096x8x1, .f32⟩
  | .hbm, ⟨73, _⟩ => ⟨S_, .f32⟩
  | .hbm, ⟨74, _⟩ => ⟨S4x4096x8x1, .f32⟩
  | .hbm, ⟨75, _⟩ => ⟨S4x4096x8x1, .f32⟩
  | .hbm, ⟨76, _⟩ => ⟨S4x4096x8x1, .f32⟩
  | .hbm, ⟨77, _⟩ => ⟨S4x4096x8x128, .f32⟩
  | .hbm, ⟨78, _⟩ => ⟨S4x4096x8x128, .f32⟩
  | .hbm, ⟨79, _⟩ => ⟨S1x1x1x128, .f32⟩
  | .hbm, ⟨80, _⟩ => ⟨S4x4096x8x128, .f32⟩
  | .hbm, ⟨81, _⟩ => ⟨S4x4096x8x128, .f32⟩
  | .hbm, ⟨82, _⟩ => ⟨S4x4096x8x64, .f32⟩
  | .hbm, ⟨83, _⟩ => ⟨S4x4096x8x32, .f32⟩
  | .hbm, ⟨84, _⟩ => ⟨S4x4096x8x32, .f32⟩
  | .hbm, ⟨85, _⟩ => ⟨S4x4096x8x32, .f32⟩
  | .hbm, ⟨86, _⟩ => ⟨S4x4096x8x32, .f32⟩
  | .hbm, ⟨87, _⟩ => ⟨S4x4096x8x32, .f32⟩
  | .hbm, ⟨88, _⟩ => ⟨S4x4096x8x32, .f32⟩
  | .hbm, ⟨89, _⟩ => ⟨S4x4096x8x32, .f32⟩
  | .hbm, ⟨90, _⟩ => ⟨S4x4096x8x32, .f32⟩
  | .hbm, ⟨91, _⟩ => ⟨S4x4096x8x32, .f32⟩
  | .hbm, ⟨92, _⟩ => ⟨S4x4096x8x32, .f32⟩
  | .hbm, ⟨93, _⟩ => ⟨S4x4096x8x32, .f32⟩
  | .hbm, ⟨94, _⟩ => ⟨S4x4096x8x32, .f32⟩
  | .hbm, ⟨95, _⟩ => ⟨S4x4096x8x64, .f32⟩
  | .hbm, ⟨96, _⟩ => ⟨S4x4096x8x64, .f32⟩
  | .hbm, ⟨97, _⟩ => ⟨S4x4096x8x32, .f32⟩
  | .hbm, ⟨98, _⟩ => ⟨S4x4096x8x32, .f32⟩
  | .hbm, ⟨99, _⟩ => ⟨S4x4096x8x32, .f32⟩
  | .hbm, ⟨100, _⟩ => ⟨S4x4096x8x32, .f32⟩
  | .hbm, ⟨101, _⟩ => ⟨S4x4096x8x32, .f32⟩
  | .hbm, ⟨102, _⟩ => ⟨S4x4096x8x32, .f32⟩
  | .hbm, ⟨103, _⟩ => ⟨S4x4096x8x32, .f32⟩
  | .hbm, ⟨104, _⟩ => ⟨S4x4096x8x32, .f32⟩
  | .hbm, ⟨105, _⟩ => ⟨S4x4096x8x32, .f32⟩
  | .hbm, ⟨106, _⟩ => ⟨S4x4096x8x32, .f32⟩
  | .hbm, ⟨107, _⟩ => ⟨S4x4096x8x32, .f32⟩
  | .hbm, ⟨108, _⟩ => ⟨S4x4096x8x32, .f32⟩
  | .hbm, ⟨109, _⟩ => ⟨S4x4096x8x64, .f32⟩
  | .hbm, ⟨110, _⟩ => ⟨S4x4096x8x128, .f32⟩
  | .hbm, ⟨111, _⟩ => ⟨S16384x1024, .f32⟩
  | .hbm, ⟨112, _⟩ => ⟨S_, .f32⟩
  | .hbm, ⟨113, _⟩ => ⟨S16384x4096, .f32⟩
  | .hbm, ⟨114, _⟩ => ⟨S16384x4096, .f32⟩
  | .hbm, ⟨115, _⟩ => ⟨S16384x6144, .f32⟩
  | .hbm, ⟨116, _⟩ => ⟨S16384x6144, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_2 : Ref sig .tc := ⟨.hbm, 67, rfl⟩
abbrev main_v56 : Ref sig .tc := ⟨.hbm, 68, rfl⟩
abbrev main_v57 : Ref sig .tc := ⟨.hbm, 69, rfl⟩
abbrev main_cst_3 : Ref sig .tc := ⟨.hbm, 70, rfl⟩
abbrev main_v58 : Ref sig .tc := ⟨.hbm, 71, rfl⟩
abbrev main_v59 : Ref sig .tc := ⟨.hbm, 72, rfl⟩
abbrev main_cst_4 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_cst_5 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩

abbrev nD : Nat := 1
abbrev τ : Topo := Topo.v7x

variable {F : FTy → Type} [FloatOps F]
-- ==== Kernel10.lean ====
abbrev S16384x2048 : Shape := ⟨2, ![16384, 2048]⟩
abbrev S4x192x4096 : Shape := ⟨3, ![4, 192, 4096]⟩
abbrev S16384x4096 : Shape := ⟨2, ![16384, 4096]⟩
abbrev S512x2048 : Shape := ⟨2, ![512, 2048]⟩
abbrev S1x192x4096 : Shape := ⟨3, ![1, 192, 4096]⟩
abbrev S512x4096 : Shape := ⟨2, ![512, 4096]⟩
abbrev S192x4096 : Shape := ⟨2, ![192, 4096]⟩
abbrev S192x2048 : Shape := ⟨2, ![192, 2048]⟩
abbrev S512x192 : Shape := ⟨2, ![512, 192]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .i32⟩
  | .hbm, ⟨1, _⟩ => ⟨S4x192x4096, .f32⟩
  | .hbm, ⟨2, _⟩ => ⟨S4x192x4096, .f32⟩
  | .hbm, ⟨3, _⟩ => ⟨S4x192x4096, .f32⟩
  | .hbm, ⟨4, _⟩ => ⟨S16384x4096, .bf16⟩
  | .local _ .vmem, ⟨0, _⟩ => ⟨S512x2048, .i32⟩
  | .local _ .vmem, ⟨1, _⟩ => ⟨S512x2048, .i32⟩
  | .local _ .vmem, ⟨2, _⟩ => ⟨S1x192x4096, .f32⟩
  | .local _ .vmem, ⟨3, _⟩ => ⟨S1x192x4096, .f32⟩
  | .local _ .vmem, ⟨4, _⟩ => ⟨S1x192x4096, .f32⟩
  | .local _ .vmem, ⟨5, _⟩ => ⟨S512x4096, .bf16⟩
  | .local _ .vmem, ⟨6, _⟩ => ⟨S512x4096, .bf16⟩
  | .local _ .vmem, ⟨7, _⟩ => ⟨S192x4096, .bf16⟩
  | .local _ .vmem, ⟨8, _⟩ => ⟨S192x4096, .bf16⟩
  | .local _ .vmem, ⟨9, _⟩ => ⟨S192x4096, .bf16⟩
  | _, _ => ⟨S16384x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x192x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x192x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S16384x2048 : Shape := ⟨2, ![16384, 2048]⟩
abbrev S4x192x4096 : Shape := ⟨3, ![4, 192, 4096]⟩
abbrev S_ : Shape := ⟨0, ![]⟩
abbrev S16384x4096 : Shape := ⟨2, ![16384, 4096]⟩
abbrev S1x192x4096 : Shape := ⟨3, ![1, 192, 4096]⟩
abbrev S192x4096 : Shape := ⟨2, ![192, 4096]⟩
abbrev S4096x192 : Shape := ⟨2, ![4096, 192]⟩
abbrev S16384x192 : Shape := ⟨2, ![16384, 192]⟩

abbrev nBuf : Space → Nat
  | .hbm => 35
  | .vmem => 0
  | .smem => 0
  | _ => 0

abbrev bufTy : (tb : Table) → Fin (tcTables nBuf tb) → BufTy
  | .hbm, ⟨0, _⟩ => ⟨S16384x2048, .i32⟩
  | .hbm, ⟨1, _⟩ => ⟨S4x192x4096, .f32⟩
  | .hbm, ⟨2, _⟩ => ⟨S4x192x4096, .f32⟩
  | .hbm, ⟨3, _⟩ => ⟨S4x192x4096, .f32⟩
  | .hbm, ⟨4, _⟩ => ⟨S_, .i32⟩
  | .hbm, ⟨5, _⟩ => ⟨S16384x2048, .i32⟩
  | .hbm, ⟨6, _⟩ => ⟨S16384x2048, .i32⟩
  | .hbm, ⟨7, _⟩ => ⟨S16384x2048, .f32⟩
  | .hbm, ⟨8, _⟩ => ⟨S_, .i32⟩
  | .hbm, ⟨9, _⟩ => ⟨S16384x2048, .i32⟩
  | .hbm, ⟨10, _⟩ => ⟨S16384x2048, .i32⟩
  | .hbm, ⟨11, _⟩ => ⟨S16384x2048, .f32⟩
  | .hbm, ⟨12, _⟩ => ⟨S16384x4096, .f32⟩
  | .hbm, ⟨13, _⟩ => ⟨S1x192x4096, .f32⟩
  | .hbm, ⟨14, _⟩ => ⟨S192x4096, .f32⟩
  | .hbm, ⟨15, _⟩ => ⟨S4096x192, .f32⟩
  | .hbm, ⟨16, _⟩ => ⟨S16384x192, .f32⟩
  | .hbm, ⟨17, _⟩ => ⟨S1x192x4096, .f32⟩
  | .hbm, ⟨18, _⟩ => ⟨S192x4096, .f32⟩
  | .hbm, ⟨19, _⟩ => ⟨S4096x192, .f32⟩
  | .hbm, ⟨20, _⟩ => ⟨S16384x192, .f32⟩
  | .hbm, ⟨21, _⟩ => ⟨S16384x192, .f32⟩
  | .hbm, ⟨22, _⟩ => ⟨S16384x192, .f32⟩
  | .hbm, ⟨23, _⟩ => ⟨S_, .f32⟩
  | .hbm, ⟨24, _⟩ => ⟨S16384x192, .f32⟩
  | .hbm, ⟨25, _⟩ => ⟨S16384x192, .f32⟩
  | .hbm, ⟨26, _⟩ => ⟨S_, .f32⟩
  | .hbm, ⟨27, _⟩ => ⟨S16384x192, .f32⟩
  | .hbm, ⟨28, _⟩ => ⟨S16384x192, .f32⟩
  | .hbm, ⟨29, _⟩ => ⟨S16384x192, .f32⟩
  | .hbm, ⟨30, _⟩ => ⟨S16384x192, .f32⟩
  | .hbm, ⟨31, _⟩ => ⟨S1x192x4096, .f32⟩
  | .hbm, ⟨32, _⟩ => ⟨S192x4096, .f32⟩
  | .hbm, ⟨33, _⟩ => ⟨S16384x4096, .f32⟩
  | .hbm, ⟨34, _⟩ => ⟨S16384x4096, .bf16⟩
  | _, _ => ⟨S16384x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Proof.Softmax.lean ====
/- The softmax of a row of finite scores, on the extended reals.
   A row is a function on `Fin n`; its weights are exp (score - largest score), its mass is the sum of the weights.
   Of a non-empty row of real scores the mass is a positive real, so dividing by it is multiplying by a positive
   real: it may be done before or after the weighted sum, and before or after another factor. -/
module

public import Idealize.ShloMosaic.PureOps.Ideal
public import Idealize.ShloMosaic.PureOps.Ideal.Laws

@[expose] public section

noncomputable section

namespace Cert.Softmax

open Idealize.ShloMosaic

variable {n : ℕ}

/-- A sum of reals, taken among the extended reals. -/
theorem real_sum {ι : Type*} (A : Finset ι) (f : ι → ℝ) : ((∑ j ∈ A, f j : ℝ) : EReal) = ∑ j ∈ A, (f j : EReal) := by
  classical
  induction A using Finset.induction_on with
  | empty => simp
  | insert a A ha ih => rw [Finset.sum_insert ha, Finset.sum_insert ha, EReal.coe_add, ih]

/-- The largest score (of an empty row: the pattern of minus infinity). -/
def peak (s : Fin n → EReal) : EReal := Finset.univ.fold max (Ideal.ofBits .f32 0xFF800000#32) s

/-- The weight of position `j`. -/
def weight (s : Fin n → EReal) (j : Fin n) : EReal := Ideal.exp (s j - peak s)

/-- The sum of the weights. -/
def mass (s : Fin n → EReal) : EReal := ∑ j, weight s j

/-- The pattern denotes minus infinity. -/
theorem ofBits_lowest : Ideal.ofBits .f32 0xFF800000#32 = ⊥ := by
  simp [Ideal.ofBits, Ideal.ieee]

theorem max_lowest (s : Fin n → EReal) : max (Ideal.ofBits .f32 0xFF800000#32) (peak s) = peak s := by
  rw [ofBits_lowest]; exact bot_sup_eq _

/-- The largest of finitely many reals, at least one, is a real. -/
theorem peak_real (s : Fin n → EReal) (hn : 0 < n) (hs : ∀ j, ∃ r : ℝ, s j = (r : EReal)) : ∃ r : ℝ, peak s = (r : EReal) := by
  have key : ∀ A : Finset (Fin n), (∀ j ∈ A, ∃ r : ℝ, s j = (r : EReal)) → A.Nonempty → ∃ r : ℝ, A.fold max (⊥ : EReal) s = (r : EReal) := by
    intro A
    induction A using Finset.induction_on with
    | empty => intro _ h; exact absurd h (by simp)
    | insert a A ha ih =>
      intro hr _
      rw [Finset.fold_insert ha]
      obtain ⟨x, hx⟩ := hr a (Finset.mem_insert_self a A)
      rcases A.eq_empty_or_nonempty with h | h
      · subst h; exact ⟨x, by rw [Finset.fold_empty, hx]; exact sup_bot_eq _⟩
      · obtain ⟨y, hy⟩ := ih (fun j hj => hr j (Finset.mem_insert_of_mem hj)) h
        exact ⟨max x y, by rw [hx, hy]; exact (EReal.coe_strictMono.monotone.map_max).symm⟩
  unfold peak
  rw [ofBits_lowest]
  exact key _ (fun j _ => hs j) ⟨⟨0, hn⟩, Finset.mem_univ _⟩

/-- The mass of a non-empty row of reals is a positive real. -/
theorem mass_real (s : Fin n → EReal) (hn : 0 < n) (hs : ∀ j, ∃ r : ℝ, s j = (r : EReal)) :
    ∃ l : ℝ, 0 < l ∧ mass s = (l : EReal) := by
  obtain ⟨p, hp⟩ := peak_real s hn hs
  choose r hr using hs
  refine ⟨∑ j, Real.exp (r j - p), Finset.sum_pos (fun j _ => Real.exp_pos _) ⟨⟨0, hn⟩, Finset.mem_univ _⟩, ?_⟩
  unfold mass weight
  rw [hp, real_sum]
  refine Finset.sum_congr rfl fun j _ => ?_
  rw [hr j, ← EReal.coe_sub, Ideal.exp_coe]

/-- A positive real factor goes into a sum. -/
theorem sum_mul_real {ι : Type*} (A : Finset ι) (f : ι → EReal) (c : ℝ) (hc : 0 ≤ c) :
    (∑ j ∈ A, f j) * (c : EReal) = ∑ j ∈ A, f j * (c : EReal) := by
  classical
  induction A using Finset.induction_on with
  | empty => simp
  | insert a A ha ih =>
    rw [Finset.sum_insert ha, Finset.sum_insert ha,
      EReal.right_distrib_of_nonneg_of_ne_top (EReal.coe_nonneg.mpr hc) (EReal.coe_ne_top c), ih]

/-- The mean of `v` under the weights: the mass divided out after the sum, or out of every weight. -/
theorem div_sum (s : Fin n → EReal) (v : Fin n → EReal) (hn : 0 < n) (hs : ∀ j, ∃ r : ℝ, s j = (r : EReal)) :
    Ideal.div (∑ j, weight s j * v j) (mass s) = ∑ j, v j * Ideal.div (weight s j) (mass s) := by
  obtain ⟨l, hl, e⟩ := mass_real s hn hs
  rw [e, Ideal.div_coe (ne_of_gt hl), sum_mul_real _ _ _ (by positivity)]
  refine Finset.sum_congr rfl fun j _ => ?_
  rw [Ideal.div_coe (ne_of_gt hl), mul_right_comm, mul_comm]

/-- A quotient by the mass is a product with its reciprocal. -/
theorem mul_recip (s : Fin n → EReal) (x y : EReal) (hn : 0 < n) (hs : ∀ j, ∃ r : ℝ, s j = (r : EReal)) :
    x * Ideal.div y (mass s) = y * Ideal.div x (mass s) := by
  obtain ⟨l, hl, e⟩ := mass_real s hn hs
  rw [e, Ideal.div_coe (ne_of_gt hl), Ideal.div_coe (ne_of_gt hl), ← mul_assoc, ← mul_assoc, mul_comm x y]

/-- A sum of products of reals is a real. -/
theorem dot_real {k : ℕ} (a b : Fin k → EReal) (ha : ∀ i, ∃ r : ℝ, a i = (r : EReal)) (hb : ∀ i, ∃ r : ℝ, b i = (r : EReal)) :
    ∃ r : ℝ, ∑ i, a i * b i = (r : EReal) := by
  choose x hx using ha
  choose y hy using hb
  refine ⟨∑ i, x i * y i, ?_⟩
  rw [real_sum]
  exact Finset.sum_congr rfl fun i _ => by rw [hx, hy, EReal.coe_mul]

/-- The two factors of a contraction may be exchanged. -/
theorem swap {k : ℕ} (a b : Fin k → EReal) : ∑ i, a i * b i = ∑ i, b i * a i :=
  Finset.sum_congr rfl fun i _ => mul_comm _ _

end Cert.Softmax
-- ==== Proof.FullBlock.lean ====
/- Full grouped-query attention: what one grid point stores, and the result array after the run. -/
module

public import proofs.«01_k».proof.Proof.Softmax
public import proofs.«01_k».proof.Proof.Gen.Kernel2Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Softmax

namespace Cert.Kernel2Ideal.RefValue

open Cert.Kernel2Ideal Cert.Kernel2Ideal.Gen

/-- One head of a block: the softmax of the scores of `Q`'s row against `K`'s rows, averaging `V`'s rows. -/
theorem head_apply (K V : Vec Ideal S1x4096x128 .bf16) (Q : Vec Ideal S1x256x128 .bf16) (r : Fin 256) (d : Fin 128) :
    k0_pay4 K V Q (ix3 0 r d)
      = Ideal.div (∑ k, weight (fun k => ∑ e : Fin 128, Q (ix3 0 r e) * K (ix3 0 k e)) k * V (ix3 0 k d))
          (mass (fun k => ∑ e : Fin 128, Q (ix3 0 r e) * K (ix3 0 k e))) := by
  pointwise [k0_pay4, k0_pay2, k0_pay3]
  rfl

/-- The four heads of a block are the same function of their own query columns. -/
theorem head1 (K V : Vec Ideal S1x4096x128 .bf16) (Q : Vec Ideal S1x256x128 .bf16) :
    k0_pay8 (k0_pay3 V) (k0_pay6 K Q) (k0_pay7 K Q) (constant S256x128 .f32 0x00000000#32) = k0_pay4 K V Q := rfl
theorem head2 (K V : Vec Ideal S1x4096x128 .bf16) (Q : Vec Ideal S1x256x128 .bf16) :
    k0_pay9 (k0_pay2 K) (k0_pay3 V) Q = k0_pay4 K V Q := rfl
theorem head3 (K V : Vec Ideal S1x4096x128 .bf16) (Q : Vec Ideal S1x256x128 .bf16) :
    k0_pay1 (k0_pay11 (k0_pay2 K) (k0_pay3 V) Q) (k0_pay12 (k0_pay2 K) Q) = k0_pay4 K V Q := rfl

/-- The score of query row `q` against key row `k`, in batch `b` and head `h`. -/
def score (X : FVec Ideal S4x4096x6144 .bf16) (b : Fin 4) (h : Fin 32) (q k : Fin 4096) : EReal :=
  ∑ e : Fin 128, X (ix3 b q ⟨h.val * 128 + e.val, by omega⟩) * X (ix3 b k ⟨4096 + h.val / 4 * 128 + e.val, by omega⟩)

/-- Attention: entry (b, q, h * 128 + d) of the result. -/
def attention (X : FVec Ideal S4x4096x6144 .bf16) : FVec Ideal S4x4096x4096 .bf16 := fun i =>
  have h2 : (i 2).val < 4096 := (i 2).isLt
  Ideal.div (∑ k, weight (score X (i 0) ⟨(i 2).val / 128, by omega⟩ (i 1)) k
        * X (ix3 (i 0) k ⟨5120 + (i 2).val / 512 * 128 + (i 2).val % 128, by omega⟩))
    (mass (score X (i 0) ⟨(i 2).val / 128, by omega⟩ (i 1)))

theorem idx : ∀ t : Fin cfg0.N,
    win0_0.index t = ![t.val / 128, t.val % 16, t.val / 16 % 8] ∧ win0_1.index t = ![t.val / 128, 0, 32 + t.val / 16 % 8]
    ∧ win0_2.index t = ![t.val / 128, 0, 40 + t.val / 16 % 8] ∧ win0_3.index t = ![t.val / 128, t.val % 16, t.val / 16 % 8] :=
  (by decide +kernel : ∀ t : Fin grid0.N, _)

variable (m : (ℓ : Loc nD τ sig) → Buf (Elt Ideal) ℓ)

/-- A head over the point's blocks is the attention of the array at the place of the block. -/
theorem core (c : Dev nD) (t : Fin cfg0.N) (g : ℕ) (hg : g < 4) (r : Fin 256) (d : Fin 128) (i : S4x4096x4096.Idx)
    (hi0 : (i 0 : ℕ) = t.val / 128) (hi1 : (i 1 : ℕ) = t.val % 16 * 256 + r.val)
    (hi2 : (i 2 : ℕ) = t.val / 16 % 8 * 512 + g * 128 + d.val)
    (Q : Vec Ideal S1x256x128 .bf16)
    (hQ : ∀ e : Fin 128, Q (ix3 0 r e) = m ((c : Thread nD τ).loc main_arg0) (ix3 (i 0) (i 1) ⟨(i 2 : ℕ) / 128 * 128 + e.val, by
      have h2 : (i 2).val < 4096 := (i 2).isLt
      omega⟩)) :
    k0_pay4 (iblk m c 1 t) (iblk m c 2 t) Q (ix3 0 r d) = attention (m ((c : Thread nD τ).loc main_arg0)) i := by
  have h2 : (i 2).val < 4096 := (i 2).isLt
  have ht : t.val < 512 := lt_of_lt_of_eq t.isLt N_0
  have hs : (fun k => ∑ e : Fin 128, Q (ix3 0 r e) * (show FVec Ideal S1x4096x128 .bf16 from iblk m c 1 t) (ix3 0 k e))
      = score (m ((c : Thread nD τ).loc main_arg0)) (i 0) ⟨(i 2).val / 128, by omega⟩ (i 1) := by
    funext k
    unfold score
    refine Finset.sum_congr rfl fun e _ => ?_
    rw [hQ]
    refine congrArg₂ (· * ·) rfl ?_
    blk_ext [iblk, V, idx t]
  rw [head_apply, hs]
  unfold attention
  refine congrArg (Ideal.div · _) (Finset.sum_congr rfl fun k _ => congrArg₂ (· * ·) rfl ?_)
  blk_ext [iblk, V, idx t]

/-- What point `t` stores at block index `y`. -/
theorem point (c : Dev nD) (t : Fin cfg0.N) (y : S1x256x512.Idx) :
    out0_3 (iblk m c 0 t) (iblk m c 1 t) (iblk m c 2 t) y
      = attention (m ((c : Thread nD τ).loc main_arg0)) (((cfg0.win 3).blk t).view.emb y) := by
  have hz : (![0, 0, 0] : Fin 3 → ℕ) = fun _ => 0 := funext fun a => by fin_cases a <;> rfl
  unfold_out out0_3
  rw [View.ld_unit_zero hz, View.ld_unit_zero hz]
  canon_tiles x h
  all_goals idx_vars x
  all_goals obtain rfl : x0 = 0 := Subsingleton.elim _ _
  · rw [head3]
    refine core m c t 3 (by decide) x1 x2 _ ?_ ?_ ?_ _ fun e => ?_
    on_goal 4 => pointwise; blk_ext [iblk, V, idx t]
    all_goals (blk_simp [idx t] <;> try omega)
  · rw [head2]
    refine core m c t 2 (by decide) x1 x2 _ ?_ ?_ ?_ _ fun e => ?_
    on_goal 4 => pointwise; blk_ext [iblk, V, idx t]
    all_goals (blk_simp [idx t] <;> try omega)
  · rw [head1]
    refine core m c t 1 (by decide) x1 x2 _ ?_ ?_ ?_ _ fun e => ?_
    on_goal 4 => pointwise; blk_ext [iblk, V, idx t]
    all_goals (blk_simp [idx t] <;> try omega)
  · refine core m c t 0 (by decide) x1 x2 _ ?_ ?_ ?_ _ fun e => ?_
    on_goal 4 => pointwise; blk_ext [iblk, V, idx t]
    all_goals (blk_simp [idx t] <;> try omega)

/-- The result array after the run. -/
theorem final (c : Dev nD) : (dats m 0 c).arrAt 3 (cfgs 0).N = attention (m ((c : Thread nD τ).loc main_arg0)) := by
  refine (dats m 0 c).arrAt_eq_of_covers 3 _ (by decide +kernel) fun t _ y => ?_
  blk_simp
  rw [after0_3]; exact point m c t y

end Cert.Kernel2Ideal.RefValue
-- ==== Proof.FullRef.lean ====
/- Full grouped-query attention: the reference's result, one stage at a time. -/
module

public import proofs.«01_k».proof.Proof.Softmax
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Softmax

namespace Cert.Reference2Ideal.RefValue

open Cert.Reference2Ideal Cert.Reference2Ideal.Gen Cert.Reference2Ideal.Read

variable (X : FVec Ideal S4x4096x6144 .bf16)

/-- The queries, keys and values, cut out of the projection's columns. -/
theorem query_apply (b : Fin 4) (q : Fin 4096) (h : Fin 8) (g : Fin 4) (e : Fin 128) :
    val_main_v4 (F := Ideal) X (ix5 b q h g e) = X (ix3 b q ⟨(h.val * 4 + g.val) * 128 + e.val, by omega⟩) := by
  pointwise [val_main_v4, val_main_v1, val_main_v0]
  blk_ext []
theorem key_apply (b : Fin 4) (k : Fin 4096) (h : Fin 8) (e : Fin 128) :
    val_main_v5 (F := Ideal) X (ix4 b k h e) = X (ix3 b k ⟨4096 + h.val * 128 + e.val, by omega⟩) := by
  pointwise [val_main_v5, val_main_v2, val_main_v0]
  blk_ext []
theorem value_apply (b : Fin 4) (k : Fin 4096) (h : Fin 8) (e : Fin 128) :
    val_main_v6 (F := Ideal) X (ix4 b k h e) = X (ix3 b k ⟨5120 + h.val * 128 + e.val, by omega⟩) := by
  pointwise [val_main_v6, val_main_v3, val_main_v0]
  blk_ext []

/-- The scores. -/
theorem score_apply (b : Fin 4) (h : Fin 8) (g : Fin 4) (q k : Fin 4096) :
    val_main_v8 (F := Ideal) X (ix5 b h g q k)
      = ∑ e : Fin 128, val_main_v4 (F := Ideal) X (ix5 b q h g e) * val_main_v5 (F := Ideal) X (ix4 b k h e) := by
  unfold val_main_v8 val_main_v7
  generalize val_main_v4 (F := Ideal) X = A
  generalize val_main_v5 (F := Ideal) X = B
  pointwise
  exact swap (fun e => B (ix4 b k h e)) (fun e => A (ix5 b q h g e))

/-- The largest score. -/
theorem peak_apply (b : Fin 4) (h : Fin 8) (g : Fin 4) (q : Fin 4096) :
    val_main_v9 (F := Ideal) X (ix4 b h g q) = peak (fun k => val_main_v8 (F := Ideal) X (ix5 b h g q k)) := by
  unfold val_main_v9 val_main_cst
  generalize val_main_v8 (F := Ideal) X = A
  pointwise
  rfl

/-- The softmax's exponentials. -/
theorem exp_apply (b : Fin 4) (h : Fin 8) (g : Fin 4) (q k : Fin 4096) :
    val_main_v15 (F := Ideal) X (ix5 b h g q k)
      = Ideal.exp (val_main_v8 (F := Ideal) X (ix5 b h g q k)
          - max (Ideal.ofBits .f32 0xFF800000#32) (val_main_v9 (F := Ideal) X (ix4 b h g q))) := by
  have e : idx_main_v12 (idx_main_v13 (ix5 b h g q k)) = ix4 b h g q := by
    funext a
    match a with
    | ⟨0, _⟩ => rfl
    | ⟨1, _⟩ => rfl
    | ⟨2, _⟩ => rfl
    | ⟨3, _⟩ => rfl
  rw [val_main_v15_apply, val_main_v14_apply, val_main_v13_apply, val_main_v12_apply, e, val_main_v11_apply, val_main_v10_apply, val_main_cst_0_apply]
  simp only [Ideal.hostUnary_exp_def, Ideal.subf_def, Ideal.maximumf_def, Ideal.ofBits_def]

theorem weight_apply (b : Fin 4) (h : Fin 8) (g : Fin 4) (q k : Fin 4096) :
    val_main_v15 (F := Ideal) X (ix5 b h g q k) = weight (fun k => val_main_v8 (F := Ideal) X (ix5 b h g q k)) k := by
  rw [exp_apply, peak_apply, max_lowest, weight]

/-- The softmax. -/
theorem prob_apply (b : Fin 4) (h : Fin 8) (g : Fin 4) (q k : Fin 4096) :
    val_main_v19 (F := Ideal) X (ix5 b h g q k)
      = Ideal.div (val_main_v15 (F := Ideal) X (ix5 b h g q k)) (∑ k, val_main_v15 (F := Ideal) X (ix5 b h g q k)) := by
  pointwise [val_main_v19, val_main_v18, val_main_v17, val_main_v16, val_main_cst_1]

/-- The result. -/
theorem out_apply (b : Fin 4) (q c : Fin 4096) :
    val_main_v23 (F := Ideal) X (ix3 b q c)
      = ∑ k : Fin 4096, val_main_v6 (F := Ideal) X (ix4 b k ⟨c.val / 512, by omega⟩ ⟨c.val % 128, by omega⟩)
          * val_main_v19 (F := Ideal) X (ix5 b ⟨c.val / 512, by omega⟩ ⟨c.val / 128 % 4, by omega⟩ q k) := by
  pointwise [val_main_v23, val_main_v22, val_main_v21, val_main_v20]

end Cert.Reference2Ideal.RefValue
-- ==== Proof.Finite.lean ====
/- Reading a finiteness test: a conjunction over all entries holds of each, and an entry below infinity in
   absolute value is a real. -/
module

public import Idealize.ShloMosaic.PureOps.Ideal
public import Idealize.ShloMosaic.PureOps.Ideal.Laws

@[expose] public section

noncomputable section

namespace Cert.Finite

open Idealize.ShloMosaic

/-- A conjunction of bits is set only if each of them is. -/
theorem all_of_fold {ι : Type*} (A : Finset ι) (f : ι → BitVec 1) (h : A.fold IntOp.andi 1#1 f = 1#1) :
    ∀ x ∈ A, f x = 1#1 := by
  classical
  induction A using Finset.induction_on with
  | empty => intro x hx; exact absurd hx (Finset.notMem_empty x)
  | insert a A ha ih =>
    rw [Finset.fold_insert ha] at h
    have both : ∀ u v : BitVec 1, IntOp.andi u v = 1#1 → u = 1#1 ∧ v = 1#1 := by decide
    obtain ⟨ha', hA⟩ := both _ _ h
    intro x hx
    rcases Finset.mem_insert.mp hx with rfl | hx
    · exact ha'
    · exact ih hA x hx

/-- The pattern denotes infinity. -/
theorem ofBits_infinity : Ideal.ofBits .f32 0x7F800000#32 = ⊤ := by
  simp [Ideal.ofBits, Ideal.ieee]

/-- An extended real below infinity in absolute value is a real. -/
theorem real_of_abs (x : EReal) (h : BitVec.ofBool (decide (max x (-x) < Ideal.ofBits .f32 0x7F800000#32)) = 1#1) :
    ∃ r : ℝ, x = (r : EReal) := by
  rw [ofBits_infinity] at h
  induction x with
  | bot => simp at h
  | coe r => exact ⟨r, rfl⟩
  | top => simp at h

end Cert.Finite
-- ==== Proof.FullEq.lean ====
/- Full grouped-query attention: the reference's result is the kernel's, where queries and keys are finite. -/
module

public import proofs.«01_k».proof.Proof.FullBlock
public import proofs.«01_k».proof.Proof.FullRef
public import proofs.«01_k».proof.Proof.Finite
public import proofs.«01_k».proof.Proof.Gen.Pre_full_finite

@[expose] public section

set_option maxRecDepth 16384

noncomputable section

open Idealize.ShloMosaic Idealize.ShloMosaic.TcCoe Idealize.SL.Sem
open Cert.Softmax

namespace Cert.FullEq

open Cert.Kernel2Ideal Cert.Kernel2Ideal.RefValue Cert.Reference2Ideal.RefValue Cert.Reference2Ideal.Read

/-- The precondition, entry by entry: queries and keys are real numbers. -/
theorem finite_of (X : FVec Ideal S4x4096x6144 .bf16) (h : Cert.Pre_full_finite.fn (F := Ideal) X = fun _ => 1#1)
    (b : Fin 4) (q : Fin 4096) (c : Fin 6144) (hc : c.val < 5120) : ∃ r : ℝ, X (ix3 b q c) = (r : EReal) := by
  have := congrFun h ix0
  unfold Cert.Pre_full_finite.fn at this
  pointwise at this
  have all := Cert.Finite.all_of_fold _ _ this
  have one := all (b, q, ⟨c.val, hc⟩) (by with_reducible exact Finset.mem_univ _)
  simp only [Ideal.absf_def] at one
  exact Cert.Finite.real_of_abs _ one

/-- The scores are the reference's. -/
theorem score_eq (X : FVec Ideal S4x4096x6144 .bf16) (b : Fin 4) (h : Fin 8) (g : Fin 4) (q k : Fin 4096) (w : Fin 32)
    (hw : w.val = h.val * 4 + g.val) : val_main_v8 (F := Ideal) X (ix5 b h g q k) = score X b w q k := by
  rw [score_apply]
  unfold score
  refine Finset.sum_congr rfl fun e _ => ?_
  rw [query_apply, key_apply]
  refine congrArg₂ (· * ·) ?_ ?_
  all_goals blk_ext []

theorem result (X : FVec Ideal S4x4096x6144 .bf16) (hX : Cert.Pre_full_finite.fn (F := Ideal) X = fun _ => 1#1) :
    attention X = val_main_v23 (F := Ideal) X := by
  funext i
  idx_vars i
  have hs : ∀ k : Fin 4096, ∃ r : ℝ, score X i0 ⟨i2.val / 128, by omega⟩ i1 k = (r : EReal) := fun k =>
    dot_real _ _ (fun e => finite_of X hX _ _ _ (by dsimp only; omega)) (fun e => finite_of X hX _ _ _ (by dsimp only; omega))
  have hp : ∀ k, val_main_v15 (F := Ideal) X (ix5 i0 ⟨i2.val / 512, by omega⟩ ⟨i2.val / 128 % 4, by omega⟩ i1 k)
      = weight (score X i0 ⟨i2.val / 128, by omega⟩ i1) k := fun k => by
    rw [weight_apply]
    exact congrArg (weight · k) (funext fun k => score_eq X _ _ _ _ _ _ (by dsimp only; omega))
  rw [out_apply]
  refine (div_sum (score X i0 ⟨i2.val / 128, by omega⟩ i1) _ (by decide) hs).trans (Finset.sum_congr rfl fun k _ => ?_)
  rw [value_apply, prob_apply, hp]
  refine congrArg₂ (· * ·) ?_ (congrArg _ ?_)
  · rfl
  · exact Finset.sum_congr rfl fun k _ => (hp k).symm

end Cert.FullEq
-- ==== Proof.FullClaim.lean ====
/- Full grouped-query attention: the claims about the call, and about its reference. -/
module

public import proofs.«01_k».proof.Defs
public import proofs.«01_k».proof.Proof.FullEq
public import proofs.«01_k».proof.Proof.Gen.Kernel2.Frame
public import proofs.«01_k».proof.Proof.Gen.Reference2Ideal.Run
public import Idealize.ShloMosaic.Lib.Claim

@[expose] public section

set_option maxRecDepth 16384

noncomputable section

open Idealize.ShloMosaic Idealize.ShloMosaic.TcCoe Idealize.SL.Sem

namespace Cert.FullClaim

theorem kernel : Cert.quiescent_Kernel2 := fun m ρ _ => Cert.Kernel2.Gen.frame m ρ
theorem kernelIdeal : Cert.quiescent_Kernel2Ideal := fun m ρ _ => Cert.Kernel2Ideal.Gen.frame m ρ
theorem kernelIdealPre : Cert.quiescent_Kernel2Ideal_pre_full_finite := fun m ρ _ => Cert.Kernel2Ideal.Gen.frame m ρ
theorem reference : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)
theorem referencePre : Cert.quiescent_Reference2Ideal_pre_full_finite := fun m ρ _ => reference m ρ trivial

theorem algebraic : Cert.algebraic_Kernel2Ideal_Reference2Ideal_pre_full_finite := by
  pair_intro
  · run_from Cert.Kernel2Ideal.Gen.run_main m g
  · run_from Cert.Reference2Ideal.Value.run m' g'
    rw [Cert.Reference2Ideal.Read.val_main_v23_eq, Cert.Kernel2Ideal.RefValue.final, hagree c]
    exact (Cert.FullEq.result _ (hpre c)).symm

end Cert.FullClaim
-- ==== Proof.DiffBlock.lean ====
/- Differential attention: what one grid point stores, and the result array after the run. -/
module

public import proofs.«01_k».proof.Proof.Softmax
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Softmax

namespace Cert.KernelIdeal.RefValue

open Cert.KernelIdeal Cert.KernelIdeal.Gen

/-- One head of a block, from the two halves of the head's queries and of the keys. -/
def head (L : Vec Ideal S4x128 .f32) (G : Vec Ideal S1x256 .f32) (Q0 Q1 : Vec Ideal S1x256x128 .bf16)
    (K0 K1 : Vec Ideal S1x4096x128 .bf16) (V : Vec Ideal S1x4096x256 .bf16) : FVec Ideal S1x256x256 .bf16 :=
  k0_pay8 (k0_pay2 L) (k0_pay3 V) (k0_pay4 Q0 K0) (k0_pay5 Q0 K0) (k0_pay6 Q1) (k0_pay7 K1) G

theorem head1 (L : Vec Ideal S4x128 .f32) (G : Vec Ideal S1x256 .f32) (Q0 Q1 : Vec Ideal S1x256x128 .bf16)
    (K0 K1 : Vec Ideal S1x4096x128 .bf16) (V : Vec Ideal S1x4096x256 .bf16) :
    k0_pay12 (k0_pay10 (k0_pay2 L) (k0_pay3 V) (k0_pay9 Q0) K0 Q1 K1) (k0_pay11 (k0_pay2 L) (k0_pay3 V) (k0_pay9 Q0) K0 Q1 K1) G
      = head L G Q0 Q1 K0 K1 V := rfl
theorem head2 (L : Vec Ideal S4x128 .f32) (G : Vec Ideal S1x256 .f32) (Q0 Q1 : Vec Ideal S1x256x128 .bf16)
    (K0 K1 : Vec Ideal S1x4096x128 .bf16) (V : Vec Ideal S1x4096x256 .bf16) :
    k0_pay17 (k0_pay2 L) (k0_pay3 V) (k0_pay13 Q0 K0) (k0_pay14 Q0 K0) (k0_pay15 Q1 K1) (k0_pay16 Q1 K1) G
      = head L G Q0 Q1 K0 K1 V := rfl
theorem head3 (L : Vec Ideal S4x128 .f32) (G : Vec Ideal S1x256 .f32) (Q0 Q1 : Vec Ideal S1x256x128 .bf16)
    (K0 K1 : Vec Ideal S1x4096x128 .bf16) (V : Vec Ideal S1x4096x256 .bf16) :
    k0_pay1 (k0_pay20 (k0_pay2 L) (k0_pay3 V) (k0_pay18 Q0 K0) (k0_pay19 Q0 K0) Q1 K1 G) (k0_pay21 (F := Ideal))
      = head L G Q0 Q1 K0 K1 V := rfl

/-- The mixing weight. -/
def lam (L : Vec Ideal S4x128 .f32) : EReal :=
  Ideal.exp (∑ x : Fin 128, L (ix2 0 x) * L (ix2 1 x)) - Ideal.exp (∑ x : Fin 128, L (ix2 2 x) * L (ix2 3 x)) + Ideal.ofBits .f32 0x3F0E59D5#32

/-- The difference of two softmaxes, applied to a column of values. -/
def mixed (s0 s1 : Fin 4096 → EReal) (l : EReal) (v : Fin 4096 → EReal) : EReal :=
  ∑ k, (weight s0 k * Ideal.div 1 (mass s0) - weight s1 k * Ideal.div l (mass s1)) * v k

/-- The root-mean-square normalisation of a head, with its gain and constant. -/
def normed (o : Fin 256 → EReal) (g : EReal) (d : Fin 256) : EReal :=
  o d * Ideal.rsqrt (Ideal.div (∑ x, o x * o x) (Ideal.ofBits .f32 0x43800000#32) + Ideal.ofBits .f32 0x358637BD#32) * g
    * Ideal.ofBits .f32 0x3EE34C57#32

theorem lam_apply (L : Vec Ideal S4x128 .f32) : k0_pay2 L (ix2 0 0) = lam L := by
  pointwise [k0_pay2]
  rfl

theorem weight_apply (Q : Vec Ideal S1x256x128 .bf16) (K : Vec Ideal S1x4096x128 .bf16) (r : Fin 256) (k : Fin 4096) :
    k0_pay4 Q K (ix2 r k) = weight (fun k => ∑ e : Fin 128, Q (ix3 0 r e) * K (ix3 0 k e)) k := by
  pointwise [k0_pay4]
  rfl

theorem mass_apply (Q : Vec Ideal S1x256x128 .bf16) (K : Vec Ideal S1x4096x128 .bf16) (r : Fin 256) :
    k0_pay5 Q K (ix2 r 0) = mass (fun k => ∑ e : Fin 128, Q (ix3 0 r e) * K (ix3 0 k e)) := by
  pointwise [k0_pay5, k0_pay4]
  rfl

theorem head_apply (L : Vec Ideal S4x128 .f32) (G : Vec Ideal S1x256 .f32) (Q0 Q1 : Vec Ideal S1x256x128 .bf16)
    (K0 K1 : Vec Ideal S1x4096x128 .bf16) (V : Vec Ideal S1x4096x256 .bf16) (r : Fin 256) (d : Fin 256) :
    head L G Q0 Q1 K0 K1 V (ix3 0 r d)
      = normed (fun d => mixed (fun k => ∑ e : Fin 128, Q0 (ix3 0 r e) * K0 (ix3 0 k e)) (fun k => ∑ e : Fin 128, Q1 (ix3 0 r e) * K1 (ix3 0 k e))
          (lam L) (fun k => V (ix3 0 k d))) (G (ix2 0 d)) d := by
  unfold mixed
  simp only [← lam_apply, ← weight_apply Q0 K0, ← mass_apply Q0 K0]
  unfold head k0_pay8
  generalize k0_pay2 L = l
  generalize k0_pay4 Q0 K0 = w
  generalize k0_pay5 Q0 K0 = n
  pointwise [k0_pay3, k0_pay6, k0_pay7]
  rfl

/-- The score of query row `q` against key row `k`, in batch `b`, head `h` and half `c`. -/
def score (X : FVec Ideal S4x4096x6144 .bf16) (b : Fin 4) (h : Fin 16) (c : Fin 2) (q k : Fin 4096) : EReal :=
  ∑ e : Fin 128, X (ix3 b q ⟨h.val * 256 + c.val * 128 + e.val, by omega⟩) * X (ix3 b k ⟨4096 + h.val / 4 * 256 + c.val * 128 + e.val, by omega⟩)

/-- A head's output before normalisation. -/
def mix (X : FVec Ideal S4x4096x6144 .bf16) (L : FVec Ideal S4x128 .f32) (b : Fin 4) (h : Fin 16) (q : Fin 4096) (d : Fin 256) : EReal :=
  mixed (score X b h 0 q) (score X b h 1 q) (lam L) fun k => X (ix3 b k ⟨5120 + h.val / 4 * 256 + d.val, by omega⟩)

/-- Differential attention: entry (b, q, h * 256 + d) of the result. -/
def attention (X : FVec Ideal S4x4096x6144 .bf16) (L : FVec Ideal S4x128 .f32) (G : FVec Ideal S256 .f32) : FVec Ideal S4x4096x4096 .bf16 := fun i =>
  have h2 : (i 2).val < 4096 := (i 2).isLt
  normed (mix X L (i 0) ⟨(i 2).val / 256, by omega⟩ (i 1)) (G (ix1 ⟨(i 2).val % 256, by omega⟩)) ⟨(i 2).val % 256, by omega⟩

theorem idx : ∀ t : Fin cfg0.N,
    win0_0.index t = ![0, 0] ∧ win0_1.index t = ![0, 0] ∧ win0_2.index t = ![t.val / 64, t.val % 16, t.val / 16 % 4]
    ∧ win0_3.index t = ![t.val / 64, 0, 16 + t.val / 16 % 4]
    ∧ win0_4.index t = ![t.val / 64, 0, 20 + t.val / 16 % 4] ∧ win0_5.index t = ![t.val / 64, t.val % 16, t.val / 16 % 4] :=
  (by decide +kernel : ∀ t : Fin grid0.N, _)

variable (m : (ℓ : Loc nD τ sig) → Buf (Elt Ideal) ℓ)

/-- The gains, as the kernel's row. -/
theorem gain_read (c : Dev nD) (t : Fin cfg0.N) (d : Fin 256) :
    (show FVec Ideal S1x256 .f32 from iblk m c 1 t) (ix2 0 d) = m ((c : Thread nD τ).loc main_arg2) (ix1 d) := by
  blk_simp [iblk, idx t]
  entry_read
  pointwise
  refine congrArg (m _) (congrArg ix1 (Fin.ext ?_))
  blk_simp [idx t]

/-- A head over the point's blocks is the attention of the array at the place of the block. -/
theorem core (c : Dev nD) (t : Fin cfg0.N) (g : ℕ) (hg : g < 4) (r : Fin 256) (d : Fin 256) (i : S4x4096x4096.Idx)
    (hi0 : (i 0 : ℕ) = t.val / 64) (hi1 : (i 1 : ℕ) = t.val % 16 * 256 + r.val)
    (hi2 : (i 2 : ℕ) = t.val / 16 % 4 * 1024 + g * 256 + d.val)
    (Q0 Q1 : Vec Ideal S1x256x128 .bf16) (K0 K1 : Vec Ideal S1x4096x128 .bf16)
    (hQ0 : ∀ e : Fin 128, Q0 (ix3 0 r e) = (show FVec Ideal S1x256x1024 .bf16 from iblk m c 2 t) (ix3 0 r ⟨g * 256 + e.val, by omega⟩))
    (hQ1 : ∀ e : Fin 128, Q1 (ix3 0 r e) = (show FVec Ideal S1x256x1024 .bf16 from iblk m c 2 t) (ix3 0 r ⟨g * 256 + 128 + e.val, by omega⟩))
    (hK0 : ∀ k (e : Fin 128), K0 (ix3 0 k e) = (show FVec Ideal S1x4096x256 .bf16 from iblk m c 3 t) (ix3 0 k ⟨e.val, by omega⟩))
    (hK1 : ∀ k (e : Fin 128), K1 (ix3 0 k e) = (show FVec Ideal S1x4096x256 .bf16 from iblk m c 3 t) (ix3 0 k ⟨128 + e.val, by omega⟩)) :
    head (iblk m c 0 t) (iblk m c 1 t) Q0 Q1 K0 K1 (iblk m c 4 t) (ix3 0 r d)
      = attention (m ((c : Thread nD τ).loc main_arg0)) (m ((c : Thread nD τ).loc main_arg1)) (m ((c : Thread nD τ).loc main_arg2)) i := by
  have h2 : (i 2).val < 4096 := (i 2).isLt
  have ht : t.val < 256 := lt_of_lt_of_eq t.isLt N_0
  have hd : d = ⟨(i 2).val % 256, by omega⟩ := Fin.ext (by dsimp only; omega)
  have hs0 : (fun k => ∑ e : Fin 128, Q0 (ix3 0 r e) * K0 (ix3 0 k e))
      = score (m ((c : Thread nD τ).loc main_arg0)) (i 0) ⟨(i 2).val / 256, by omega⟩ 0 (i 1) := by
    funext k
    unfold score
    refine Finset.sum_congr rfl fun e _ => ?_
    rw [hQ0, hK0]
    refine congrArg₂ (· * ·) ?_ ?_
    all_goals blk_ext [iblk, V, idx t]
  have hs1 : (fun k => ∑ e : Fin 128, Q1 (ix3 0 r e) * K1 (ix3 0 k e))
      = score (m ((c : Thread nD τ).loc main_arg0)) (i 0) ⟨(i 2).val / 256, by omega⟩ 1 (i 1) := by
    funext k
    unfold score
    refine Finset.sum_congr rfl fun e _ => ?_
    rw [hQ1, hK1]
    refine congrArg₂ (· * ·) ?_ ?_
    all_goals blk_ext [iblk, V, idx t]
  have hl : lam (iblk m c 0 t) = lam (m ((c : Thread nD τ).loc main_arg1)) := by
    refine congrArg lam (funext fun j => ?_)
    idx_vars j
    blk_ext [iblk, V, idx t]
  rw [head_apply, hs0, hs1, hl]
  unfold attention
  rw [← hd]
  refine congrArg₂ (normed · · d) (funext fun d => ?_) (gain_read m c t d)
  unfold mix
  refine congrArg (mixed _ _ _) (funext fun k => ?_)
  blk_ext [iblk, V, idx t]

/-- What point `t` stores at block index `y`. -/
theorem point (c : Dev nD) (t : Fin cfg0.N) (y : S1x256x1024.Idx) :
    out0_5 (iblk m c 0 t) (iblk m c 1 t) (iblk m c 2 t) (iblk m c 3 t) (iblk m c 4 t) y
      = attention (m ((c : Thread nD τ).loc main_arg0)) (m ((c : Thread nD τ).loc main_arg1)) (m ((c : Thread nD τ).loc main_arg2))
          (((cfg0.win 5).blk t).view.emb y) := by
  have hz : (![0, 0, 0] : Fin 3 → ℕ) = fun _ => 0 := funext fun a => by fin_cases a <;> rfl
  have hz2 : (![0, 0] : Fin 2 → ℕ) = fun _ => 0 := funext fun a => by fin_cases a <;> rfl
  unfold_out out0_5
  rw [View.ld_unit_zero hz2, View.ld_unit_zero hz, View.ld_unit_zero hz2]
  canon_tiles x h
  all_goals idx_vars x
  all_goals obtain rfl : x0 = 0 := Subsingleton.elim _ _
  · rw [head3]
    refine core m c t 3 (by decide) x1 x2 _ ?_ ?_ ?_ _ _ _ _ (fun e => ?_) (fun e => ?_) (fun k e => ?_) (fun k e => ?_)
    iterate 4 (on_goal 4 => (pointwise <;> blk_ext []))
    all_goals (blk_simp [idx t] <;> try omega)
  · rw [head2]
    refine core m c t 2 (by decide) x1 x2 _ ?_ ?_ ?_ _ _ _ _ (fun e => ?_) (fun e => ?_) (fun k e => ?_) (fun k e => ?_)
    iterate 4 (on_goal 4 => (pointwise <;> blk_ext []))
    all_goals (blk_simp [idx t] <;> try omega)
  · rw [head1]
    refine core m c t 1 (by decide) x1 x2 _ ?_ ?_ ?_ _ _ _ _ (fun e => ?_) (fun e => ?_) (fun k e => ?_) (fun k e => ?_)
    iterate 4 (on_goal 4 => (pointwise <;> blk_ext []))
    all_goals (blk_simp [idx t] <;> try omega)
  · refine core m c t 0 (by decide) x1 x2 _ ?_ ?_ ?_ _ _ _ _ (fun e => ?_) (fun e => ?_) (fun k e => ?_) (fun k e => ?_)
    iterate 4 (on_goal 4 => (pointwise <;> blk_ext []))
    all_goals (blk_simp [idx t] <;> try omega)

/-- The result array after the run. -/
theorem final (c : Dev nD) : (dats m 0 c).arrAt 5 (cfgs 0).N
    = attention (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; exact point m c t y

end Cert.KernelIdeal.RefValue
-- ==== Proof.DiffRef.lean ====
/- Differential attention: the reference's result, one stage at a time. -/
module

public import proofs.«01_k».proof.Proof.Softmax
public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Softmax

namespace Cert.ReferenceIdeal.RefValue

open Cert.ReferenceIdeal Cert.ReferenceIdeal.Gen Cert.ReferenceIdeal.Read

variable (X : FVec Ideal S4x4096x6144 .bf16) (L : FVec Ideal S4x128 .f32) (G : FVec Ideal S256 .f32)

/-- The values, cut out of the projection's columns. -/
theorem value_apply (b : Fin 4) (k : Fin 4096) (h : Fin 4) (e : Fin 256) :
    val_main_v6 (F := Ideal) X (ix4 b k h e) = X (ix3 b k ⟨5120 + h.val * 256 + e.val, by omega⟩) := by
  pointwise [val_main_v6, val_main_v3, val_main_v0]
  blk_ext []

/-- The mixing weight. -/
theorem lam_apply : val_main_v22 (F := Ideal) L ix0
    = Ideal.exp (∑ x : Fin 128, L (ix2 0 x) * L (ix2 1 x)) - Ideal.exp (∑ x : Fin 128, L (ix2 2 x) * L (ix2 3 x)) + Ideal.ofBits .f32 0x3F0E59D5#32 := by
  pointwise [val_main_v22, val_main_v21, val_main_v20, val_main_v19, val_main_v18, val_main_v17, val_main_v16, val_main_v15, val_main_v14,
    val_main_v13, val_main_v12, val_main_v11, val_main_v10, val_main_v9, val_main_v8, val_main_v7, val_main_cst, val_main_cst_0, val_main_cst_1]

/-! ## The first softmax -/

theorem query0_apply (b : Fin 4) (q : Fin 4096) (h g : Fin 4) (e : Fin 128) :
    val_main_v23 (F := Ideal) X (ix5 b q h g e) = X (ix3 b q ⟨(h.val * 4 + g.val) * 256 + 0 * 128 + e.val, by omega⟩) := by
  pointwise [val_main_v23, val_main_v4, val_main_v1, val_main_v0]
  blk_ext []
theorem key0_apply (b : Fin 4) (k : Fin 4096) (h : Fin 4) (e : Fin 128) :
    val_main_v24 (F := Ideal) X (ix4 b k h e) = X (ix3 b k ⟨4096 + h.val * 256 + 0 * 128 + e.val, by omega⟩) := by
  pointwise [val_main_v24, val_main_v5, val_main_v2, val_main_v0]
  blk_ext []

/-- The scores. -/
theorem score0_apply (b : Fin 4) (h g : Fin 4) (q k : Fin 4096) :
    val_main_v26 (F := Ideal) X (ix5 b h g q k)
      = ∑ e : Fin 128, val_main_v23 (F := Ideal) X (ix5 b q h g e) * val_main_v24 (F := Ideal) X (ix4 b k h e) := by
  unfold val_main_v26 val_main_v25
  generalize val_main_v23 (F := Ideal) X = A
  generalize val_main_v24 (F := Ideal) X = B
  pointwise
  exact swap (fun e => B (ix4 b k h e)) (fun e => A (ix5 b q h g e))

/-- The largest score. -/
theorem peak0_apply (b : Fin 4) (h g : Fin 4) (q : Fin 4096) :
    val_main_v31 (F := Ideal) X (ix4 b h g q) = peak (fun k => val_main_v26 (F := Ideal) X (ix5 b h g q k)) := by
  unfold val_main_v31 val_main_cst_2
  generalize val_main_v26 (F := Ideal) X = A
  pointwise
  rfl

/-- The softmax's exponentials. -/
theorem exp0_apply (b : Fin 4) (h g : Fin 4) (q k : Fin 4096) :
    val_main_v37 (F := Ideal) X (ix5 b h g q k)
      = Ideal.exp (val_main_v26 (F := Ideal) X (ix5 b h g q k)
          - max (Ideal.ofBits .f32 0xFF800000#32) (val_main_v31 (F := Ideal) X (ix4 b h g q))) := by
  have e : idx_main_v34 (idx_main_v35 (ix5 b h g q k)) = ix4 b h g q := by
    funext a
    match a with
    | ⟨0, _⟩ => rfl
    | ⟨1, _⟩ => rfl
    | ⟨2, _⟩ => rfl
    | ⟨3, _⟩ => rfl
  rw [val_main_v37_apply, val_main_v36_apply, val_main_v35_apply, val_main_v34_apply, e, val_main_v33_apply, val_main_v32_apply, val_main_cst_3_apply]
  simp only [Ideal.hostUnary_exp_def, Ideal.subf_def, Ideal.maximumf_def, Ideal.ofBits_def]

theorem weight0_apply (b : Fin 4) (h g : Fin 4) (q k : Fin 4096) :
    val_main_v37 (F := Ideal) X (ix5 b h g q k) = weight (fun k => val_main_v26 (F := Ideal) X (ix5 b h g q k)) k := by
  rw [exp0_apply, peak0_apply, max_lowest, weight]

/-- The softmax. -/
theorem prob0_apply (b : Fin 4) (h g : Fin 4) (q k : Fin 4096) :
    val_main_v41 (F := Ideal) X (ix5 b h g q k)
      = Ideal.div (val_main_v37 (F := Ideal) X (ix5 b h g q k)) (∑ k, val_main_v37 (F := Ideal) X (ix5 b h g q k)) := by
  unfold val_main_v41 val_main_v40 val_main_v39 val_main_v38 val_main_cst_4
  generalize val_main_v37 (F := Ideal) X = A
  pointwise

/-! ## The second softmax -/

theorem query1_apply (b : Fin 4) (q : Fin 4096) (h g : Fin 4) (e : Fin 128) :
    val_main_v27 (F := Ideal) X (ix5 b q h g e) = X (ix3 b q ⟨(h.val * 4 + g.val) * 256 + 1 * 128 + e.val, by omega⟩) := by
  pointwise [val_main_v27, val_main_v4, val_main_v1, val_main_v0]
  blk_ext []
theorem key1_apply (b : Fin 4) (k : Fin 4096) (h : Fin 4) (e : Fin 128) :
    val_main_v28 (F := Ideal) X (ix4 b k h e) = X (ix3 b k ⟨4096 + h.val * 256 + 1 * 128 + e.val, by omega⟩) := by
  pointwise [val_main_v28, val_main_v5, val_main_v2, val_main_v0]
  blk_ext []

/-- The scores. -/
theorem score1_apply (b : Fin 4) (h g : Fin 4) (q k : Fin 4096) :
    val_main_v30 (F := Ideal) X (ix5 b h g q k)
      = ∑ e : Fin 128, val_main_v27 (F := Ideal) X (ix5 b q h g e) * val_main_v28 (F := Ideal) X (ix4 b k h e) := by
  unfold val_main_v30 val_main_v29
  generalize val_main_v27 (F := Ideal) X = A
  generalize val_main_v28 (F := Ideal) X = B
  pointwise
  exact swap (fun e => B (ix4 b k h e)) (fun e => A (ix5 b q h g e))

/-- The largest score. -/
theorem peak1_apply (b : Fin 4) (h g : Fin 4) (q : Fin 4096) :
    val_main_v42 (F := Ideal) X (ix4 b h g q) = peak (fun k => val_main_v30 (F := Ideal) X (ix5 b h g q k)) := by
  unfold val_main_v42 val_main_cst_5
  generalize val_main_v30 (F := Ideal) X = A
  pointwise
  rfl

/-- The softmax's exponentials. -/
theorem exp1_apply (b : Fin 4) (h g : Fin 4) (q k : Fin 4096) :
    val_main_v48 (F := Ideal) X (ix5 b h g q k)
      = Ideal.exp (val_main_v30 (F := Ideal) X (ix5 b h g q k)
          - max (Ideal.ofBits .f32 0xFF800000#32) (val_main_v42 (F := Ideal) X (ix4 b h g q))) := by
  have e : idx_main_v45 (idx_main_v46 (ix5 b h g q k)) = ix4 b h g q := by
    funext a
    match a with
    | ⟨0, _⟩ => rfl
    | ⟨1, _⟩ => rfl
    | ⟨2, _⟩ => rfl
    | ⟨3, _⟩ => rfl
  rw [val_main_v48_apply, val_main_v47_apply, val_main_v46_apply, val_main_v45_apply, e, val_main_v44_apply, val_main_v43_apply, val_main_cst_6_apply]
  simp only [Ideal.hostUnary_exp_def, Ideal.subf_def, Ideal.maximumf_def, Ideal.ofBits_def]

theorem weight1_apply (b : Fin 4) (h g : Fin 4) (q k : Fin 4096) :
    val_main_v48 (F := Ideal) X (ix5 b h g q k) = weight (fun k => val_main_v30 (F := Ideal) X (ix5 b h g q k)) k := by
  rw [exp1_apply, peak1_apply, max_lowest, weight]

/-- The softmax. -/
theorem prob1_apply (b : Fin 4) (h g : Fin 4) (q k : Fin 4096) :
    val_main_v52 (F := Ideal) X (ix5 b h g q k)
      = Ideal.div (val_main_v48 (F := Ideal) X (ix5 b h g q k)) (∑ k, val_main_v48 (F := Ideal) X (ix5 b h g q k)) := by
  unfold val_main_v52 val_main_v51 val_main_v50 val_main_v49 val_main_cst_7
  generalize val_main_v48 (F := Ideal) X = A
  pointwise

/-! ## The difference of the two, and the heads -/

theorem mix_apply (b : Fin 4) (h g : Fin 4) (q k : Fin 4096) :
    val_main_v55 (F := Ideal) X L (ix5 b h g q k)
      = val_main_v41 (F := Ideal) X (ix5 b h g q k) - val_main_v22 (F := Ideal) L ix0 * val_main_v52 (F := Ideal) X (ix5 b h g q k) := by
  unfold val_main_v55 val_main_v54 val_main_v53
  generalize val_main_v41 (F := Ideal) X = A
  generalize val_main_v52 (F := Ideal) X = B
  generalize val_main_v22 (F := Ideal) L = l
  pointwise

/-- The head before normalisation. -/
theorem head_apply (b : Fin 4) (q : Fin 4096) (h g : Fin 4) (d : Fin 256) :
    val_main_v57 (F := Ideal) X L (ix5 b q h g d)
      = ∑ k : Fin 4096, val_main_v55 (F := Ideal) X L (ix5 b h g q k) * val_main_v6 (F := Ideal) X (ix4 b k h d) := by
  unfold val_main_v57 val_main_v56
  generalize val_main_v6 (F := Ideal) X = A
  generalize val_main_v55 (F := Ideal) X L = B
  pointwise
  exact swap (fun k => A (ix4 b k h d)) (fun k => B (ix5 b h g q k))

/-- The result. -/
theorem out_apply (b : Fin 4) (q c : Fin 4096) :
    val_main_v74 (F := Ideal) X L G (ix3 b q c)
      = val_main_v57 (F := Ideal) X L (ix5 b q ⟨c.val / 1024, by omega⟩ ⟨c.val / 256 % 4, by omega⟩ ⟨c.val % 256, by omega⟩)
          * Ideal.rsqrt (Ideal.div (∑ x : Fin 256, val_main_v57 (F := Ideal) X L (ix5 b q ⟨c.val / 1024, by omega⟩ ⟨c.val / 256 % 4, by omega⟩ x)
              * val_main_v57 (F := Ideal) X L (ix5 b q ⟨c.val / 1024, by omega⟩ ⟨c.val / 256 % 4, by omega⟩ x)) (Ideal.ofBits .f32 0x43800000#32)
            + Ideal.ofBits .f32 0x358637BD#32) * G (ix1 ⟨c.val % 256, by omega⟩) * Ideal.ofBits .f32 0x3EE34C57#32 := by
  unfold val_main_v74 val_main_v73 val_main_v72 val_main_v71 val_main_v70 val_main_v69 val_main_v68 val_main_v67 val_main_v66 val_main_v65 val_main_v64
    val_main_v63 val_main_v62 val_main_v61 val_main_v60 val_main_v59 val_main_v58
  generalize val_main_v57 (F := Ideal) X L = A
  pointwise [val_main_cst_8, val_main_cst_9, val_main_cst_10, val_main_cst_11]

end Cert.ReferenceIdeal.RefValue

end
-- ==== Proof.DiffEq.lean ====
/- Differential attention: the reference's result is the kernel's, where queries and keys are finite. -/
module

public import proofs.«01_k».proof.Proof.DiffBlock
public import proofs.«01_k».proof.Proof.DiffRef
public import proofs.«01_k».proof.Proof.Finite
public import proofs.«01_k».proof.Proof.Gen.Pre_diff_finite

@[expose] public section

set_option maxRecDepth 16384

noncomputable section

open Idealize.ShloMosaic Idealize.ShloMosaic.TcCoe Idealize.SL.Sem
open Cert.Softmax

namespace Cert.DiffEq

open Cert.KernelIdeal Cert.KernelIdeal.RefValue Cert.ReferenceIdeal.RefValue Cert.ReferenceIdeal.Read

variable (X : FVec Ideal S4x4096x6144 .bf16) (L : FVec Ideal S4x128 .f32) (G : FVec Ideal S256 .f32)

/-- The precondition, entry by entry: queries and keys are real numbers. -/
theorem finite_of (h : Cert.Pre_diff_finite.fn (F := Ideal) X L G = fun _ => 1#1)
    (b : Fin 4) (q : Fin 4096) (c : Fin 6144) (hc : c.val < 5120) : ∃ r : ℝ, X (ix3 b q c) = (r : EReal) := by
  have := congrFun h ix0
  unfold Cert.Pre_diff_finite.fn at this
  pointwise at this
  have all := Cert.Finite.all_of_fold _ _ this
  have one := all (b, q, ⟨c.val, hc⟩) (by with_reducible exact Finset.mem_univ _)
  simp only [Ideal.absf_def] at one
  exact Cert.Finite.real_of_abs _ one

/-- The first scores are the reference's. -/
theorem score0_eq (b : Fin 4) (h g : Fin 4) (q k : Fin 4096) (w : Fin 16)
    (hw : w.val = h.val * 4 + g.val) : val_main_v26 (F := Ideal) X (ix5 b h g q k) = score X b w 0 q k := by
  rw [score0_apply]
  unfold score
  refine Finset.sum_congr rfl fun e _ => ?_
  rw [query0_apply, key0_apply]
  refine congrArg₂ (· * ·) ?_ ?_
  all_goals blk_ext []

theorem prob0_eq (b : Fin 4) (h g : Fin 4) (q k : Fin 4096) (w : Fin 16) (hw : w.val = h.val * 4 + g.val) :
    val_main_v41 (F := Ideal) X (ix5 b h g q k) = Ideal.div (weight (score X b w 0 q) k) (mass (score X b w 0 q)) := by
  have hp : ∀ k, val_main_v37 (F := Ideal) X (ix5 b h g q k) = weight (score X b w 0 q) k := fun k => by
    rw [weight0_apply]
    exact congrArg (weight · k) (funext fun k => score0_eq X _ _ _ _ _ _ hw)
  rw [prob0_apply, hp]
  exact congrArg _ (Finset.sum_congr rfl fun k _ => hp k)

/-- The second scores are the reference's. -/
theorem score1_eq (b : Fin 4) (h g : Fin 4) (q k : Fin 4096) (w : Fin 16)
    (hw : w.val = h.val * 4 + g.val) : val_main_v30 (F := Ideal) X (ix5 b h g q k) = score X b w 1 q k := by
  rw [score1_apply]
  unfold score
  refine Finset.sum_congr rfl fun e _ => ?_
  rw [query1_apply, key1_apply]
  refine congrArg₂ (· * ·) ?_ ?_
  all_goals blk_ext []

theorem prob1_eq (b : Fin 4) (h g : Fin 4) (q k : Fin 4096) (w : Fin 16) (hw : w.val = h.val * 4 + g.val) :
    val_main_v52 (F := Ideal) X (ix5 b h g q k) = Ideal.div (weight (score X b w 1 q) k) (mass (score X b w 1 q)) := by
  have hp : ∀ k, val_main_v48 (F := Ideal) X (ix5 b h g q k) = weight (score X b w 1 q) k := fun k => by
    rw [weight1_apply]
    exact congrArg (weight · k) (funext fun k => score1_eq X _ _ _ _ _ _ hw)
  rw [prob1_apply, hp]
  exact congrArg _ (Finset.sum_congr rfl fun k _ => hp k)

/-- A head before normalisation is the reference's. -/
theorem head_eq (hX : Cert.Pre_diff_finite.fn (F := Ideal) X L G = fun _ => 1#1)
    (b : Fin 4) (q : Fin 4096) (h g : Fin 4) (d : Fin 256) (w : Fin 16) (hw : w.val = h.val * 4 + g.val) :
    val_main_v57 (F := Ideal) X L (ix5 b q h g d) = mix X L b w q d := by
  have hs : ∀ (c : Fin 2) (k : Fin 4096), ∃ r : ℝ, score X b w c q k = (r : EReal) := fun c k =>
    dot_real _ _ (fun e => finite_of X L G hX _ _ _ (by dsimp only; omega)) (fun e => finite_of X L G hX _ _ _ (by dsimp only; omega))
  have hl : val_main_v22 (F := Ideal) L ix0 = lam L := lam_apply L
  rw [Cert.ReferenceIdeal.RefValue.head_apply]
  unfold mix mixed
  refine Finset.sum_congr rfl fun k _ => ?_
  rw [mix_apply, prob0_eq X b h g q k w hw, prob1_eq X b h g q k w hw, value_apply, hl,
    mul_recip (score X b w 0 q) _ 1 (by decide) (hs 0), one_mul,
    mul_recip (score X b w 1 q) _ (lam L) (by decide) (hs 1)]
  refine congrArg₂ (· * ·) rfl ?_
  blk_ext []

theorem result (hX : Cert.Pre_diff_finite.fn (F := Ideal) X L G = fun _ => 1#1) :
    attention X L G = val_main_v74 (F := Ideal) X L G := by
  funext i
  idx_vars i
  rw [out_apply]
  unfold attention normed
  have h : ∀ d, val_main_v57 (F := Ideal) X L (ix5 i0 i1 ⟨i2.val / 1024, by omega⟩ ⟨i2.val / 256 % 4, by omega⟩ d)
      = mix X L i0 ⟨i2.val / 256, by omega⟩ i1 d := fun d => head_eq X L G hX _ _ _ _ _ _ (by dsimp only; omega)
  simp only [h]
  rfl

end Cert.DiffEq
-- ==== Proof.DiffClaim.lean ====
/- Differential attention: the claims about the call, and about its reference. -/
module

public import proofs.«01_k».proof.Defs
public import proofs.«01_k».proof.Proof.DiffEq
public import proofs.«01_k».proof.Proof.Gen.Kernel.Frame
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem

namespace Cert.DiffClaim

theorem kernel : Cert.quiescent_Kernel := fun m ρ _ => Cert.Kernel.Gen.frame m ρ
theorem kernelIdeal : Cert.quiescent_KernelIdeal := fun m ρ _ => Cert.KernelIdeal.Gen.frame m ρ
theorem kernelIdealPre : Cert.quiescent_KernelIdeal_pre_diff_finite := fun m ρ _ => Cert.KernelIdeal.Gen.frame m ρ
theorem reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem referencePre : Cert.quiescent_ReferenceIdeal_pre_diff_finite := fun m ρ _ => reference m ρ trivial

theorem algebraic : Cert.algebraic_KernelIdeal_ReferenceIdeal_pre_diff_finite := by
  pair_intro
  · run_from Cert.KernelIdeal.Gen.run_main m g
  · run_from Cert.ReferenceIdeal.Value.run m' g'
    rw [Cert.ReferenceIdeal.Read.val_main_v74_eq, Cert.KernelIdeal.RefValue.final, (hagree c).1, (hagree c).2.1, (hagree c).2.2]
    exact (Cert.DiffEq.result _ _ _ (hpre c)).symm

end Cert.DiffClaim
-- ==== Proof.GmmRun.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.VecWindow
public import Idealize.ShloMosaic.Lib.UnfoldOut
public import Idealize.ShloMosaic.Lib.WordCmp
public import Idealize.ShloMosaic.Lib.Pipeline.Value

@[expose] public section

set_option maxRecDepth 16384

noncomputable section

namespace Cert.Kernel3Ideal.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the body's triples speak of. -/
abbrev Res (F : FTy → Type) : Type := MT nD τ sig Unit (Elt F) ℕ (UR sig nD τ) ℕ

/-- The two tables as the body is handed them, and one held at half the full share. -/
abbrev experts : Memref sig .tc .smem S576 .i32 := Memref.whole main_arg0
abbrev used : Memref sig .tc .smem S1 .i32 := Memref.whole main_arg1
abbrev TableBuf (c : Dev nD) {S : Shape} {e : EltTy} (M : Memref sig .tc .smem S e) : Type := Buf (Elt F) (M.view.loc (c : Thread nD τ))
abbrev tableHeld (c : Dev nD) {S : Shape} {e : EltTy} (M : Memref sig .tc .smem S e) (f : TableBuf (F := F) c M) : sProp (Res F) :=
  M.view.loc (c : Thread nD τ) ↦{fullShare.right} f

/-- The words the body reads: this tile's expert, the tile before's, the number of tiles in use. -/
abbrev expertWord (i : grid0.Coords) (c : Dev nD) (xt : TableBuf (F := F) c experts) : BitVec 32 :=
  experts.view.readAt (Elt F) (Rect.unit (s := S576) (k0_off1 i) S1.size (k0_off1_inb i)).toLoadRect xt (Shape.Idx.first (numel1_S1.symm ▸ Nat.one_pos))
abbrev lastWord (i : grid0.Coords) (c : Dev nD) (xt : TableBuf (F := F) c experts) : BitVec 32 :=
  experts.view.readAt (Elt F) (Rect.unit (s := S576) (k0_off2 i) S1.size (k0_off2_inb i)).toLoadRect xt (Shape.Idx.first (numel1_S1.symm ▸ Nat.one_pos))
abbrev usedWord (c : Dev nD) (xu : TableBuf (F := F) c used) : BitVec 32 :=
  used.view.readAt (Elt F) (Rect.unit (s := S1) ![0] S1.size inb_S1_S1_0).toLoadRect xu (Shape.Idx.first (numel1_S1.symm ▸ Nat.one_pos))

/-- Whether the body takes up an expert's weights: at the first tile and where the expert changes. -/
abbrev fresh (i : grid0.Coords) (w l : BitVec 32) : BitVec 1 :=
  Scalar.cmpi .ne (Scalar.extui (Scalar.ori (Scalar.cmpi .eq (BitVec.ofNat 32 (i 0).val) 0#32) (Scalar.cmpi .ne w l)) : BitVec 32) 0#32

/-- The body on whole buffers, the inputs at `x`, `g`, `u`, `d`, the kept weights at `a`, `b`, `e`, the tables at `xt` and `xu`: it ends with
    the inputs and the tables as they were, the kept weights at `a'`, `b'`, `e'` and the result at `o`. -/
def Runs (c : Dev nD) (i : grid0.Coords)
    (arg3 : Memref sig .tc .vmem S256x2048 .i32) (harg3 : arg3.IsWhole) (arg4 : Memref sig .tc .vmem S1x1x192x4096 .f32) (harg4 : arg4.IsWhole)
    (arg5 : Memref sig .tc .vmem S1x1x192x4096 .f32) (harg5 : arg5.IsWhole) (arg6 : Memref sig .tc .vmem S1x1x192x4096 .f32) (harg6 : arg6.IsWhole)
    (arg7 : Memref sig .tc .vmem S256x4096 .bf16) (harg7 : arg7.IsWhole) (arg8 : Memref sig .tc .vmem S192x4096 .bf16) (harg8 : arg8.IsWhole)
    (arg9 : Memref sig .tc .vmem S192x4096 .bf16) (harg9 : arg9.IsWhole) (arg10 : Memref sig .tc .vmem S192x4096 .bf16) (harg10 : arg10.IsWhole)
    (x : Vec F S256x2048 .i32) (g u d : Vec F S1x1x192x4096 .f32) (a b e a' b' e' : Vec F S192x4096 .bf16) (o : Vec F S256x4096 .bf16)
    (xt : TableBuf (F := F) c experts) (xu : TableBuf (F := F) c used) : Prop :=
  ∀ (E : Set ℕ) (K : PUnit → sProp (Res F)),
    iprop(owns (c : Thread nD τ) arg3 fullShare x ∗ owns (c : Thread nD τ) arg4 fullShare g ∗ owns (c : Thread nD τ) arg5 fullShare u
        ∗ owns (c : Thread nD τ) arg6 fullShare d ∗ (∃ o, owns (c : Thread nD τ) arg7 fullShare o)
        ∗ owns (c : Thread nD τ) arg8 fullShare a ∗ owns (c : Thread nD τ) arg9 fullShare b ∗ owns (c : Thread nD τ) arg10 fullShare e
        ∗ tableHeld c experts xt ∗ tableHeld c used xu
        ∗ (iprop(owns (c : Thread nD τ) arg3 fullShare x ∗ owns (c : Thread nD τ) arg4 fullShare g ∗ owns (c : Thread nD τ) arg5 fullShare u
            ∗ owns (c : Thread nD τ) arg6 fullShare d ∗ owns (c : Thread nD τ) arg7 fullShare o
            ∗ owns (c : Thread nD τ) arg8 fullShare a' ∗ owns (c : Thread nD τ) arg9 fullShare b' ∗ owns (c : Thread nD τ) arg10 fullShare e'
            ∗ tableHeld c experts xt ∗ tableHeld c used xu) -∗ K ⟨⟩))
      ⊢ wp frame (wpE (defs₀ (F := F)) Variants.none c none) E
          (cc0_gmm i experts (Memref.isWhole_whole _) used (Memref.isWhole_whole _) arg3 harg3 arg4 harg4 arg5 harg5 arg6 harg6 arg7 harg7 arg8 harg8 arg9 harg9 arg10 harg10) K

set_option maxHeartbeats 1000000 in
/-- A tile in use whose expert is new. -/
theorem fresh_used (c : Dev nD) (i : grid0.Coords)
    (arg3 : Memref sig .tc .vmem S256x2048 .i32) (harg3 : arg3.IsWhole) (arg4 : Memref sig .tc .vmem S1x1x192x4096 .f32) (harg4 : arg4.IsWhole)
    (arg5 : Memref sig .tc .vmem S1x1x192x4096 .f32) (harg5 : arg5.IsWhole) (arg6 : Memref sig .tc .vmem S1x1x192x4096 .f32) (harg6 : arg6.IsWhole)
    (arg7 : Memref sig .tc .vmem S256x4096 .bf16) (harg7 : arg7.IsWhole) (arg8 : Memref sig .tc .vmem S192x4096 .bf16) (harg8 : arg8.IsWhole)
    (arg9 : Memref sig .tc .vmem S192x4096 .bf16) (harg9 : arg9.IsWhole) (arg10 : Memref sig .tc .vmem S192x4096 .bf16) (harg10 : arg10.IsWhole)
    (x : Vec F S256x2048 .i32) (g u d : Vec F S1x1x192x4096 .f32) (a b e : Vec F S192x4096 .bf16)
    (xt : TableBuf (F := F) c experts) (xu : TableBuf (F := F) c used)
    (h1 : fresh i (expertWord i c xt) (lastWord i c xt) = 1#1) (h2 : k0_cond2 i (usedWord c xu) = 1#1) (h3 : ¬ k0_cond3 i (usedWord c xu) = 1#1) :
    Runs c i arg3 harg3 arg4 harg4 arg5 harg5 arg6 harg6 arg7 harg7 arg8 harg8 arg9 harg9 arg10 harg10 x g u d a b e (k0_pay1 g) (k0_pay2 u) (k0_pay3 d) (k0_pay4 x (k0_pay1 g) (k0_pay2 u) (k0_pay3 d)) xt xu := by
  unfold Runs
  intro E K
  simp only [cc0_gmm_eq_skeleton]; unfold cc0_gmm_skel
  unfold owns
  iintro ⟨⟨%f3, %hf3, H3⟩, ⟨%f4, %hf4, H4⟩, ⟨%f5, %hf5, H5⟩, ⟨%f6, %hf6, H6⟩, ⟨%o, %f7, -, H7⟩, ⟨%f8, %hf8, H8⟩, ⟨%f9, %hf9, H9⟩, ⟨%f10, %hf10, H10⟩, HT, HU, Hk⟩
  subst hf3 hf4 hf5 hf6 hf8 hf9 hf10
  sl_exec
  sl_step
  iapply Hk
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro
    exact (View.read_writes_full _ _ inb_S256x4096_S256x4096_0_0 _ []).trans (congr (congr (congr (congrArg k0_pay4 (View.readAt_full _ _ inb_S256x2048_S256x2048_0_0))
      ((View.readCov_full _ inb_S192x4096_S192x4096_0_0 inb_S192x4096_S192x4096_0_0 _ []).trans (congrArg k0_pay1 (View.readAt_full _ _ inb_S1x1x192x4096_S1x1x192x4096_0_0_0_0))))
      ((View.readCov_full _ inb_S192x4096_S192x4096_0_0 inb_S192x4096_S192x4096_0_0 _ []).trans (congrArg k0_pay2 (View.readAt_full _ _ inb_S1x1x192x4096_S1x1x192x4096_0_0_0_0))))
      ((View.readCov_full _ inb_S192x4096_S192x4096_0_0 inb_S192x4096_S192x4096_0_0 _ []).trans (congrArg k0_pay3 (View.readAt_full _ _ inb_S1x1x192x4096_S1x1x192x4096_0_0_0_0))))
  isplitl [H8]
  · iexists _; isplitr; swap; · iexact H8
    ipureintro
    exact (View.read_writes_full _ _ inb_S192x4096_S192x4096_0_0 _ []).trans (congrArg k0_pay1 (View.readAt_full _ _ inb_S1x1x192x4096_S1x1x192x4096_0_0_0_0))
  isplitl [H9]
  · iexists _; isplitr; swap; · iexact H9
    ipureintro
    exact (View.read_writes_full _ _ inb_S192x4096_S192x4096_0_0 _ []).trans (congrArg k0_pay2 (View.readAt_full _ _ inb_S1x1x192x4096_S1x1x192x4096_0_0_0_0))
  isplitl [H10]
  · iexists _; isplitr; swap; · iexact H10
    ipureintro
    exact (View.read_writes_full _ _ inb_S192x4096_S192x4096_0_0 _ []).trans (congrArg k0_pay3 (View.readAt_full _ _ inb_S1x1x192x4096_S1x1x192x4096_0_0_0_0))
  isplitl [HT]; · iexact HT
  iexact HU

set_option maxHeartbeats 1000000 in
/-- A tile in use with the expert of the tile before. -/
theorem kept_used (c : Dev nD) (i : grid0.Coords)
    (arg3 : Memref sig .tc .vmem S256x2048 .i32) (harg3 : arg3.IsWhole) (arg4 : Memref sig .tc .vmem S1x1x192x4096 .f32) (harg4 : arg4.IsWhole)
    (arg5 : Memref sig .tc .vmem S1x1x192x4096 .f32) (harg5 : arg5.IsWhole) (arg6 : Memref sig .tc .vmem S1x1x192x4096 .f32) (harg6 : arg6.IsWhole)
    (arg7 : Memref sig .tc .vmem S256x4096 .bf16) (harg7 : arg7.IsWhole) (arg8 : Memref sig .tc .vmem S192x4096 .bf16) (harg8 : arg8.IsWhole)
    (arg9 : Memref sig .tc .vmem S192x4096 .bf16) (harg9 : arg9.IsWhole) (arg10 : Memref sig .tc .vmem S192x4096 .bf16) (harg10 : arg10.IsWhole)
    (x : Vec F S256x2048 .i32) (g u d : Vec F S1x1x192x4096 .f32) (a b e : Vec F S192x4096 .bf16)
    (xt : TableBuf (F := F) c experts) (xu : TableBuf (F := F) c used)
    (h1 : ¬ fresh i (expertWord i c xt) (lastWord i c xt) = 1#1) (h2 : k0_cond2 i (usedWord c xu) = 1#1) (h3 : ¬ k0_cond3 i (usedWord c xu) = 1#1) :
    Runs c i arg3 harg3 arg4 harg4 arg5 harg5 arg6 harg6 arg7 harg7 arg8 harg8 arg9 harg9 arg10 harg10 x g u d a b e a b e (k0_pay4 x a b e) xt xu := by
  unfold Runs
  intro E K
  simp only [cc0_gmm_eq_skeleton]; unfold cc0_gmm_skel
  unfold owns
  iintro ⟨⟨%f3, %hf3, H3⟩, ⟨%f4, %hf4, H4⟩, ⟨%f5, %hf5, H5⟩, ⟨%f6, %hf6, H6⟩, ⟨%o, %f7, -, H7⟩, ⟨%f8, %hf8, H8⟩, ⟨%f9, %hf9, H9⟩, ⟨%f10, %hf10, H10⟩, HT, HU, Hk⟩
  subst hf3 hf4 hf5 hf6 hf8 hf9 hf10
  sl_exec
  sl_step
  iapply Hk
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro
    exact (View.read_writes_full _ _ inb_S256x4096_S256x4096_0_0 _ []).trans (congr (congr (congr (congrArg k0_pay4 (View.readAt_full _ _ inb_S256x2048_S256x2048_0_0))
      (View.readAt_full _ _ inb_S192x4096_S192x4096_0_0))
      (View.readAt_full _ _ inb_S192x4096_S192x4096_0_0))
      (View.readAt_full _ _ inb_S192x4096_S192x4096_0_0))
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    rfl
  isplitl [HT]; · iexact HT
  iexact HU

set_option maxHeartbeats 1000000 in
/-- A tile not in use at which the weights are taken up. -/
theorem fresh_unused (c : Dev nD) (i : grid0.Coords)
    (arg3 : Memref sig .tc .vmem S256x2048 .i32) (harg3 : arg3.IsWhole) (arg4 : Memref sig .tc .vmem S1x1x192x4096 .f32) (harg4 : arg4.IsWhole)
    (arg5 : Memref sig .tc .vmem S1x1x192x4096 .f32) (harg5 : arg5.IsWhole) (arg6 : Memref sig .tc .vmem S1x1x192x4096 .f32) (harg6 : arg6.IsWhole)
    (arg7 : Memref sig .tc .vmem S256x4096 .bf16) (harg7 : arg7.IsWhole) (arg8 : Memref sig .tc .vmem S192x4096 .bf16) (harg8 : arg8.IsWhole)
    (arg9 : Memref sig .tc .vmem S192x4096 .bf16) (harg9 : arg9.IsWhole) (arg10 : Memref sig .tc .vmem S192x4096 .bf16) (harg10 : arg10.IsWhole)
    (x : Vec F S256x2048 .i32) (g u d : Vec F S1x1x192x4096 .f32) (a b e : Vec F S192x4096 .bf16)
    (xt : TableBuf (F := F) c experts) (xu : TableBuf (F := F) c used)
    (h1 : fresh i (expertWord i c xt) (lastWord i c xt) = 1#1) (h2 : ¬ k0_cond2 i (usedWord c xu) = 1#1) (h3 : k0_cond3 i (usedWord c xu) = 1#1) :
    Runs c i arg3 harg3 arg4 harg4 arg5 harg5 arg6 harg6 arg7 harg7 arg8 harg8 arg9 harg9 arg10 harg10 x g u d a b e (k0_pay1 g) (k0_pay2 u) (k0_pay3 d) k0_pay5 xt xu := by
  unfold Runs
  intro E K
  simp only [cc0_gmm_eq_skeleton]; unfold cc0_gmm_skel
  unfold owns
  iintro ⟨⟨%f3, %hf3, H3⟩, ⟨%f4, %hf4, H4⟩, ⟨%f5, %hf5, H5⟩, ⟨%f6, %hf6, H6⟩, ⟨%o, %f7, -, H7⟩, ⟨%f8, %hf8, H8⟩, ⟨%f9, %hf9, H9⟩, ⟨%f10, %hf10, H10⟩, HT, HU, Hk⟩
  subst hf3 hf4 hf5 hf6 hf8 hf9 hf10
  sl_exec
  sl_step
  iapply Hk
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro
    exact View.read_writes_full _ _ inb_S256x4096_S256x4096_0_0 _ []
  isplitl [H8]
  · iexists _; isplitr; swap; · iexact H8
    ipureintro
    exact (View.read_writes_full _ _ inb_S192x4096_S192x4096_0_0 _ []).trans (congrArg k0_pay1 (View.readAt_full _ _ inb_S1x1x192x4096_S1x1x192x4096_0_0_0_0))
  isplitl [H9]
  · iexists _; isplitr; swap; · iexact H9
    ipureintro
    exact (View.read_writes_full _ _ inb_S192x4096_S192x4096_0_0 _ []).trans (congrArg k0_pay2 (View.readAt_full _ _ inb_S1x1x192x4096_S1x1x192x4096_0_0_0_0))
  isplitl [H10]
  · iexists _; isplitr; swap; · iexact H10
    ipureintro
    exact (View.read_writes_full _ _ inb_S192x4096_S192x4096_0_0 _ []).trans (congrArg k0_pay3 (View.readAt_full _ _ inb_S1x1x192x4096_S1x1x192x4096_0_0_0_0))
  isplitl [HT]; · iexact HT
  iexact HU

set_option maxHeartbeats 1000000 in
/-- A tile not in use with the expert of the tile before. -/
theorem kept_unused (c : Dev nD) (i : grid0.Coords)
    (arg3 : Memref sig .tc .vmem S256x2048 .i32) (harg3 : arg3.IsWhole) (arg4 : Memref sig .tc .vmem S1x1x192x4096 .f32) (harg4 : arg4.IsWhole)
    (arg5 : Memref sig .tc .vmem S1x1x192x4096 .f32) (harg5 : arg5.IsWhole) (arg6 : Memref sig .tc .vmem S1x1x192x4096 .f32) (harg6 : arg6.IsWhole)
    (arg7 : Memref sig .tc .vmem S256x4096 .bf16) (harg7 : arg7.IsWhole) (arg8 : Memref sig .tc .vmem S192x4096 .bf16) (harg8 : arg8.IsWhole)
    (arg9 : Memref sig .tc .vmem S192x4096 .bf16) (harg9 : arg9.IsWhole) (arg10 : Memref sig .tc .vmem S192x4096 .bf16) (harg10 : arg10.IsWhole)
    (x : Vec F S256x2048 .i32) (g u d : Vec F S1x1x192x4096 .f32) (a b e : Vec F S192x4096 .bf16)
    (xt : TableBuf (F := F) c experts) (xu : TableBuf (F := F) c used)
    (h1 : ¬ fresh i (expertWord i c xt) (lastWord i c xt) = 1#1) (h2 : ¬ k0_cond2 i (usedWord c xu) = 1#1) (h3 : k0_cond3 i (usedWord c xu) = 1#1) :
    Runs c i arg3 harg3 arg4 harg4 arg5 harg5 arg6 harg6 arg7 harg7 arg8 harg8 arg9 harg9 arg10 harg10 x g u d a b e a b e k0_pay5 xt xu := by
  unfold Runs
  intro E K
  simp only [cc0_gmm_eq_skeleton]; unfold cc0_gmm_skel
  unfold owns
  iintro ⟨⟨%f3, %hf3, H3⟩, ⟨%f4, %hf4, H4⟩, ⟨%f5, %hf5, H5⟩, ⟨%f6, %hf6, H6⟩, ⟨%o, %f7, -, H7⟩, ⟨%f8, %hf8, H8⟩, ⟨%f9, %hf9, H9⟩, ⟨%f10, %hf10, H10⟩, HT, HU, Hk⟩
  subst hf3 hf4 hf5 hf6 hf8 hf9 hf10
  sl_exec
  sl_step
  iapply Hk
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro
    exact View.read_writes_full _ _ inb_S256x4096_S256x4096_0_0 _ []
  isplitl [H8]
  · iexists _; isplitr; swap; · iexact H8
    ipureintro
    rfl
  isplitl [H9]
  · iexists _; isplitr; swap; · iexact H9
    ipureintro
    rfl
  isplitl [H10]
  · iexists _; isplitr; swap; · iexact H10
    ipureintro
    rfl
  isplitl [HT]; · iexact HT
  iexact HU

/-- The two last conditions exclude each other, and one of them holds. -/
theorem cond_iff (i : grid0.Coords) (w : BitVec 32) : k0_cond3 i w = 1#1 ↔ ¬ k0_cond2 i w = 1#1 := by
  unfold k0_cond2 k0_cond3
  simp only [Scalar.cmpi, Scalar.extui]
  simp only [IntOp.cmpi, BitVec.sle_eq_not_slt]
  cases BitVec.slt (BitVec.ofNat 32 (i 0).val) w <;> decide

/-- The body in every case. -/
theorem runs (c : Dev nD) (i : grid0.Coords)
    (arg3 : Memref sig .tc .vmem S256x2048 .i32) (harg3 : arg3.IsWhole) (arg4 : Memref sig .tc .vmem S1x1x192x4096 .f32) (harg4 : arg4.IsWhole)
    (arg5 : Memref sig .tc .vmem S1x1x192x4096 .f32) (harg5 : arg5.IsWhole) (arg6 : Memref sig .tc .vmem S1x1x192x4096 .f32) (harg6 : arg6.IsWhole)
    (arg7 : Memref sig .tc .vmem S256x4096 .bf16) (harg7 : arg7.IsWhole) (arg8 : Memref sig .tc .vmem S192x4096 .bf16) (harg8 : arg8.IsWhole)
    (arg9 : Memref sig .tc .vmem S192x4096 .bf16) (harg9 : arg9.IsWhole) (arg10 : Memref sig .tc .vmem S192x4096 .bf16) (harg10 : arg10.IsWhole)
    (x : Vec F S256x2048 .i32) (g u d : Vec F S1x1x192x4096 .f32) (a b e : Vec F S192x4096 .bf16)
    (xt : TableBuf (F := F) c experts) (xu : TableBuf (F := F) c used) (a' b' e' : Vec F S192x4096 .bf16) (o : Vec F S256x4096 .bf16)
    (hn : fresh i (expertWord i c xt) (lastWord i c xt) = 1#1 → a' = k0_pay1 g ∧ b' = k0_pay2 u ∧ e' = k0_pay3 d)
    (hk : ¬ fresh i (expertWord i c xt) (lastWord i c xt) = 1#1 → a' = a ∧ b' = b ∧ e' = e)
    (hu : k0_cond2 i (usedWord c xu) = 1#1 → o = k0_pay4 x a' b' e') (hz : ¬ k0_cond2 i (usedWord c xu) = 1#1 → o = k0_pay5) :
    Runs c i arg3 harg3 arg4 harg4 arg5 harg5 arg6 harg6 arg7 harg7 arg8 harg8 arg9 harg9 arg10 harg10 x g u d a b e a' b' e' o xt xu := by
  by_cases h2 : k0_cond2 i (usedWord c xu) = 1#1
  · have h3 : ¬ k0_cond3 i (usedWord c xu) = 1#1 := fun h => (cond_iff i _).1 h h2
    rw [hu h2]
    by_cases h1 : fresh i (expertWord i c xt) (lastWord i c xt) = 1#1
    · obtain ⟨rfl, rfl, rfl⟩ := hn h1; exact fresh_used _ _ _ _ _ _ _ _ _ _ _ _ _ _ _ _ _ _ _ _ _ _ _ _ _ _ _ h1 h2 h3
    · obtain ⟨rfl, rfl, rfl⟩ := hk h1; exact kept_used _ _ _ _ _ _ _ _ _ _ _ _ _ _ _ _ _ _ _ _ _ _ _ _ _ _ _ h1 h2 h3
  · have h3 : k0_cond3 i (usedWord c xu) = 1#1 := (cond_iff i _).2 h2
    rw [hz h2]
    by_cases h1 : fresh i (expertWord i c xt) (lastWord i c xt) = 1#1
    · obtain ⟨rfl, rfl, rfl⟩ := hn h1; exact fresh_unused _ _ _ _ _ _ _ _ _ _ _ _ _ _ _ _ _ _ _ _ _ _ _ _ _ _ _ h1 h2 h3
    · obtain ⟨rfl, rfl, rfl⟩ := hk h1; exact kept_unused _ _ _ _ _ _ _ _ _ _ _ _ _ _ _ _ _ _ _ _ _ _ _ _ _ _ _ h1 h2 h3

end Cert.Kernel3Ideal.Run

end
-- ==== Proof.GmmFrame.lean ====
module

public import proofs.«01_k».proof.Proof.GmmRun

@[expose] public section

set_option maxRecDepth 16384

noncomputable section

namespace Cert.Kernel3Ideal.Run

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The words of the tables -/

theorem off1_val (i : grid0.Coords) : k0_off1 i 0 = (i 0).val := by
  show (BitVec.ofNat 32 (i 0).val).toNat = (i 0).val
  rw [BitVec.toNat_ofNat]; exact Nat.mod_eq_of_lt (Nat.lt_trans (i 0).isLt (by decide))

theorem off2_fin : ∀ n : Fin 576, (Scalar.maxsi (Scalar.subi (BitVec.ofNat 32 n.val) 1#32) 0#32).toNat = n.val - 1 := by decide +kernel

theorem off2_val (i : grid0.Coords) : k0_off2 i 0 = (i 0).val - 1 := off2_fin (i 0)

/-- The place in the first table of the tile numbered `n`. -/
abbrev place (n : Fin 576) : S576.Idx := fun a => ⟨n.val, by obtain rfl : a = (0 : Fin 1) := Subsingleton.elim (α := Fin 1) _ _; exact n.isLt⟩
abbrev first : S1.Idx := fun a => ⟨0, by obtain rfl : a = (0 : Fin 1) := Subsingleton.elim (α := Fin 1) _ _; decide⟩

theorem expertWord_eq (i : grid0.Coords) (c : Dev nD) (xt : TableBuf (F := F) c experts) : expertWord i c xt = xt (place (i 0)) := by
  show xt _ = xt _
  congr 1
  funext a
  obtain rfl : a = (0 : Fin 1) := Subsingleton.elim (α := Fin 1) _ _
  apply Fin.ext
  show k0_off1 i 0 + 1 * 0 = (i 0).val
  rw [off1_val]; omega

theorem lastWord_eq (i : grid0.Coords) (c : Dev nD) (xt : TableBuf (F := F) c experts) :
    lastWord i c xt = xt (place ⟨(i 0).val - 1, Nat.lt_of_le_of_lt (Nat.sub_le _ _) (i 0).isLt⟩) := by
  show xt _ = xt _
  congr 1
  funext a
  obtain rfl : a = (0 : Fin 1) := Subsingleton.elim (α := Fin 1) _ _
  apply Fin.ext
  show k0_off2 i 0 + 1 * 0 = (i 0).val - 1
  rw [off2_val]; omega

theorem usedWord_eq (c : Dev nD) (xu : TableBuf (F := F) c used) : usedWord c xu = xu first := by
  show xu _ = xu _
  congr 1
  funext a
  obtain rfl : a = (0 : Fin 1) := Subsingleton.elim (α := Fin 1) _ _
  rfl

theorem fresh_fin : ∀ n : Fin 576, Scalar.cmpi .eq (BitVec.ofNat 32 n.val) 0#32 = if n.val = 0 then 1#1 else 0#1 := by decide +kernel

/-- Weights are taken up at the first tile, and where the expert is not the one of the tile before. -/
theorem fresh_of_not (i : grid0.Coords) (w l : BitVec 32) (h : ¬ fresh i w l = 1#1) : (i 0).val ≠ 0 ∧ w = l := by
  have e := fresh_fin (i 0)
  constructor
  · intro h0
    rw [if_pos h0] at e
    apply h
    show Scalar.cmpi .ne (Scalar.extui (Scalar.ori (Scalar.cmpi .eq (BitVec.ofNat 32 (i 0).val) 0#32) (Scalar.cmpi .ne w l)) : BitVec 32) 0#32 = 1#1
    have e' : Scalar.cmpi .eq (BitVec.ofNat 32 (i 0).val) 0#32 = 1#1 := e
    rw [e']
    generalize Scalar.cmpi .ne w l = b
    revert b; decide
  · by_contra hne
    apply h
    show Scalar.cmpi .ne (Scalar.extui (Scalar.ori (Scalar.cmpi .eq (BitVec.ofNat 32 (i 0).val) 0#32) (Scalar.cmpi .ne w l)) : BitVec 32) 0#32 = 1#1
    have e' : Scalar.cmpi .ne w l = 1#1 := by
      show BitVec.ofBool (w != l) = 1#1
      rw [bne_iff_ne.2 hne]; rfl
    rw [e']
    generalize Scalar.cmpi .eq (BitVec.ofNat 32 (i 0).val) 0#32 = b
    revert b; decide

variable (m : (ℓ : Loc nD τ sig) → Buf (Elt F) ℓ) (ρ : Dev nD → PrngReg)

/-! ## The arrays and the tables as launched -/

abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT0_eq (c : Dev nD) : (Pipeline.ΦT pre0 (tbl m) c : sProp (Res F)) = iprop(tableHeld c experts (tbl m 0) ∗ tableHeld c used (tbl m 1)) := by
  unfold Pipeline.ΦT Pipeline.prefHeld
  exact bigSep_univ_eq_bigSepL [(0 : Fin 2), (1 : Fin 2)] (by decide) (by decide) _

/-- The block of window `w` at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_of (hO : Ok m) {c : Dev nD} (dat : Dat τ (Elt F) Unit ℕ (UR sig nD τ) ℕ (cfgM m hO) c)
    (hA0 : dat.A 0 = V m c (Pipeline.arrRef spec0 0)) (hA1 : dat.A 1 = V m c (Pipeline.arrRef spec0 1))
    (hA2 : dat.A 2 = V m c (Pipeline.arrRef spec0 2)) (hA3 : dat.A 3 = V m c (Pipeline.arrRef spec0 3))
    (h0 : ∀ t, dat.after 0 t = iblk m hO c 0 t) (h1 : ∀ t, dat.after 1 t = iblk m hO c 1 t)
    (h2 : ∀ t, dat.after 2 t = iblk m hO c 2 t) (h3 : ∀ t, dat.after 3 t = iblk m hO c 3 t) (t : Fin (cfgM m hO).N) :
    (∀ d, dat.before 0 t d = iblk m hO c 0 t) ∧ (∀ d, dat.before 1 t d = iblk m hO c 1 t)
      ∧ (∀ d, dat.before 2 t d = iblk m hO c 2 t) ∧ (∀ d, dat.before 3 t d = iblk m hO c 3 t) :=
  ⟨fun d => (dat.before_in_eq_fetched 0 rfl (fun _ => rfl) (fun _ _ _ => rfl) (fun t => by rw [h0]; unfold Dat.blockOf iblk; rw [hA0]; try rfl) t d).trans
      (by unfold Dat.fetched Dat.blockOf iblk; rw [hA0]; try rfl),
    fun d => (dat.before_in_eq_fetched 1 rfl (fun _ => rfl) (fun _ _ _ => rfl) (fun t => by rw [h1]; unfold Dat.blockOf iblk; rw [hA1]; try rfl) t d).trans
      (by unfold Dat.fetched Dat.blockOf iblk; rw [hA1]; try rfl),
    fun d => (dat.before_in_eq_fetched 2 rfl (fun _ => rfl) (fun _ _ _ => rfl) (fun t => by rw [h2]; unfold Dat.blockOf iblk; rw [hA2]; try rfl) t d).trans
      (by unfold Dat.fetched Dat.blockOf iblk; rw [hA2]; try rfl),
    fun d => (dat.before_in_eq_fetched 3 rfl (fun _ => rfl) (fun _ _ _ => rfl) (fun t => by rw [h3]; unfold Dat.blockOf iblk; rw [hA3]; try rfl) t d).trans
      (by unfold Dat.fetched Dat.blockOf iblk; rw [hA3]; try rfl)⟩

/-- The body at point `t`, on what the pipeline calls it with. -/
abbrev bodyAt0 (a : (pcfg0 (F := F)).Adm) (t : Fin (cfg0 a).N) : Prog (TpuEff nD τ sig (Elt F) Λ₀ .tc) PUnit :=
  cc0_gmm (grid0.coords t) experts (Memref.isWhole_whole _) used (Memref.isWhole_whole _)
    (spec0_0.stage ((cfg0 a).slots t 0)) (hstage0_0 (((cfg0 a).slots t 0).cast nbuf0_0)) (spec0_1.stage ((cfg0 a).slots t 1)) (hstage0_1 (((cfg0 a).slots t 1).cast nbuf0_1))
    (spec0_2.stage ((cfg0 a).slots t 2)) (hstage0_2 (((cfg0 a).slots t 2).cast nbuf0_2)) (spec0_3.stage ((cfg0 a).slots t 3)) (hstage0_3 (((cfg0 a).slots t 3).cast nbuf0_3))
    (spec0_4.stage ((cfg0 a).slots t 4)) (hstage0_4 (((cfg0 a).slots t 4).cast nbuf0_4))
    (Memref.whole cc0_scratch0) (Memref.isWhole_whole _) (Memref.whole cc0_scratch1) (Memref.isWhole_whole _) (Memref.whole cc0_scratch2) (Memref.isWhole_whole _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-! ## What the body keeps from point to point -/

/-- The three weights of point `t` as the body keeps them. -/
def gateW (hO : Ok m) (c : Dev nD) (t : Fin (cfgM m hO).N) : Vec F S192x4096 .bf16 := k0_pay1 (iblk m hO c 1 t)
def upW (hO : Ok m) (c : Dev nD) (t : Fin (cfgM m hO).N) : Vec F S192x4096 .bf16 := k0_pay2 (iblk m hO c 2 t)
def downW (hO : Ok m) (c : Dev nD) (t : Fin (cfgM m hO).N) : Vec F S192x4096 .bf16 := k0_pay3 (iblk m hO c 3 t)

/-- The tile the body leaves at point `t`. -/
def tile (hO : Ok m) (c : Dev nD) (t : Fin (cfgM m hO).N) : Vec F S256x4096 .bf16 :=
  if k0_cond2 (grid0.coords t) (usedWord (F := F) c (tbl m 1)) = 1#1 then k0_pay4 (iblk m hO c 0 t) (gateW m hO c t) (upW m hO c t) (downW m hO c t)
  else k0_pay5

theorem transform_val (pf : pre0.Contents (Elt F)) (i : grid0.Coords) :
    cc0_transform_1 k0_off1_inb numel1_S1 pf i = ![0, (pf 0 (place (i 0)) : BitVec 32).toNat, 0, 0] := by
  unfold cc0_transform_1
  have e := expertWord_eq (F := F) i 0 (pf 0)
  have e' : (pf.at 0 (Rect.unit (s := S576) ![(Scalar.indexCast (BitVec.ofNat 32 (i 0).val)).toNat] S1.size (k0_off1_inb i)) numel1_S1 : BitVec 32) = pf 0 (place (i 0)) := e
  simp only [e']
  rfl

theorem index1 (hO : Ok m) (t s : Fin (cfgM m hO).N)
    (h : tbl m 0 (place (grid0.coords t 0)) = tbl m 0 (place (grid0.coords s 0))) :
    cc0_transform_1 k0_off1_inb numel1_S1 (tbl m) (grid0.coords t) = cc0_transform_1 k0_off1_inb numel1_S1 (tbl m) (grid0.coords s) := by
  rw [transform_val, transform_val, h]

/-- The same expert at two points: the same blocks of the weights. -/
theorem same_blocks (hO : Ok m) (c : Dev nD) (t s : Fin (cfgM m hO).N)
    (h : tbl m 0 (place (grid0.coords t 0)) = tbl m 0 (place (grid0.coords s 0))) :
    gateW m hO c t = gateW m hO c s ∧ upW m hO c t = upW m hO c s ∧ downW m hO c t = downW m hO c s := by
  have i1 : ((cfgM m hO).win 1).index t = ((cfgM m hO).win 1).index s := index1 m hO t s h
  have i2 : ((cfgM m hO).win 2).index t = ((cfgM m hO).win 2).index s := index1 m hO t s h
  have i3 : ((cfgM m hO).win 3).index t = ((cfgM m hO).win 3).index s := index1 m hO t s h
  have b1 : iblk m hO c 1 t = iblk m hO c 1 s := by
    funext j
    unfold iblk
    rw [View.read_apply, View.read_apply]
    show _root_.cast _ (V m c (Pipeline.arrRef spec0 1) (((cfgM m hO).win 1).arr.view.emb ((((cfgM m hO).win 1).rect t).emb _)))
      = _root_.cast _ (V m c (Pipeline.arrRef spec0 1) (((cfgM m hO).win 1).arr.view.emb ((((cfgM m hO).win 1).rect s).emb _)))
    congr 3
    funext a; apply Fin.ext
    rw [Rect.emb_apply, Rect.emb_apply]
    show ((cfgM m hO).win 1).kind.off (((cfgM m hO).win 1).index t a) (((cfgM m hO).win 1).size a) + 1 * (j a).val
      = ((cfgM m hO).win 1).kind.off (((cfgM m hO).win 1).index s a) (((cfgM m hO).win 1).size a) + 1 * (j a).val
    rw [i1]
  have b2 : iblk m hO c 2 t = iblk m hO c 2 s := by
    funext j
    unfold iblk
    rw [View.read_apply, View.read_apply]
    show _root_.cast _ (V m c (Pipeline.arrRef spec0 2) (((cfgM m hO).win 2).arr.view.emb ((((cfgM m hO).win 2).rect t).emb _)))
      = _root_.cast _ (V m c (Pipeline.arrRef spec0 2) (((cfgM m hO).win 2).arr.view.emb ((((cfgM m hO).win 2).rect s).emb _)))
    congr 3
    funext a; apply Fin.ext
    rw [Rect.emb_apply, Rect.emb_apply]
    show ((cfgM m hO).win 2).kind.off (((cfgM m hO).win 2).index t a) (((cfgM m hO).win 2).size a) + 1 * (j a).val
      = ((cfgM m hO).win 2).kind.off (((cfgM m hO).win 2).index s a) (((cfgM m hO).win 2).size a) + 1 * (j a).val
    rw [i2]
  have b3 : iblk m hO c 3 t = iblk m hO c 3 s := by
    funext j
    unfold iblk
    rw [View.read_apply, View.read_apply]
    show _root_.cast _ (V m c (Pipeline.arrRef spec0 3) (((cfgM m hO).win 3).arr.view.emb ((((cfgM m hO).win 3).rect t).emb _)))
      = _root_.cast _ (V m c (Pipeline.arrRef spec0 3) (((cfgM m hO).win 3).arr.view.emb ((((cfgM m hO).win 3).rect s).emb _)))
    congr 3
    funext a; apply Fin.ext
    rw [Rect.emb_apply, Rect.emb_apply]
    show ((cfgM m hO).win 3).kind.off (((cfgM m hO).win 3).index t a) (((cfgM m hO).win 3).size a) + 1 * (j a).val
      = ((cfgM m hO).win 3).kind.off (((cfgM m hO).win 3).index s a) (((cfgM m hO).win 3).size a) + 1 * (j a).val
    rw [i3]
  unfold gateW upW downW
  exact ⟨congrArg k0_pay1 b1, congrArg k0_pay2 b2, congrArg k0_pay3 b3⟩

/-- Before point `t`: the kept weights are those of the point before, if there is one. -/
def Kept (hO : Ok m) (c : Dev nD) (n : ℕ) (a b e : Vec F S192x4096 .bf16) : Prop :=
  ∀ s : Fin (cfgM m hO).N, s.val + 1 = n → a = gateW m hO c s ∧ b = upW m hO c s ∧ e = downW m hO c s

def inv (hO : Ok m) (c : Dev nD) (n : ℕ) : sProp (Res F) :=
  iprop((∃ r, prngReg c r)
    ∗ (∃ a, ∃ b, ∃ e, ⌜Kept m hO c n a b e⌝ ∗ owns (c : Thread nD τ) (Memref.whole cc0_scratch0) fullShare a
        ∗ owns (c : Thread nD τ) (Memref.whole cc0_scratch1) fullShare b ∗ owns (c : Thread nD τ) (Memref.whole cc0_scratch2) fullShare e)
    ∗ tableHeld c experts (tbl m 0) ∗ tableHeld c used (tbl m 1))

/-- The pipeline's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => tile m hO c t
  Φ t := inv m hO c t.val
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = tile m hO c t := by dsimp only [dats]; try rfl

theorem before0 (hO : Ok m) (c : Dev nD) (t : Fin (cfgM m hO).N) :
    (∀ d, (dats m hO 0 c).before 0 t d = iblk m hO c 0 t) ∧ (∀ d, (dats m hO 0 c).before 1 t d = iblk m hO c 1 t)
      ∧ (∀ d, (dats m hO 0 c).before 2 t d = iblk m hO c 2 t) ∧ (∀ d, (dats m hO 0 c).before 3 t d = iblk m hO c 3 t) :=
  before_of m hO (dats m hO 0 c) (A_eq m hO c 0) (A_eq m hO c 1) (A_eq m hO c 2) (A_eq m hO c 3) (after0_0 m hO c) (after0_1 m hO c)
    (after0_2 m hO c) (after0_3 m hO c) t

theorem coord_val (t : Fin grid0.N) : (grid0.coords t 0).val = t.val := by
  rw [Pipeline.Grid.coords_val t 0 (S := 1) (B := 576) (by decide) rfl, Nat.div_one]
  exact Nat.mod_eq_of_lt (lt_of_lt_of_eq t.isLt N_0)

/-- Weights not taken up at a point are those of the point before. -/
theorem kept_step (hO : Ok m) (c : Dev nD) (t : Fin (cfgM m hO).N) (a b e : Vec F S192x4096 .bf16) (hK : Kept m hO c t.val a b e)
    (h : ¬ fresh (grid0.coords t) (expertWord (F := F) (grid0.coords t) c (tbl m 0)) (lastWord (F := F) (grid0.coords t) c (tbl m 0)) = 1#1) :
    gateW m hO c t = a ∧ upW m hO c t = b ∧ downW m hO c t = e := by
  obtain ⟨h0, hw⟩ := fresh_of_not _ _ _ h
  have hw := (expertWord_eq (F := F) (grid0.coords t) c (tbl m 0)).symm.trans (hw.trans (lastWord_eq (F := F) (grid0.coords t) c (tbl m 0)))
  have hc : (grid0.coords t 0).val = t.val := coord_val t
  let s : Fin (cfgM m hO).N := ⟨t.val - 1, lt_of_le_of_lt (Nat.sub_le _ _) t.isLt⟩
  have hs : s.val + 1 = t.val := by show t.val - 1 + 1 = t.val; omega
  have hcs : (grid0.coords s 0).val = t.val - 1 := coord_val s
  obtain ⟨rfl, rfl, rfl⟩ := hK s hs
  apply same_blocks m hO c t s
  refine hw.trans (congrArg (fun n => tbl m 0 (place n)) (Fin.ext ?_))
  show (grid0.coords t 0).val - 1 = (grid0.coords s 0).val
  rw [hcs, hc]

/-! ## The body obligation -/

abbrev ms0_0 (hO : Ok m) (t : Fin (cfgM m hO).N) : Memref sig .tc .vmem S256x2048 .i32 := spec0_0.stage ((cfgM m hO).slots t 0)
abbrev ms0_1 (hO : Ok m) (t : Fin (cfgM m hO).N) : Memref sig .tc .vmem S1x1x192x4096 .f32 := spec0_1.stage ((cfgM m hO).slots t 1)
abbrev ms0_2 (hO : Ok m) (t : Fin (cfgM m hO).N) : Memref sig .tc .vmem S1x1x192x4096 .f32 := spec0_2.stage ((cfgM m hO).slots t 2)
abbrev ms0_3 (hO : Ok m) (t : Fin (cfgM m hO).N) : Memref sig .tc .vmem S1x1x192x4096 .f32 := spec0_3.stage ((cfgM m hO).slots t 3)
abbrev ms0_4 (hO : Ok m) (t : Fin (cfgM m hO).N) : Memref sig .tc .vmem S256x4096 .bf16 := spec0_4.stage ((cfgM m hO).slots t 4)

def bodyPre (hO : Ok m) (c : Dev nD) (t : Fin (cfgM m hO).N) : sProp (Res F) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

def bodyPost (hO : Ok m) (c : Dev nD) (t : Fin (cfgM m hO).N) : sProp (Res F) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [(before0 m hO c t).1, (before0 m hO c t).2.1, (before0 m hO c t).2.2.1, (before0 m hO c t).2.2.2]
  rw [show (dats m hO 0 c).owesAt () t.succ = (dats m hO 0 c).owesAt () t.castSucc from rfl,
    after0_0, after0_1, after0_2, after0_3, after0_4]
  rw [show (dats m hO 0 c).Φ t.castSucc = inv m hO c t.val from rfl, show (dats m hO 0 c).Φ t.succ = inv m hO c (t.val + 1) from rfl]
  unfold inv
  iintro ⟨⟨HP, ⟨%a, %b, %e, %hK, HA, HB, HE⟩, HT, HU⟩, Ho, ⟨%d0, H0⟩, ⟨%d1, H1⟩, ⟨%d2, H2⟩, ⟨%d3, H3⟩, ⟨%d4, H4⟩⟩
  iapply ((runs c (grid0.coords t) _ _ _ _ _ _ _ _ _ _ _ _ _ _ _ _ (iblk m hO c 0 t) (iblk m hO c 1 t) (iblk m hO c 2 t) (iblk m hO c 3 t) a b e
    (tbl m 0) (tbl m 1) (gateW m hO c t) (upW m hO c t) (downW m hO c t) (tile m hO c t) (fun _ => ⟨rfl, rfl, rfl⟩) (kept_step m hO c t a b e hK)
    (fun h => if_pos h) (fun h => if_neg h)) Set.univ _)
  isplitl [H0]; · iexact H0
  isplitl [H1]; · iexact H1
  isplitl [H2]; · iexact H2
  isplitl [H3]; · iexact H3
  isplitl [H4]; · iexists _; iexact H4
  isplitl [HA]; · iexact HA
  isplitl [HB]; · iexact HB
  isplitl [HE]; · iexact HE
  isplitl [HT]; · iexact HT
  isplitl [HU]; · iexact HU
  iintro ⟨H0, H1, H2, H3, H4, HA, HB, HE, HT, HU⟩
  isplitl [HP HA HB HE HT HU]
  · isplitl [HP]; · iexact HP
    isplitl [HA HB HE]
    · iexists _; iexists _; iexists _
      isplitr
      swap
      · isplitl [HA]; · iexact HA
        isplitl [HB]; · iexact HB
        iexact HE
      ipureintro
      intro s hs
      have : s = t := Fin.ext (Nat.succ.inj hs)
      subst this
      exact ⟨rfl, rfl, rfl⟩
    isplitl [HT]; · iexact HT
    iexact HU
  isplitl [Ho]; · iexact Ho
  isplitl [H0]; · iexact H0
  isplitl [H1]; · iexact H1
  isplitl [H2]; · iexact H2
  isplitl [H3]; · iexact H3
  iexact H4

theorem some_branch (i : grid0.Coords) (w : BitVec 32) : (!(k0_cond2 i w == 1#1) && !(k0_cond3 i w == 1#1)) = false := by
  by_cases h : k0_cond2 i w = 1#1
  · rw [h]; rfl
  · rw [(cond_iff _ _).2 h, Bool.and_comm]; rfl

/-- The body stores a tile at every point. -/
theorem busy (hO : Ok m) (t : Fin (cfgM m hO).N) : (cfgM m hO).idle 4 ((cfgM m hO).grid.coords t) = false :=
  some_branch (grid0.coords t) _

theorem chosen (b : Bool) (X Y : sProp (Res F)) : b = false → (Y ⊢ (match b with | true => X | false => Y)) := by
  rintro rfl; exact .rfl

theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  exact sep_mono .rfl (sep_mono .rfl (sep_mono .rfl (sep_mono .rfl (sep_mono .rfl (sep_mono .rfl (chosen _ _ _ (busy m hO t)))))))

/-! ## The run -/

theorem enter (hO : Ok m) (c : Dev nD) : iprop(Pipeline.ΦA spec0 c ∗ Pipeline.ΦT pre0 (tbl m) c) ⊢ (dats (F := F) m hO 0 c).Φ 0 := by
  rw [PhiT0_eq, show (dats m hO 0 c).Φ 0 = inv m hO c 0 from rfl]
  unfold Pipeline.ΦA inv
  rw [scopedRest0_eq]
  iintro ⟨⟨⟨⟨%a, HA⟩, ⟨%b, HB⟩, ⟨%e, HE⟩⟩, HP⟩, HT, HU⟩
  isplitl [HP]; · iexact HP
  isplitl [HA HB HE]
  · iexists a; iexists b; iexists e
    isplitr
    swap
    · rw [owns_whole, owns_whole, owns_whole]
      isplitl [HA]; · iexact HA
      isplitl [HB]; · iexact HB
      iexact HE
    ipureintro
    intro s hs
    exact absurd hs (Nat.succ_ne_zero _)
  isplitl [HT]; · iexact HT
  iexact HU

theorem leave (hO : Ok m) (c : Dev nD) : (dats (F := F) m hO 0 c).Φ (Fin.last (cfgM m hO).N) ⊢ (Pipeline.ΦA spec0 c : sProp (Res F)) := by
  rw [show (dats m hO 0 c).Φ (Fin.last (cfgM m hO).N) = inv m hO c (cfgM m hO).N from rfl]
  unfold Pipeline.ΦA inv
  rw [scopedRest0_eq]
  simp only [owns_whole]
  iintro ⟨HP, ⟨%a, %b, %e, -, HA, HB, HE⟩, -, -⟩
  isplitl [HA HB HE]
  · isplitl [HA]; · iexists a; iexact HA
    isplitl [HB]; · iexists b; iexact HB
    iexists e; iexact HE
  iexact HP

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := enter m hO) (hout := leave m hO)

/-- The run: the arguments as they were, the result at what the points left, every counter at zero. -/
theorem run_result (hO : Ok m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v0) = (dats m hO 0 c).arrAt 4 (cfgM m hO).N)
      ∧ r.2.sem = fun _ => 0) :=
  (θ_run defs _ _).mono (fun _ h => ⟨fun c => ⟨⟨((h.1 c).2 main_arg0 (by decide : main_arg0 ∈ Pipeline.restRefs sig spec0)),
      ((h.1 c).2 main_arg1 (by decide : main_arg1 ∈ Pipeline.restRefs sig spec0)),
      ((h.1 c).1 0).trans ((dats m hO 0 c).arrAt_in 0 rfl _), ((h.1 c).1 1).trans ((dats m hO 0 c).arrAt_in 1 rfl _),
      ((h.1 c).1 2).trans ((dats m hO 0 c).arrAt_in 2 rfl _), ((h.1 c).1 3).trans ((dats m hO 0 c).arrAt_in 3 rfl _)⟩, (h.1 c).1 4⟩, h.2⟩)
    (run_main_quiescent m ρ hO)

/-- The arguments end unchanged. -/
theorem unchanged (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).1, h.2⟩) (run_result m ρ hO)

end Cert.Kernel3Ideal.Run

end
-- ==== Proof.GmmOk.lean ====
/- The routed experts: with the tables in range every block lies in its array. -/
module

public import proofs.«01_k».proof.Proof.GmmFrame

@[expose] public section

set_option maxRecDepth 16384

noncomputable section

open Idealize.ShloMosaic Idealize.ShloMosaic.TcCoe Idealize.SL.Sem

namespace Cert.Kernel3Ideal.Run

open Cert.Kernel3Ideal Cert.Kernel3Ideal.Gen

variable {F : FTy → Type} [FloatOps F] (m : (ℓ : Loc nD τ sig) → Buf (Elt F) ℓ)

/-- The words of the two tables as launched. -/
def expertAt (n : Fin 576) : BitVec 32 := (tbl m 0) (place n)
def inUse : BitVec 32 := (tbl m 1) first

/-- The tables in range. -/
def Range : Prop := (∀ n, (expertAt m n).toNat < 64) ∧ 1 ≤ (inUse m).toNat ∧ (inUse m).toNat ≤ 576

/-- The smaller of a tile's number and the last tile in use. -/
theorem clamp (n : Fin 576) (u : BitVec 32) (h1 : 1 ≤ u.toNat) (h2 : u.toNat ≤ 576) :
    (Scalar.minsi (BitVec.ofNat 32 n.val) (Scalar.subi u 1#32)).toNat = min n.val (u.toNat - 1) := by
  have e : (Scalar.subi u 1#32).toNat = u.toNat - 1 := by
    show (u - 1#32).toNat = _
    rw [BitVec.toNat_sub_of_le (by rw [BitVec.le_def]; exact h1)]
    rfl
  have en : (BitVec.ofNat 32 n.val).toNat = n.val := by rw [BitVec.toNat_ofNat]; omega
  have hs : (BitVec.ofNat 32 n.val).slt (Scalar.subi u 1#32) = decide (n.val < u.toNat - 1) := by
    rw [BitVec.slt_eq_decide, BitVec.toInt_eq_toNat_of_lt (by omega), BitVec.toInt_eq_toNat_of_lt (by omega), en, e]
    simp
  show (if (BitVec.ofNat 32 n.val).slt (Scalar.subi u 1#32) then BitVec.ofNat 32 n.val else Scalar.subi u 1#32).toNat = _
  rw [hs]
  by_cases h : n.val < u.toNat - 1
  · simp only [h, decide_true, if_true, en]; omega
  · simp only [h, decide_false, Bool.false_eq_true, if_false, e]; omega

theorem transform0_val (h : Range m) (i : grid0.Coords) :
    cc0_transform_0 inb_S1_S1_0 numel1_S1 (tbl m) i = ![min (i 0).val ((inUse m).toNat - 1), 0] := by
  unfold cc0_transform_0
  have e : ((tbl m).at 1 (Rect.unit (s := S1) ![0] S1.size inb_S1_S1_0) numel1_S1 : BitVec 32) = inUse m := usedWord_eq (F := F) 0 (tbl m 1)
  simp only [e]
  exact congrArg (fun a => (![a, 0] : Fin 2 → ℕ)) (clamp (i 0) (inUse m) h.2.1 h.2.2)

theorem ok_of_range (h : Range m) : Ok m := by
  have w : ∀ i : grid0.Coords, ∀ a, (cc0_transform_1 k0_off1_inb numel1_S1 (tbl m) i a + 1) * S1x1x192x4096.size a ≤ S4x64x192x4096.size a := by
    intro i a
    rw [transform_val]
    have := h.1 (i 0)
    match a with
    | ⟨0, _⟩ => show (0 + 1) * 1 ≤ 4; decide
    | ⟨1, _⟩ => show ((expertAt m (i 0)).toNat + 1) * 1 ≤ 64; omega
    | ⟨2, _⟩ => show (0 + 1) * 192 ≤ 192; decide
    | ⟨3, _⟩ => show (0 + 1) * 4096 ≤ 4096; decide
  refine ⟨fun i => ⟨fun a => ?_, .inl rfl⟩, fun i => ⟨w i, .inl rfl⟩, fun i => ⟨w i, .inl rfl⟩, fun i => ⟨w i, .inl rfl⟩⟩
  rw [transform0_val m h]
  have : (i 0).val < 576 := (i 0).isLt
  match a with
  | ⟨0, _⟩ => show (min (i 0).val ((inUse m).toNat - 1) + 1) * 256 ≤ 147456; omega
  | ⟨1, _⟩ => show (0 + 1) * 2048 ≤ 2048; decide

end Cert.Kernel3Ideal.Run

end
-- ==== Proof.GmmRef.lean ====
/- The routed experts: the reference's result, one stage at a time. -/
module

public import proofs.«01_k».proof.Proof.Softmax
public import proofs.«01_k».proof.Proof.Gen.Reference3Ideal.Read
public import Idealize.ShloMosaic.Lib.Pipeline.ValueKit
public import Idealize.ShloMosaic.Lib.Pointwise
public import Idealize.ShloMosaic.Lib.TwoAxisContraction
public import Idealize.ShloMosaic.Lib.IdealHost

@[expose] public section

set_option maxRecDepth 16384

noncomputable section

open Idealize.ShloMosaic Idealize.ShloMosaic.TcCoe Idealize.SL.Sem
open Cert.Softmax

namespace Cert.Reference3Ideal.RefValue

open Cert.Reference3Ideal Cert.Reference3Ideal.Gen Cert.Reference3Ideal.Read

variable (T : IVec S576 32) (N : IVec S1 32) (X : IVec S147456x2048 32) (A B C : FVec Ideal S4x64x192x4096 .f32)

/-- The numbers in the low and in the high halves of a word. -/
theorem low_apply (p : Fin 147456) (k : Fin 2048) :
    val_main_v2 (F := Ideal) X (ix2 p k) = Ideal.ofBits .f32 (X (ix2 p k) <<< 16#32) := by
  rw [val_main_v2_apply, val_main_v1_apply, val_main_v0_apply, val_main_c_apply]
  rfl
theorem high_apply (p : Fin 147456) (k : Fin 2048) :
    val_main_v5 (F := Ideal) X (ix2 p k) = Ideal.ofBits .f32 (X (ix2 p k) &&& 4294901760#32) := by
  rw [val_main_v5_apply, val_main_v4_apply, val_main_v3_apply, val_main_c_0_apply]
  rfl

/-- A row of the first half, and of the second. -/
theorem first_apply (t : Fin 576) (r : Fin 256) (k : Fin 2048) :
    val_main_v7 (F := Ideal) X (ix3 t r ⟨k.val, by omega⟩) = val_main_v2 (F := Ideal) X (ix2 ⟨t.val * 256 + r.val, by omega⟩ k) := by
  rw [val_main_v7_apply]
  unfold val_main_v6
  refine concatenate_pair_apply_left (t := S147456x4096) (s₁ := S147456x2048) (s₂ := S147456x2048) 1 (val_main_v2 (F := Ideal) X) (val_main_v5 (F := Ideal) X) _ _ rfl (ix2 ⟨t.val * 256 + r.val, by omega⟩ k) fun b => ?_
  match b with
  | ⟨0, _⟩ => show t.val * 256 + r.val = ((t.val * 256 + r.val) * 4096 + k.val) / 4096; omega
  | ⟨1, _⟩ => show k.val = ((t.val * 256 + r.val) * 4096 + k.val) % 4096; omega
theorem second_apply (t : Fin 576) (r : Fin 256) (k : Fin 2048) :
    val_main_v7 (F := Ideal) X (ix3 t r ⟨2048 + k.val, by omega⟩) = val_main_v5 (F := Ideal) X (ix2 ⟨t.val * 256 + r.val, by omega⟩ k) := by
  rw [val_main_v7_apply]
  unfold val_main_v6
  refine concatenate_pair_apply_right (t := S147456x4096) (s₁ := S147456x2048) (s₂ := S147456x2048) 1 (val_main_v2 (F := Ideal) X) (val_main_v5 (F := Ideal) X) _ _ rfl rfl
    (ix2 ⟨t.val * 256 + r.val, by omega⟩ k) (fun b hb => ?_) ?_
  · match b with
    | ⟨0, _⟩ => show t.val * 256 + r.val = ((t.val * 256 + r.val) * 4096 + (2048 + k.val)) / 4096; omega
    | ⟨1, _⟩ => exact absurd rfl hb
  · show k.val + 2048 = ((t.val * 256 + r.val) * 4096 + (2048 + k.val)) % 4096; omega

/-- The first layer's weights. -/
theorem gate_apply (e : Fin 64) (h : Fin 192) (k : Fin 4096) : val_main_v9 (F := Ideal) A (ix3 e h k) = A (ix4 0 e h k) := by
  pointwise [val_main_v9, val_main_v8]
  blk_ext []
theorem up_apply (e : Fin 64) (h : Fin 192) (k : Fin 4096) : val_main_v12 (F := Ideal) B (ix3 e h k) = B (ix4 0 e h k) := by
  pointwise [val_main_v12, val_main_v11]
  blk_ext []
theorem down_apply (e : Fin 64) (h : Fin 192) (k : Fin 4096) : val_main_v40 (F := Ideal) C (ix3 e h k) = C (ix4 0 e h k) := by
  pointwise [val_main_v40, val_main_v39]
  blk_ext []

/-- A projection of a row: the sum over the two halves. -/
def proj (X : IVec S147456x2048 32) (A : FVec Ideal S4x64x192x4096 .f32) (p : Fin 147456) (e : Fin 64) (h : Fin 192) : EReal :=
  (∑ k : Fin 2048, Ideal.ofBits .f32 (X (ix2 p k) <<< 16#32) * A (ix4 0 e h ⟨k.val, by omega⟩))
    + ∑ k : Fin 2048, Ideal.ofBits .f32 (X (ix2 p k) &&& 4294901760#32) * A (ix4 0 e h ⟨2048 + k.val, by omega⟩)

theorem halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

theorem gated_apply (t : Fin 576) (r : Fin 256) (e : Fin 64) (h : Fin 192) :
    val_main_v10 (F := Ideal) X A (ix4 t r e h) = proj X A ⟨t.val * 256 + r.val, by omega⟩ e h := by
  rw [val_main_v10_apply, halves]
  unfold proj
  refine congrArg₂ (· + ·) (Finset.sum_congr rfl fun k _ => ?_) (Finset.sum_congr rfl fun k _ => ?_)
  · refine congrArg₂ (· * ·) (Eq.trans (congrArg _ ?_) ((first_apply X t r k).trans (low_apply X _ k))) (Eq.trans (congrArg _ ?_) (gate_apply A e h _))
    all_goals (funext a; match a with | ⟨0, _⟩ => rfl | ⟨1, _⟩ => rfl | ⟨2, _⟩ => rfl)
  · refine congrArg₂ (· * ·) (Eq.trans (congrArg _ ?_) ((second_apply X t r k).trans (high_apply X _ k))) (Eq.trans (congrArg _ ?_) (gate_apply A e h _))
    all_goals (funext a; match a with | ⟨0, _⟩ => rfl | ⟨1, _⟩ => rfl | ⟨2, _⟩ => rfl)
theorem upped_apply (t : Fin 576) (r : Fin 256) (e : Fin 64) (h : Fin 192) :
    val_main_v13 (F := Ideal) X B (ix4 t r e h) = proj X B ⟨t.val * 256 + r.val, by omega⟩ e h := gated_apply X B t r e h

/-- Whether tile `t` goes through expert `e`. -/
theorem chosen_apply (t : Fin 576) (e : Fin 64) :
    val_main_v26 (F := Ideal) T N (ix2 t e)
      = IntOp.andi (IntOp.cmpi .eq (T (ix1 t)) (BitVec.ofNat 32 e.val)) (IntOp.cmpi .slt (BitVec.ofNat 32 t.val) (N (ix1 0))) := by
  have e1 : idx_main_v14 (idx_main_v17 (ix2 t e)) = ix1 t := by funext a; match a with | ⟨0, _⟩ => rfl
  have e2 : val_main_v21 (F := Ideal) N (idx_main_v22 (idx_main_v24 (idx_main_v25 (ix2 t e)))) = N (ix1 0) := by
    unfold val_main_v21
    exact shapeCast_apply N shapeCasts_S1_S_ _ (ix1 0) rfl
  rw [val_main_v26_apply, val_main_v19_apply, val_main_v17_apply, val_main_v14_apply, e1, val_main_v18_apply, val_main_v16_apply, val_main_v15_apply,
    val_main_v25_apply, val_main_v24_apply, val_main_v23_apply, val_main_v20_apply, val_main_v22_apply, e2]
  rfl

/-- The activation of a row in an expert. -/
def act (X : IVec S147456x2048 32) (A B : FVec Ideal S4x64x192x4096 .f32) (p : Fin 147456) (e : Fin 64) (h : Fin 192) : EReal :=
  proj X A p e h * Ideal.logistic (proj X A p e h) * proj X B p e h

theorem act_apply (t : Fin 576) (r : Fin 256) (e : Fin 64) (h : Fin 192) :
    val_main_v38 (F := Ideal) T N X A B (ix4 t r e h)
      = act X A B ⟨t.val * 256 + r.val, by omega⟩ e h * (((val_main_v26 (F := Ideal) T N (ix2 t e)).toNat : ℝ) : EReal) := by
  have e1 : idx_main_v36 (idx_main_v37 (ix4 t r e h)) = ix2 t e := by funext a; match a with | ⟨0, _⟩ => rfl | ⟨1, _⟩ => rfl
  rw [val_main_v38_apply, val_main_v34_apply, val_main_v33_apply, val_main_v32_apply, val_main_v31_apply, val_main_v30_apply, val_main_v29_apply,
    val_main_v28_apply, val_main_v27_apply, val_main_cst_apply, val_main_cst_1_apply, val_main_v37_apply, val_main_v36_apply, e1, val_main_v35_apply,
    gated_apply, upped_apply]
  unfold act
  simp only [Ideal.mulf_def, Ideal.hostUnary_exp_def, Ideal.hostNegf_def, Ideal.hostDivf_def, Ideal.addf_def, Ideal.ofBits_def, Ideal.ofBits_one_f32]
  rfl

/-- The sum's dimensions. -/
abbrev two := dot_S576x256x64x192_S64x192x4096_S576x256x4096_23_01_01_2_n_n

theorem left0 (i : S576x256x4096.Idx) (q : two.contr.Idx) : (two.lhsIdx i q 0).val = (i 0).val := by
  unfold DotDims.lhsIdx
  rw [dif_neg (show ¬(0 : Fin S576x256x64x192.rank) ∈ two.lhsBatch by decide), dif_pos (show (0 : Fin S576x256x64x192.rank) ∈ two.lhsNonContracting by decide)]
  rfl
theorem left1 (i : S576x256x4096.Idx) (q : two.contr.Idx) : (two.lhsIdx i q 1).val = (i 1).val := by
  unfold DotDims.lhsIdx
  rw [dif_neg (show ¬(1 : Fin S576x256x64x192.rank) ∈ two.lhsBatch by decide), dif_pos (show (1 : Fin S576x256x64x192.rank) ∈ two.lhsNonContracting by decide)]
  rfl
theorem left2 (i : S576x256x4096.Idx) (q : two.contr.Idx) : (two.lhsIdx i q 2).val = (q ⟨0, by decide⟩).val := by
  unfold DotDims.lhsIdx
  rw [dif_neg (show ¬(2 : Fin S576x256x64x192.rank) ∈ two.lhsBatch by decide), dif_neg (show ¬(2 : Fin S576x256x64x192.rank) ∈ two.lhsNonContracting by decide)]
  rfl
theorem left3 (i : S576x256x4096.Idx) (q : two.contr.Idx) : (two.lhsIdx i q 3).val = (q ⟨1, by decide⟩).val := by
  unfold DotDims.lhsIdx
  rw [dif_neg (show ¬(3 : Fin S576x256x64x192.rank) ∈ two.lhsBatch by decide), dif_neg (show ¬(3 : Fin S576x256x64x192.rank) ∈ two.lhsNonContracting by decide)]
  rfl
theorem right0 (i : S576x256x4096.Idx) (q : two.contr.Idx) : (two.rhsIdx i q 0).val = (q ⟨0, by decide⟩).val := by
  unfold DotDims.rhsIdx
  rw [dif_neg (show ¬(0 : Fin S64x192x4096.rank) ∈ two.rhsBatch by decide), dif_neg (show ¬(0 : Fin S64x192x4096.rank) ∈ two.rhsNonContracting by decide)]
  rfl
theorem right1 (i : S576x256x4096.Idx) (q : two.contr.Idx) : (two.rhsIdx i q 1).val = (q ⟨1, by decide⟩).val := by
  unfold DotDims.rhsIdx
  rw [dif_neg (show ¬(1 : Fin S64x192x4096.rank) ∈ two.rhsBatch by decide), dif_neg (show ¬(1 : Fin S64x192x4096.rank) ∈ two.rhsNonContracting by decide)]
  rfl
theorem right2 (i : S576x256x4096.Idx) (q : two.contr.Idx) : (two.rhsIdx i q 2).val = (i 2).val := by
  unfold DotDims.rhsIdx
  rw [dif_neg (show ¬(2 : Fin S64x192x4096.rank) ∈ two.rhsBatch by decide), dif_pos (show (2 : Fin S64x192x4096.rank) ∈ two.rhsNonContracting by decide)]
  rfl

/-- The sum over the experts and their rows. -/
theorem out_apply (t : Fin 576) (r : Fin 256) (d : Fin 4096) :
    val_main_v41 (F := Ideal) T N X A B C (ix3 t r d)
      = ∑ e : Fin 64, ∑ h : Fin 192, val_main_v38 (F := Ideal) T N X A B (ix4 t r e h) * C (ix4 0 e h d) := by
  unfold val_main_v41
  simp only [← down_apply]
  generalize val_main_v38 (F := Ideal) T N X A B = P
  generalize val_main_v40 (F := Ideal) C = Q
  simp only [Host.dotGeneral]
  rw [Ideal.dotGeneral_apply, ValueIdx.sum_contr2 two 64 192 rfl rfl rfl]
  refine Finset.sum_congr rfl fun e _ => Finset.sum_congr rfl fun h _ => ?_
  have h0 := ValueIdx.contrEquiv2_symm_val0 two 64 192 rfl rfl rfl (e, h)
  have h1 := ValueIdx.contrEquiv2_symm_val1 two 64 192 rfl rfl rfl (e, h)
  refine congrArg₂ (· * ·) (congrArg P (funext fun a => Fin.ext ?_)) (congrArg Q (funext fun a => Fin.ext ?_))
  · match a with
    | ⟨0, _⟩ => exact left0 _ _
    | ⟨1, _⟩ => exact left1 _ _
    | ⟨2, _⟩ => exact (left2 _ _).trans h0
    | ⟨3, _⟩ => exact (left3 _ _).trans h1
  · match a with
    | ⟨0, _⟩ => exact (right0 _ _).trans h0
    | ⟨1, _⟩ => exact (right1 _ _).trans h1
    | ⟨2, _⟩ => exact right2 _ _

/-- The expert a word of the table names. -/
def slot (w : BitVec 32) : Fin 64 := ⟨w.toNat % 64, Nat.mod_lt _ (by decide)⟩

/-- The routed experts: row `p` goes through the expert of its tile, if the tile is in use. -/
def experts (T : IVec S576 32) (N : IVec S1 32) (X : IVec S147456x2048 32) (A B C : FVec Ideal S4x64x192x4096 .f32) (p : Fin 147456) (d : Fin 4096) : EReal :=
  if p.val / 256 < (N (ix1 0)).toNat then
    ∑ h : Fin 192, act X A B p (slot (T (ix1 ⟨p.val / 256, by omega⟩))) h * C (ix4 0 (slot (T (ix1 ⟨p.val / 256, by omega⟩))) h d)
  else 0

/-- The bit of a tile and an expert, where the tables are in range. -/
theorem bit (w n : BitVec 32) (t : Fin 576) (e : Fin 64) (hw : w.toNat < 64) (hn : n.toNat ≤ 576) :
    IntOp.andi (IntOp.cmpi .eq w (BitVec.ofNat 32 e.val)) (IntOp.cmpi .slt (BitVec.ofNat 32 t.val) n)
      = if e = slot w ∧ t.val < n.toNat then 1#1 else 0#1 := by
  have he : (w = BitVec.ofNat 32 e.val) ↔ e = slot w := by
    rw [← BitVec.toNat_inj, BitVec.toNat_ofNat, Nat.mod_eq_of_lt (by omega), Fin.ext_iff]
    show _ ↔ e.val = w.toNat % 64
    rw [Nat.mod_eq_of_lt hw]
    exact eq_comm
  have hs : (BitVec.ofNat 32 t.val).slt n = decide (t.val < n.toNat) := by
    rw [BitVec.slt_eq_decide, BitVec.toInt_eq_toNat_of_lt (by rw [BitVec.toNat_ofNat]; omega), BitVec.toInt_eq_toNat_of_lt (by omega), BitVec.toNat_ofNat,
      Nat.mod_eq_of_lt (by omega)]
    simp
  show BitVec.ofBool (w == BitVec.ofNat 32 e.val) &&& BitVec.ofBool ((BitVec.ofNat 32 t.val).slt n) = _
  rw [hs, beq_eq_decide]
  simp only [he]
  by_cases h1 : e = slot w <;> by_cases h2 : t.val < n.toNat <;> simp [h1, h2]

/-- The reference's result. -/
theorem result (hT : ∀ t, (T (ix1 t)).toNat < 64) (hN : (N (ix1 0)).toNat ≤ 576) (p : Fin 147456) (d : Fin 4096) :
    val_main_v43 (F := Ideal) T N X A B C (ix2 p d) = experts T N X A B C p d := by
  have e1 : idx_main_v42 (ix2 p d) = ix3 ⟨p.val / 256, by omega⟩ ⟨p.val % 256, by omega⟩ d := by
    funext a
    match a with
    | ⟨0, _⟩ => exact Fin.ext (by show (p.val * 4096 + d.val) / 1048576 = p.val / 256; omega)
    | ⟨1, _⟩ => exact Fin.ext (by show (p.val * 4096 + d.val) / 4096 % 256 = p.val % 256; omega)
    | ⟨2, _⟩ => exact Fin.ext (by show (p.val * 4096 + d.val) % 4096 = d.val; omega)
  rw [val_main_v43_apply, val_main_v42_apply, e1]
  refine Eq.trans (out_apply T N X A B C _ _ d) ?_
  have hp : (⟨p.val / 256 * 256 + p.val % 256, by omega⟩ : Fin 147456) = p := Fin.ext (by show p.val / 256 * 256 + p.val % 256 = p.val; omega)
  have hb : ∀ e, val_main_v26 (F := Ideal) T N (ix2 ⟨p.val / 256, by omega⟩ e)
      = if e = slot (T (ix1 ⟨p.val / 256, by omega⟩)) ∧ p.val / 256 < (N (ix1 0)).toNat then 1#1 else 0#1 :=
    fun e => (chosen_apply T N _ e).trans (bit _ _ _ e (hT _) hN)
  simp only [act_apply, hb, hp]
  unfold experts
  by_cases hu : p.val / 256 < (N (ix1 0)).toNat
  · rw [if_pos hu, Finset.sum_eq_single (slot (T (ix1 ⟨p.val / 256, by omega⟩)))]
    · simp [hu]
    · intro e _ he
      simp [he]
    · intro h; exact absurd (by with_reducible exact Finset.mem_univ _) h
  · rw [if_neg hu]
    simp [hu]

end Cert.Reference3Ideal.RefValue

end
-- ==== Proof.GmmBlock.lean ====
/- The routed experts: what one grid point stores, and the result array after the run. -/
module

public import proofs.«01_k».proof.Proof.GmmOk
public import proofs.«01_k».proof.Proof.GmmRef
public import proofs.«01_k».proof.Proof.Softmax
public import Idealize.ShloMosaic.Lib.Pipeline.ValueKit
public import Idealize.ShloMosaic.Lib.Pipeline.Covers
public import Idealize.ShloMosaic.Lib.Pointwise
public import Idealize.ShloMosaic.Lib.IdealHost

@[expose] public section

set_option maxRecDepth 16384

noncomputable section

open Idealize.ShloMosaic Idealize.ShloMosaic.TcCoe Idealize.SL.Sem
open Idealize.ShloMosaic.Pipeline (Dat)
open Cert.Softmax

namespace Cert.Kernel3Ideal.RefValue

open Cert.Kernel3Ideal Cert.Kernel3Ideal.Gen Cert.Kernel3Ideal.Run

/-- A projection of a row of words on a weight's row: the low halves on its first half, the high halves on its second. -/
def dots (x : Fin 2048 → BitVec 32) (a : Fin 4096 → EReal) : EReal :=
  (∑ k : Fin 2048, Ideal.ofBits .f32 (x k <<< 16#32) * a ⟨k.val, by omega⟩)
    + ∑ k : Fin 2048, Ideal.ofBits .f32 (x k &&& 4294901760#32) * a ⟨2048 + k.val, by omega⟩

theorem gate_apply (w : Vec Ideal S1x1x192x4096 .f32) (h : Fin 192) (k : Fin 4096) : k0_pay1 w (ix2 h k) = w (ix4 0 0 h k) := by
  pointwise [k0_pay1]
theorem up_apply (w : Vec Ideal S1x1x192x4096 .f32) (h : Fin 192) (k : Fin 4096) : k0_pay2 w (ix2 h k) = w (ix4 0 0 h k) := by
  pointwise [k0_pay2]
theorem down_apply (w : Vec Ideal S1x1x192x4096 .f32) (h : Fin 192) (k : Fin 4096) : k0_pay3 w (ix2 h k) = w (ix4 0 0 h k) := by
  pointwise [k0_pay3]

theorem idle_apply (r : Fin 256) (d : Fin 4096) : (k0_pay5 (F := Ideal)) (ix2 r d) = 0 := by
  pointwise [k0_pay5]

/-- A tile in use. -/
theorem tile_apply (x : Vec Ideal S256x2048 .i32) (a b e : Vec Ideal S192x4096 .bf16) (r : Fin 256) (d : Fin 4096) :
    k0_pay4 x a b e (ix2 r d)
      = ∑ h : Fin 192, dots (fun k => x (ix2 r k)) (fun k => a (ix2 h k)) * Ideal.logistic (dots (fun k => x (ix2 r k)) (fun k => a (ix2 h k)))
          * dots (fun k => x (ix2 r k)) (fun k => b (ix2 h k)) * e (ix2 h d) := by
  unfold dots
  pointwise [k0_pay4]
  rfl

variable (m : (ℓ : Loc nD τ sig) → Buf (Elt Ideal) ℓ)

/-- Where a row of the block of words at point `t` lies. -/
theorem words_row (h : Range m) (hO : Ok m) (t : Fin (cfgM m hO).N) (hu : t.val < (inUse m).toNat) (a : Fin 2) :
    cc0_transform_0 inb_S1_S1_0 numel1_S1 (tbl m) (grid0.coords t) a = (![t.val, 0] : Fin 2 → ℕ) a := by
  rw [transform0_val m h, coord_val]
  congr 2
  omega

theorem words_read (h : Range m) (hO : Ok m) (c : Dev nD) (t : Fin (cfgM m hO).N) (hu : t.val < (inUse m).toNat) (r : Fin 256) (k : Fin 2048)
    (p : Fin 147456) (hp : p.val = t.val * 256 + r.val) :
    iblk m hO c 0 t (ix2 r k) = m ((c : Thread nD τ).loc main_arg2) (ix2 p k) := by
  show V m c (Pipeline.arrRef spec0 0) (((cfgM m hO).win 0).arr.view.emb ((((cfgM m hO).win 0).rect t).emb _)) = _
  refine congrArg (m ((c : Thread nD τ).loc main_arg2)) (funext fun a => Fin.ext ?_)
  have e := words_row m h hO t hu a
  show cc0_transform_0 inb_S1_S1_0 numel1_S1 (tbl m) (grid0.coords t) a * S256x2048.size a + 1 * ((ix2 r k : S256x2048.Idx) a).val = _
  rw [e]
  match a with
  | ⟨0, _⟩ => show t.val * 256 + 1 * r.val = p.val; omega
  | ⟨1, _⟩ => show 0 * 2048 + 1 * k.val = k.val; omega

theorem gate_read (hO : Ok m) (c : Dev nD) (t : Fin (cfgM m hO).N) (n : Fin 576) (hn : n.val = t.val) (x : Fin 64) (hx : x.val = (expertAt m n).toNat)
    (g : Fin 192) (k : Fin 4096) : iblk m hO c 1 t (ix4 0 0 g k) = m ((c : Thread nD τ).loc main_arg3) (ix4 0 x g k) := by
  show V m c (Pipeline.arrRef spec0 1) (((cfgM m hO).win 1).arr.view.emb ((((cfgM m hO).win 1).rect t).emb _)) = _
  refine congrArg (m ((c : Thread nD τ).loc main_arg3)) (funext fun a => Fin.ext ?_)
  have e := congrFun (transform_val (F := Ideal) (tbl m) (grid0.coords t)) a
  have hc : grid0.coords t 0 = n := Fin.ext ((coord_val t).trans hn.symm)
  rw [hc] at e
  show cc0_transform_1 k0_off1_inb numel1_S1 (tbl m) (grid0.coords t) a * S1x1x192x4096.size a + 1 * ((ix4 0 0 g k : S1x1x192x4096.Idx) a).val = _
  rw [e]
  match a with
  | ⟨0, _⟩ => rfl
  | ⟨1, _⟩ => show (expertAt m n).toNat * 1 + 1 * 0 = x.val; omega
  | ⟨2, _⟩ => show 0 * 192 + 1 * g.val = g.val; omega
  | ⟨3, _⟩ => show 0 * 4096 + 1 * k.val = k.val; omega

theorem up_read (hO : Ok m) (c : Dev nD) (t : Fin (cfgM m hO).N) (n : Fin 576) (hn : n.val = t.val) (x : Fin 64) (hx : x.val = (expertAt m n).toNat)
    (g : Fin 192) (k : Fin 4096) : iblk m hO c 2 t (ix4 0 0 g k) = m ((c : Thread nD τ).loc main_arg4) (ix4 0 x g k) := by
  show V m c (Pipeline.arrRef spec0 2) (((cfgM m hO).win 2).arr.view.emb ((((cfgM m hO).win 2).rect t).emb _)) = _
  refine congrArg (m ((c : Thread nD τ).loc main_arg4)) (funext fun a => Fin.ext ?_)
  have e := congrFun (transform_val (F := Ideal) (tbl m) (grid0.coords t)) a
  have hc : grid0.coords t 0 = n := Fin.ext ((coord_val t).trans hn.symm)
  rw [hc] at e
  show cc0_transform_1 k0_off1_inb numel1_S1 (tbl m) (grid0.coords t) a * S1x1x192x4096.size a + 1 * ((ix4 0 0 g k : S1x1x192x4096.Idx) a).val = _
  rw [e]
  match a with
  | ⟨0, _⟩ => rfl
  | ⟨1, _⟩ => show (expertAt m n).toNat * 1 + 1 * 0 = x.val; omega
  | ⟨2, _⟩ => show 0 * 192 + 1 * g.val = g.val; omega
  | ⟨3, _⟩ => show 0 * 4096 + 1 * k.val = k.val; omega

theorem down_read (hO : Ok m) (c : Dev nD) (t : Fin (cfgM m hO).N) (n : Fin 576) (hn : n.val = t.val) (x : Fin 64) (hx : x.val = (expertAt m n).toNat)
    (g : Fin 192) (k : Fin 4096) : iblk m hO c 3 t (ix4 0 0 g k) = m ((c : Thread nD τ).loc main_arg5) (ix4 0 x g k) := by
  show V m c (Pipeline.arrRef spec0 3) (((cfgM m hO).win 3).arr.view.emb ((((cfgM m hO).win 3).rect t).emb _)) = _
  refine congrArg (m ((c : Thread nD τ).loc main_arg5)) (funext fun a => Fin.ext ?_)
  have e := congrFun (transform_val (F := Ideal) (tbl m) (grid0.coords t)) a
  have hc : grid0.coords t 0 = n := Fin.ext ((coord_val t).trans hn.symm)
  rw [hc] at e
  show cc0_transform_1 k0_off1_inb numel1_S1 (tbl m) (grid0.coords t) a * S1x1x192x4096.size a + 1 * ((ix4 0 0 g k : S1x1x192x4096.Idx) a).val = _
  rw [e]
  match a with
  | ⟨0, _⟩ => rfl
  | ⟨1, _⟩ => show (expertAt m n).toNat * 1 + 1 * 0 = x.val; omega
  | ⟨2, _⟩ => show 0 * 192 + 1 * g.val = g.val; omega
  | ⟨3, _⟩ => show 0 * 4096 + 1 * k.val = k.val; omega

/-- A tile is in use when its number is below the number of tiles in use. -/
theorem in_use (n : Fin 576) (u : BitVec 32) (hu : u.toNat ≤ 576) :
    Scalar.cmpi .ne (Scalar.extui (Scalar.cmpi .slt (BitVec.ofNat 32 n.val) u) : BitVec 32) 0#32 = 1#1 ↔ n.val < u.toNat := by
  have en : (BitVec.ofNat 32 n.val).toNat = n.val := by rw [BitVec.toNat_ofNat]; omega
  have hs : Scalar.cmpi .slt (BitVec.ofNat 32 n.val) u = BitVec.ofBool (decide (n.val < u.toNat)) := by
    show BitVec.ofBool ((BitVec.ofNat 32 n.val).slt u) = _
    rw [BitVec.slt_eq_decide, BitVec.toInt_eq_toNat_of_lt (by omega), BitVec.toInt_eq_toNat_of_lt (by omega), en]
    simp
  rw [hs]
  by_cases h : n.val < u.toNat
  · simp only [h, decide_true]; decide
  · simp only [h, decide_false]; decide

/-- One summand of a row's result. -/
theorem term_eq (X : IVec S147456x2048 32) (A B C : FVec Ideal S4x64x192x4096 .f32) (p : Fin 147456) (e : Fin 64) (g : Fin 192) (d : Fin 4096)
    {x : Fin 2048 → BitVec 32} {a b : Fin 4096 → EReal} {z : EReal} (hx : x = fun k => X (ix2 p k)) (ha : a = fun k => A (ix4 0 e g k))
    (hb : b = fun k => B (ix4 0 e g k)) (hz : z = C (ix4 0 e g d)) :
    dots x a * Ideal.logistic (dots x a) * dots x b * z = Reference3Ideal.RefValue.act X A B p e g * C (ix4 0 e g d) := by
  subst hx ha hb hz
  rfl

/-- What point `t` stores at a row and a column. -/
theorem point (h : Range m) (hO : Ok m) (c : Dev nD) (t : Fin (cfgM m hO).N) (r : Fin 256) (d : Fin 4096) (p : Fin 147456) (hp : p.val = t.val * 256 + r.val) :
    tile m hO c t (ix2 r d)
      = Reference3Ideal.RefValue.experts (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) p d := by
  obtain rfl : c = 0 := Subsingleton.elim _ _
  have ht : p.val / 256 = t.val := by omega
  have hc : (grid0.coords t 0).val = t.val := coord_val t
  have hcond : k0_cond2 (grid0.coords t) (usedWord (F := Ideal) 0 (tbl m 1)) = 1#1 ↔ t.val < (inUse m).toNat := by
    have e : usedWord (F := Ideal) 0 (tbl m 1) = inUse m := usedWord_eq (F := Ideal) 0 (tbl m 1)
    have := in_use (grid0.coords t 0) (inUse m) h.2.2
    rw [hc] at this
    rw [← this, ← hc]
    exact iff_of_eq (congrArg (fun u => k0_cond2 (grid0.coords t) u = 1#1) e)
  have hN : (m (((0 : Dev nD) : Thread nD τ).loc main_arg1) (ix1 0) : BitVec 32) = inUse m :=
    congrArg (m (((0 : Dev nD) : Thread nD τ).loc main_arg1)) (funext fun a => by obtain rfl : a = (0 : Fin 1) := Subsingleton.elim (α := Fin 1) _ _; rfl)
  have hT : (m (((0 : Dev nD) : Thread nD τ).loc main_arg0) (ix1 ⟨p.val / 256, by omega⟩) : BitVec 32) = expertAt m ⟨p.val / 256, by omega⟩ :=
    congrArg (m (((0 : Dev nD) : Thread nD τ).loc main_arg0)) (funext fun a => by obtain rfl : a = (0 : Fin 1) := Subsingleton.elim (α := Fin 1) _ _; rfl)
  unfold Reference3Ideal.RefValue.experts tile
  rw [← ht] at hcond
  rw [hN, hT]
  by_cases hu : p.val / 256 < (inUse m).toNat
  · rw [if_pos (hcond.2 hu), if_pos hu]
    refine (tile_apply _ _ _ _ r d).trans ?_
    have hx : (Reference3Ideal.RefValue.slot (expertAt m ⟨p.val / 256, by omega⟩)).val = (expertAt m ⟨p.val / 256, by omega⟩).toNat :=
      Nat.mod_eq_of_lt (h.1 _)
    have hw : (fun k => iblk m hO 0 0 t (ix2 r k)) = fun k => m (((0 : Dev nD) : Thread nD τ).loc main_arg2) (ix2 p k) :=
      funext fun k => words_read m h hO 0 t (lt_of_eq_of_lt ht.symm hu) r k p hp
    refine Finset.sum_congr rfl fun g _ => ?_
    have ha : (fun k => gateW m hO 0 t (ix2 g k)) = fun k => m (((0 : Dev nD) : Thread nD τ).loc main_arg3) (ix4 0 (Reference3Ideal.RefValue.slot (expertAt m ⟨p.val / 256, by omega⟩)) g k) :=
      funext fun k => (gate_apply _ g k).trans (gate_read m hO 0 t _ ht _ hx g k)
    have hb : (fun k => upW m hO 0 t (ix2 g k)) = fun k => m (((0 : Dev nD) : Thread nD τ).loc main_arg4) (ix4 0 (Reference3Ideal.RefValue.slot (expertAt m ⟨p.val / 256, by omega⟩)) g k) :=
      funext fun k => (up_apply _ g k).trans (up_read m hO 0 t _ ht _ hx g k)
    have hd : downW m hO 0 t (ix2 g d) = m (((0 : Dev nD) : Thread nD τ).loc main_arg5) (ix4 0 (Reference3Ideal.RefValue.slot (expertAt m ⟨p.val / 256, by omega⟩)) g d) :=
      (down_apply _ g d).trans (down_read m hO 0 t _ ht _ hx g d)
    exact term_eq _ _ _ _ p _ g d hw ha hb hd
  · rw [if_neg (fun q => hu (hcond.1 q)), if_neg hu, idle_apply]

/-- The index of the result's block at a setting of the coordinate. -/
theorem out_index (i : grid0.Coords) : cc0_transform_4 i = ![(i 0).val, 0] := by
  have e : (BitVec.ofNat 32 (i 0).val).toNat = (i 0).val := by
    rw [BitVec.toNat_ofNat]; exact Nat.mod_eq_of_lt (Nat.lt_trans (i 0).isLt (by decide))
  exact congrArg (fun a => (![a, 0] : Fin 2 → ℕ)) e

theorem out_size (a : Fin 2) : 0 < S256x4096.size a := by fin_cases a <;> decide

theorem out_blocks (β : (a : Fin 2) → Fin ((S147456x4096.size a + S256x4096.size a - 1) / S256x4096.size a)) :
    ∃ i : grid0.Coords, ∀ a, cc0_transform_4 i a = β a := by
  have h0 : (β 0).val < 576 := (β 0).isLt
  have h1 : (β 1).val < 1 := (β 1).isLt
  refine ⟨fun a => ⟨(β 0).val, by obtain rfl : a = (0 : Fin 1) := Subsingleton.elim (α := Fin 1) _ _; exact h0⟩, fun a => ?_⟩
  rw [out_index]
  match a with
  | ⟨0, _⟩ => rfl
  | ⟨1, _⟩ => show 0 = (β 1).val; omega

theorem covers (hO : Ok m) : ((cfgM m hO).win 4).Covers :=
  Pipeline.Window.covers_of_indexMap_surj _ rfl out_size out_blocks

/-- The result array after the run. -/
theorem final (h : Range m) (hO : Ok m) (c : Dev nD) : (dats m hO 0 c).arrAt 4 (cfgM m hO).N
    = fun j : S147456x4096.Idx => Reference3Ideal.RefValue.experts (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (j 0) (j 1) := by
  refine (dats m hO 0 c).arrAt_eq_of_covers 4 _ (covers m hO) fun t _ y => ?_
  have e0 : (((((cfgM m hO).win 4).blk t).view.emb y) (0 : Fin 2)).val = t.val * 256 + (y (0 : Fin 2)).val := by
    show cc0_transform_4 (grid0.coords t) 0 * 256 + 1 * (y (0 : Fin 2)).val = _
    rw [out_index, ← coord_val t, Nat.one_mul]; rfl
  have e1 : (((((cfgM m hO).win 4).blk t).view.emb y) (1 : Fin 2)) = (y (1 : Fin 2) : Fin 4096) := by
    apply Fin.ext
    show cc0_transform_4 (grid0.coords t) 1 * 4096 + 1 * (y (1 : Fin 2)).val = _
    rw [out_index, Nat.one_mul]; exact Nat.zero_add _
  have hp := point m h hO c t (y (0 : Fin 2)) (y (1 : Fin 2)) _ e0
  refine Eq.trans ?_ (hp.trans ?_)
  · show (dats m hO 0 c).after 4 t _ = _
    rw [after0_4]
    refine congrArg (tile m hO c t) (funext fun a => ?_)
    match a with
    | ⟨0, _⟩ => rfl
    | ⟨1, _⟩ => rfl
  · exact congrArg (Reference3Ideal.RefValue.experts _ _ _ _ _ _ _) e1.symm

end Cert.Kernel3Ideal.RefValue

end
-- ==== Proof.GmmTables.lean ====
/- The routed experts: the tables' precondition, as ranges of words. -/
module

public import proofs.«01_k».proof.Pre_gmm_tables
public import proofs.«01_k».proof.Proof.Gen.Pre_gmm_tables
public import proofs.«01_k».proof.Proof.Finite
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.GmmTables

open Cert.Pre_gmm_tables

variable {F : FTy → Type} [FloatOps F]

theorem both : ∀ u v : BitVec 1, IntOp.andi u v = 1#1 → u = 1#1 ∧ v = 1#1 := by decide

/-- A word between two numbers, both read with their sign, is between them as a natural number. -/
theorem nat_of_range (w : BitVec 32) (n k : ℕ) (hk : k < 2 ^ 31) (hn : n < 2 ^ 31) (h0 : IntOp.cmpi .sge w (BitVec.ofNat 32 n) = 1#1) :
    (IntOp.cmpi .slt w (BitVec.ofNat 32 k) = 1#1 → n ≤ w.toNat ∧ w.toNat < k) ∧ (IntOp.cmpi .sle w (BitVec.ofNat 32 k) = 1#1 → n ≤ w.toNat ∧ w.toNat ≤ k) := by
  have bit : ∀ b : Bool, BitVec.ofBool b = 1#1 → b = true := by decide
  have kI : (BitVec.ofNat 32 k).toInt = k := by
    rw [BitVec.toInt_eq_toNat_of_lt (by rw [BitVec.toNat_ofNat]; omega), BitVec.toNat_ofNat, Nat.mod_eq_of_lt (by omega)]
  have nI : (BitVec.ofNat 32 n).toInt = n := by
    rw [BitVec.toInt_eq_toNat_of_lt (by rw [BitVec.toNat_ofNat]; omega), BitVec.toNat_ofNat, Nat.mod_eq_of_lt (by omega)]
  have h0 : (BitVec.ofNat 32 n).sle w = true := bit _ h0
  rw [BitVec.sle_eq_decide, decide_eq_true_eq, nI] at h0
  have wI := BitVec.toInt_eq_toNat_cond w
  have wl := w.isLt
  constructor
  · intro h
    have h : w.slt (BitVec.ofNat 32 k) = true := bit _ h
    rw [BitVec.slt_eq_decide, decide_eq_true_eq, kI] at h
    split at wI <;> omega
  · intro h
    have h : w.sle (BitVec.ofNat 32 k) = true := bit _ h
    rw [BitVec.sle_eq_decide, decide_eq_true_eq, kI] at h
    split at wI <;> omega

/-- The precondition: every expert is one of the 64, and at least one tile and at most all are in use. -/
theorem ranges (T : IVec S576 32) (N : IVec S1 32) (X : IVec S147456x2048 32) (A B C : FVec F S4x64x192x4096 .f32)
    (h : fn (F := F) T N X A B C = fun _ => 1#1) :
    (∀ t : Fin 576, (T (ix1 t)).toNat < 64) ∧ 1 ≤ (N (ix1 0)).toNat ∧ (N (ix1 0)).toNat ≤ 576 := by
  have h := congrFun h ix0
  unfold fn at h
  pointwise at h
  obtain ⟨h, h4⟩ := both _ _ h
  obtain ⟨h, h3⟩ := both _ _ h
  obtain ⟨h1, h2⟩ := both _ _ h
  have a1 := fun t => Cert.Finite.all_of_fold _ _ h1 t (by with_reducible exact Finset.mem_univ _)
  have a2 := fun t => Cert.Finite.all_of_fold _ _ h2 t (by with_reducible exact Finset.mem_univ _)
  have a3 := Cert.Finite.all_of_fold _ _ h3 0 (by with_reducible exact Finset.mem_univ _)
  have a4 := Cert.Finite.all_of_fold _ _ h4 0 (by with_reducible exact Finset.mem_univ _)
  exact ⟨fun t => ((nat_of_range _ 0 64 (by decide) (by decide) (a1 t)).1 (a2 t)).2, (nat_of_range _ 1 576 (by decide) (by decide) a3).2 a4⟩

end Cert.GmmTables

end
-- ==== Proof.GmmClaim.lean ====
/- The routed experts: the claims about the call, and about its reference. -/
module

public import proofs.«01_k».proof.Defs
public import proofs.«01_k».proof.Proof.GmmBlock
public import proofs.«01_k».proof.Proof.GmmOkBits
public import proofs.«01_k».proof.Proof.GmmTables
public import proofs.«01_k».proof.Proof.Gen.Reference3Ideal.Run
public import Idealize.ShloMosaic.Lib.Claim

@[expose] public section

set_option maxRecDepth 16384

noncomputable section

open Idealize.ShloMosaic Idealize.ShloMosaic.TcCoe Idealize.SL.Sem

namespace Cert.GmmClaim

/-- The tables of a launch are in range. -/
theorem rangeBits (m) (h : Cert.Pre_Kernel3 m) : Cert.Kernel3.Run.Range m := by
  obtain ⟨hT, h1, h2⟩ := Cert.GmmTables.ranges _ _ _ _ _ _ (h 0)
  have e1 : (m (((0 : Dev Cert.Kernel3.nD).tc : Thread Cert.Kernel3.nD Cert.Kernel3.τ).loc Cert.Kernel3.main_arg1) (ix1 0) : BitVec 32) = Cert.Kernel3.Run.inUse m :=
    congrArg (m (((0 : Dev Cert.Kernel3.nD).tc : Thread Cert.Kernel3.nD Cert.Kernel3.τ).loc Cert.Kernel3.main_arg1))
      (funext fun a => by obtain rfl : a = (0 : Fin 1) := Subsingleton.elim (α := Fin 1) _ _; rfl)
  have e0 : ∀ n : Fin 576, (m (((0 : Dev Cert.Kernel3.nD).tc : Thread Cert.Kernel3.nD Cert.Kernel3.τ).loc Cert.Kernel3.main_arg0) (ix1 n) : BitVec 32) = Cert.Kernel3.Run.expertAt m n := fun n =>
    congrArg (m (((0 : Dev Cert.Kernel3.nD).tc : Thread Cert.Kernel3.nD Cert.Kernel3.τ).loc Cert.Kernel3.main_arg0))
      (funext fun a => by obtain rfl : a = (0 : Fin 1) := Subsingleton.elim (α := Fin 1) _ _; rfl)
  exact ⟨fun n => (e0 n) ▸ hT n, e1 ▸ h1, e1 ▸ h2⟩

/-- The tables of a launch are in range. -/
theorem range (m) (h : Cert.Pre_Kernel3Ideal m) : Cert.Kernel3Ideal.Run.Range m := by
  obtain ⟨hT, h1, h2⟩ := Cert.GmmTables.ranges _ _ _ _ _ _ (h 0)
  have e1 : (m (((0 : Dev Cert.Kernel3Ideal.nD).tc : Thread Cert.Kernel3Ideal.nD Cert.Kernel3Ideal.τ).loc Cert.Kernel3Ideal.main_arg1) (ix1 0) : BitVec 32) = Cert.Kernel3Ideal.Run.inUse m :=
    congrArg (m (((0 : Dev Cert.Kernel3Ideal.nD).tc : Thread Cert.Kernel3Ideal.nD Cert.Kernel3Ideal.τ).loc Cert.Kernel3Ideal.main_arg1))
      (funext fun a => by obtain rfl : a = (0 : Fin 1) := Subsingleton.elim (α := Fin 1) _ _; rfl)
  have e0 : ∀ n : Fin 576, (m (((0 : Dev Cert.Kernel3Ideal.nD).tc : Thread Cert.Kernel3Ideal.nD Cert.Kernel3Ideal.τ).loc Cert.Kernel3Ideal.main_arg0) (ix1 n) : BitVec 32) = Cert.Kernel3Ideal.Run.expertAt m n := fun n =>
    congrArg (m (((0 : Dev Cert.Kernel3Ideal.nD).tc : Thread Cert.Kernel3Ideal.nD Cert.Kernel3Ideal.τ).loc Cert.Kernel3Ideal.main_arg0))
      (funext fun a => by obtain rfl : a = (0 : Fin 1) := Subsingleton.elim (α := Fin 1) _ _; rfl)
  exact ⟨fun n => (e0 n) ▸ hT n, e1 ▸ h1, e1 ▸ h2⟩

theorem kernel : Cert.quiescent_Kernel3 := fun m ρ h => Cert.Kernel3.Run.unchanged m ρ (Cert.Kernel3.Run.ok_of_range m (rangeBits m h))
theorem kernelIdeal : Cert.quiescent_Kernel3Ideal := fun m ρ h => Cert.Kernel3Ideal.Run.unchanged m ρ (Cert.Kernel3Ideal.Run.ok_of_range m (range m h))
theorem reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)
theorem referencePre : Cert.quiescent_Reference3Ideal_pre_gmm_tables := fun m ρ _ => reference m ρ trivial

theorem algebraic : Cert.algebraic_Kernel3Ideal_Reference3Ideal := by
  intro m g m' g' hpre hagree
  have hR := range m hpre
  have hO := Cert.Kernel3Ideal.Run.ok_of_range m hR
  refine ⟨fun c => (Cert.Kernel3Ideal.Run.dats m hO 0 c).arrAt 4 (Cert.Kernel3Ideal.Run.cfgM m hO).N, ?_, ?_⟩
  · exact (θ_run Cert.Kernel3Ideal.defs _ _).mono (fun r h c => ⟨(h.1 c).2, (h.1 c).1⟩) (Cert.Kernel3Ideal.Run.run_result m g hO)
  · refine (θ_run Cert.Reference3Ideal.defs _ _).mono (fun r h c => ⟨(h c).1.trans ?_, (h c).2⟩) (Cert.Reference3Ideal.Value.run (F := Ideal) m' g')
    obtain ⟨hT, h1, h2⟩ := Cert.GmmTables.ranges _ _ _ _ _ _ (hpre c)
    obtain ⟨a0, a1, a2, a3, a4, a5⟩ := hagree c
    refine Eq.trans ?_ (Cert.Kernel3Ideal.RefValue.final m hR hO c).symm
    rw [Cert.Reference3Ideal.Read.val_main_v43_eq, a0, a1, a2, a3, a4, a5]
    funext j
    refine (congrArg _ ?_).trans (Cert.Reference3Ideal.RefValue.result _ _ _ _ _ _ hT h2 (j 0) (j 1))
    funext a
    match a with
    | ⟨0, _⟩ => rfl
    | ⟨1, _⟩ => rfl

end Cert.GmmClaim
-- ==== Proof.OutBlock.lean ====
/- The output projection: what one grid point stores, and the result array after the run. -/
module

public import proofs.«01_k».proof.Proof.Gen.Kernel4Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.RefValue

open Cert.Kernel4Ideal Cert.Kernel4Ideal.Gen

theorem tile_apply (X : Vec Ideal S1024x4096 .bf16) (W : Vec Ideal S4096x512 .bf16) (r : Fin 1024) (d : Fin 512) :
    k0_pay1 X W (ix2 r d) = ∑ k : Fin 4096, X (ix2 r k) * W (ix2 k d) := by
  pointwise [k0_pay1]

/-- The product of the two arrays. -/
def product (X : FVec Ideal S16384x4096 .bf16) (W : FVec Ideal S4096x4096 .bf16) : FVec Ideal S16384x4096 .bf16 := fun i =>
  ∑ k : Fin 4096, X (ix2 (i 0) k) * W (ix2 k (i 1))

theorem idx : ∀ t : Fin cfg0.N,
    win0_0.index t = ![t.val / 8, 0] ∧ win0_1.index t = ![0, t.val % 8] ∧ win0_2.index t = ![t.val / 8, t.val % 8] :=
  (by decide +kernel : ∀ t : Fin grid0.N, _)

variable (m : (ℓ : Loc nD τ sig) → Buf (Elt Ideal) ℓ)

/-- What point `t` stores at block index `y`. -/
theorem point (c : Dev nD) (t : Fin cfg0.N) (y : S1024x512.Idx) :
    out0_2 (iblk m c 0 t) (iblk m c 1 t) y
      = product (m ((c : Thread nD τ).loc main_arg0)) (m ((c : Thread nD τ).loc main_arg1)) (((cfg0.win 2).blk t).view.emb y) := by
  have hz : (![0, 0] : Fin 2 → ℕ) = fun _ => 0 := funext fun a => by fin_cases a <;> rfl
  unfold out0_2
  rw [View.ld_unit_zero hz, View.ld_unit_zero hz]
  canon_tiles x h
  idx_vars x
  rw [tile_apply]
  unfold product
  refine Finset.sum_congr rfl fun k _ => congrArg₂ (· * ·) ?_ ?_
  all_goals blk_ext [iblk, V, idx t]

/-- The result array after the run. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]; exact point m c t y

end Cert.Kernel4Ideal.RefValue
-- ==== Proof.OutClaim.lean ====
/- The output projection: the claims about the call, and about its reference. -/
module

public import proofs.«01_k».proof.Defs
public import proofs.«01_k».proof.Proof.OutBlock
public import proofs.«01_k».proof.Proof.Gen.Kernel4.Frame
public import proofs.«01_k».proof.Proof.Gen.Reference4Ideal.Run
public import proofs.«01_k».proof.Proof.Gen.Reference4Ideal.Read
public import Idealize.ShloMosaic.Lib.Claim
public import Idealize.ShloMosaic.Lib.IdealHost

@[expose] public section

set_option maxRecDepth 16384

noncomputable section

open Idealize.ShloMosaic Idealize.ShloMosaic.TcCoe Idealize.SL.Sem

namespace Cert.OutClaim

/-- The reference's result is the product. -/
theorem result (X : FVec Ideal Cert.Reference4Ideal.S16384x4096 .bf16) (W : FVec Ideal Cert.Reference4Ideal.S4096x4096 .bf16) :
    Cert.Reference4Ideal.Read.val_main_v3 (F := Ideal) X W = Cert.Kernel4Ideal.RefValue.product X W := by
  funext i
  refine (Cert.Reference4Ideal.Read.val_main_v3_apply (F := Ideal) X W i).trans ?_
  refine (Cert.Reference4Ideal.Read.val_main_v2_apply X W i).trans ?_
  refine Finset.sum_congr rfl fun k _ => congrArg₂ (· * ·) (congrArg X ?_) (congrArg W ?_)
  all_goals
    funext a
    match a with
    | ⟨0, _⟩ => rfl
    | ⟨1, _⟩ => rfl

theorem kernel : Cert.quiescent_Kernel4 := fun m ρ _ => Cert.Kernel4.Gen.frame m ρ
theorem kernelIdeal : Cert.quiescent_Kernel4Ideal := fun m ρ _ => Cert.Kernel4Ideal.Gen.frame m ρ
theorem reference : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem algebraic : Cert.algebraic_Kernel4Ideal_Reference4Ideal := by
  pair_intro
  · run_from Cert.Kernel4Ideal.Gen.run_main m g
  · run_from Cert.Reference4Ideal.Value.run m' g'
    rw [Cert.Reference4Ideal.Read.val_main_v3_eq, Cert.Kernel4Ideal.RefValue.final]
    exact result _ _

end Cert.OutClaim
-- ==== Proof.NatBlock.lean ====
/- The projection onto queries, keys and values without rotation: what one grid point stores, and the result array after
   the run. -/
module

public import proofs.«01_k».proof.Proof.Gen.Kernel5Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.RefValue

open Cert.Kernel5Ideal Cert.Kernel5Ideal.Gen

theorem tile_apply (X : Vec Ideal S1024x4096 .bf16) (W : Vec Ideal S4096x512 .bf16) (r : Fin 1024) (d : Fin 512) :
    k0_pay1 X W (ix2 r d) = ∑ k : Fin 4096, X (ix2 r k) * W (ix2 k d) := by
  pointwise [k0_pay1]

/-- The four heads of a tile of queries are scaled, those of keys and of values are not. -/
theorem scaled (a : Vec Ideal S1024x128 .f32) (x : S1024x128.Idx) :
    k0_pay2 a x = a x * Ideal.ofBits .f32 0x3DB504F3#32 := by
  pointwise [k0_pay2]
theorem scaled1 (a : Vec Ideal S1024x128 .f32) : k0_pay3 a = k0_pay2 a := rfl
theorem scaled2 (a : Vec Ideal S1024x128 .f32) : k0_pay4 a = k0_pay2 a := rfl
theorem scaled3 (a : Vec Ideal S1024x128 .f32) : k0_pay5 a = k0_pay2 a := rfl
theorem plain (a : Vec Ideal S1024x128 .f32) (x : S1024x128.Idx) : k0_pay6 a x = a x := rfl
theorem plain1 (a : Vec Ideal S1024x128 .f32) (x : S1024x128.Idx) : k0_pay7 a x = a x := rfl
theorem plain2 (a : Vec Ideal S1024x128 .f32) (x : S1024x128.Idx) : k0_pay8 a x = a x := rfl
theorem plain3 (a : Vec Ideal S1024x128 .f32) (x : S1024x128.Idx) : k0_pay9 a x = a x := rfl

/-- The product of the two arrays. -/
def product (X : FVec Ideal S16384x4096 .bf16) (W : FVec Ideal S4096x6144 .bf16) (r : Fin 16384) (d : Fin 6144) : EReal :=
  ∑ k : Fin 4096, X (ix2 r k) * W (ix2 k d)

/-- The projection: the product, its first 4096 columns scaled. -/
def projection (X : FVec Ideal S16384x4096 .bf16) (W : FVec Ideal S4096x6144 .bf16) : FVec Ideal S16384x6144 .bf16 := fun i =>
  if (i 1).val < 4096 then product X W (i 0) (i 1) * Ideal.ofBits .f32 0x3DB504F3#32 else product X W (i 0) (i 1)

theorem idx : ∀ t : Fin cfg0.N,
    win0_0.index t = ![t.val / 12, 0] ∧ win0_1.index t = ![0, t.val % 12] ∧ win0_6.index t = ![t.val / 12, t.val % 12] :=
  (by decide +kernel : ∀ t : Fin grid0.N, _)

/-- A load of part of the accumulator after it was stored whole reads that part of what was stored. -/
theorem read_part (w : Vec Ideal S1024x512 .f32) (v : View sig .tc .vmem S1024x512 .f32) (off : Fin 2 → ℕ) (inb) (inb') :
    v.readCov [(⟨Rect.unit (s := S1024x512) ![0, 0] ![1024, 512] inb', w⟩ : View.Piece (Elt Ideal) S1024x512 .f32)]
      (Rect.unit (s := S1024x512) off ![1024, 128] inb).toLoadRect = View.ld w (Rect.unit (s := S1024x512) off ![1024, 128] inb) := by
  have hz : (![0, 0] : Fin 2 → ℕ) = fun _ => 0 := funext fun a => by fin_cases a <;> rfl
  rw [View.readCov_eq_canon']
  have e : View.canon [(⟨Rect.unit (s := S1024x512) ![0, 0] ![1024, 512] inb', w⟩ : View.Piece (Elt Ideal) S1024x512 .f32)] = w :=
    View.canon_unit_zero (S := S1024x512) hz _ _
  rw [e]

variable (m : (ℓ : Loc nD τ sig) → Buf (Elt Ideal) ℓ)

/-- An entry of the tile over the point's blocks is the product at the place of the entry. -/
theorem core (c : Dev nD) (t : Fin cfg0.N) (r : Fin 1024) (d : Fin 512) (i : S16384x6144.Idx)
    (hi0 : (i 0 : ℕ) = t.val / 12 * 1024 + r.val) (hi1 : (i 1 : ℕ) = t.val % 12 * 512 + d.val) :
    k0_pay1 (iblk m c 0 t) (iblk m c 1 t) (ix2 r d)
      = product (m ((c : Thread nD τ).loc main_arg0)) (m ((c : Thread nD τ).loc main_arg1)) (i 0) (i 1) := by
  rw [tile_apply]
  unfold product
  refine Finset.sum_congr rfl fun k _ => congrArg₂ (· * ·) ?_ ?_
  all_goals blk_ext [iblk, V, idx t]

/-- The same of an entry of a head's columns. -/
theorem part (c : Dev nD) (t : Fin cfg0.N) (o : ℕ) (inb) (r : Fin 1024) (d : Fin 128) (i : S16384x6144.Idx) (ho : o + 128 ≤ 512)
    (hi0 : (i 0 : ℕ) = t.val / 12 * 1024 + r.val) (hi1 : (i 1 : ℕ) = t.val % 12 * 512 + (o + d.val)) :
    View.ld (Val := Elt Ideal) (e' := .f32) (k0_pay1 (iblk m c 0 t) (iblk m c 1 t)) (Rect.unit (s := S1024x512) ![0, o] ![1024, 128] inb) (ix2 r d)
      = product (m ((c : Thread nD τ).loc main_arg0)) (m ((c : Thread nD τ).loc main_arg1)) (i 0) (i 1) := by
  refine (View.ld_unit_apply_of (S := S1024x512) _ _ _ inb _ (ix2 r ⟨o + d.val, by omega⟩) fun a => ?_).trans
    (core m c t r ⟨o + d.val, by omega⟩ i hi0 hi1)
  match a with
  | ⟨0, _⟩ => show r.val = 0 + r.val; omega
  | ⟨1, _⟩ => rfl

theorem row (t : Fin cfg0.N) (y : S1024x512.Idx) : (((cfg0.win 6).blk t).view.emb y 0).val = t.val / 12 * 1024 + (y 0).val := by
  blk_simp [idx t]
theorem column (t : Fin cfg0.N) (y : S1024x512.Idx) : (((cfg0.win 6).blk t).view.emb y 1).val = t.val % 12 * 512 + (y 1).val := by
  blk_simp [idx t]

/-- What a point of the queries stores. -/
theorem pointA (c : Dev nD) (t : Fin cfg0.N) (h0 : t.val % 12 ≤ 7) (h1 : ¬8 ≤ t.val % 12) (y : S1024x512.Idx) :
    outsAt0 m c t.val t.isLt y
      = projection (m ((c : Thread nD τ).loc main_arg0)) (m ((c : Thread nD τ).loc main_arg1)) (((cfg0.win 6).blk t).view.emb y) := by
  have hz : (![0, 0] : Fin 2 → ℕ) = fun _ => 0 := funext fun a => by fin_cases a <;> rfl
  rw [outsAt0_A m c t h0 h1]
  unfold out0_A_6
  rw [View.read_writes_junk_apply_eq_canon]
  unfold kernelRun0_A
  dsimp only
  sl_unfold_words
  simp only [read_part, scaled1, scaled2, scaled3]
  simp only [View.readAt_eq_ld, (hs0_0 t).read_unread, (hs0_1 t).read_unread]
  rw [View.ld_unit_zero (S := S1024x4096) hz, View.ld_unit_zero (S := S4096x512) hz]
  have hr := row t y
  have hc := column t y
  have hy : (y 1).val < 512 := (y 1).isLt
  have hq : (((cfg0.win 6).blk t).view.emb y 1).val < 4096 := by omega
  refine Eq.trans ?_ (if_pos hq).symm
  canon_tiles x h
  all_goals idx_vars x
  all_goals
    rw [scaled]
    refine congrArg (· * Ideal.ofBits .f32 0x3DB504F3#32) (part m c t _ _ x0 x1 _ (by decide) (hr.trans (by omega)) (hc.trans (by omega)))

/-- What a point of the keys and values stores. -/
theorem pointB (c : Dev nD) (t : Fin cfg0.N) (h0 : ¬t.val % 12 ≤ 7) (h1 : 8 ≤ t.val % 12) (y : S1024x512.Idx) :
    outsAt0 m c t.val t.isLt y
      = projection (m ((c : Thread nD τ).loc main_arg0)) (m ((c : Thread nD τ).loc main_arg1)) (((cfg0.win 6).blk t).view.emb y) := by
  have hz : (![0, 0] : Fin 2 → ℕ) = fun _ => 0 := funext fun a => by fin_cases a <;> rfl
  rw [outsAt0_B m c t h0 h1]
  unfold out0_B_6
  rw [View.read_writes_junk_apply_eq_canon]
  unfold kernelRun0_B
  dsimp only
  sl_unfold_words
  simp only [read_part]
  simp only [View.readAt_eq_ld, (hs0_0 t).read_unread, (hs0_1 t).read_unread]
  rw [View.ld_unit_zero (S := S1024x4096) hz, View.ld_unit_zero (S := S4096x512) hz]
  have hr := row t y
  have hc := column t y
  have hq : ¬(((cfg0.win 6).blk t).view.emb y 1).val < 4096 := by omega
  refine Eq.trans ?_ (if_neg hq).symm
  canon_tiles x h
  all_goals idx_vars x
  all_goals exact part m c t _ _ x0 x1 _ (by decide) (hr.trans (by omega)) (hc.trans (by omega))

/-- The result array after the run. -/
theorem final (c : Dev nD) : (dats m 0 c).arrAt 6 (cfgs 0).N = projection (m ((c : Thread nD τ).loc main_arg0)) (m ((c : Thread nD τ).loc main_arg1)) := by
  refine (dats m 0 c).arrAt_eq_of_covers 6 _ (by decide +kernel) fun t _ y => ?_
  blk_simp
  rw [after0_6]
  by_cases h : t.val % 12 ≤ 7
  · exact pointA m c t h (by omega) y
  · exact pointB m c t h (by omega) y

end Cert.Kernel5Ideal.RefValue
-- ==== Proof.NatClaim.lean ====
/- The projection onto queries, keys and values without rotation: the claims about the call, and about its reference. -/
module

public import proofs.«01_k».proof.Defs
public import proofs.«01_k».proof.Proof.NatBlock
public import proofs.«01_k».proof.Proof.Gen.Kernel5.Frame
public import proofs.«01_k».proof.Proof.Gen.Reference5Ideal.Run
public import proofs.«01_k».proof.Proof.Gen.Reference5Ideal.Read
public import Idealize.ShloMosaic.Lib.Claim
public import Idealize.ShloMosaic.Lib.IdealHost

@[expose] public section

set_option maxRecDepth 16384

noncomputable section

open Idealize.ShloMosaic Idealize.ShloMosaic.TcCoe Idealize.SL.Sem

namespace Cert.NatClaim

open Cert.Reference5Ideal Cert.Reference5Ideal.Gen Cert.Reference5Ideal.Read

variable (X : FVec Ideal S16384x4096 .bf16) (W : FVec Ideal S4096x6144 .bf16)

theorem product_apply (i : S16384x6144.Idx) : val_main_v2 (F := Ideal) X W i = Cert.Kernel5Ideal.RefValue.product X W (i 0) (i 1) := by
  refine (val_main_v2_apply X W i).trans ?_
  refine Finset.sum_congr rfl fun k _ => congrArg₂ (· * ·) (congrArg X ?_) (congrArg W ?_)
  all_goals
    funext a
    match a with
    | ⟨0, _⟩ => rfl
    | ⟨1, _⟩ => rfl

/-- The reference's result is the projection. -/
theorem result : val_main_v9 (F := Ideal) X W = Cert.Kernel5Ideal.RefValue.projection X W := by
  funext i
  refine (val_main_v9_apply (F := Ideal) X W i).trans ?_
  idx_vars i
  unfold val_main_v8
  unfold Cert.Kernel5Ideal.RefValue.projection
  pointwise
  by_cases h : i1.val < 4096
  · rw [dif_pos h, if_pos h]
    refine (val_main_v7_apply (F := Ideal) X W _).trans (congrArg₂ (· * ·) ?_ ?_)
    · exact (val_main_v3_apply (F := Ideal) X W _).trans (product_apply X W _)
    · exact (val_main_v6_apply (F := Ideal) _).trans (val_main_cst_apply (F := Ideal) _)
  · rw [dif_neg h, if_neg h]
    split
    · refine ((val_main_v4_apply (F := Ideal) X W _).trans (product_apply X W _)).trans (congrArg (Cert.Kernel5Ideal.RefValue.product X W i0) (Fin.ext ?_))
      show 4096 + (i1.val - 4096) = i1.val
      omega
    · refine ((val_main_v5_apply (F := Ideal) X W _).trans (product_apply X W _)).trans (congrArg (Cert.Kernel5Ideal.RefValue.product X W i0) (Fin.ext ?_))
      show 5120 + (i1.val - 4096 - 1024) = i1.val
      omega

theorem kernel : Cert.quiescent_Kernel5 := fun m ρ _ => Cert.Kernel5.Gen.frame m ρ
theorem kernelIdeal : Cert.quiescent_Kernel5Ideal := fun m ρ _ => Cert.Kernel5Ideal.Gen.frame m ρ
theorem reference : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

theorem algebraic : Cert.algebraic_Kernel5Ideal_Reference5Ideal := by
  pair_intro
  · run_from Cert.Kernel5Ideal.Gen.run_main m g
  · run_from Cert.Reference5Ideal.Value.run m' g'
    rw [Cert.Reference5Ideal.Read.val_main_v9_eq, Cert.Kernel5Ideal.RefValue.final]
    exact result _ _

end Cert.NatClaim
-- ==== Proof.RotBlock.lean ====
/- The projection onto queries, keys and values with rotation: what one grid point stores, and the result array after
   the run. -/
module

public import proofs.«01_k».proof.Proof.Gen.Kernel6Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.RefValue

open Cert.Kernel6Ideal Cert.Kernel6Ideal.Gen

theorem tile_apply (X : Vec Ideal S1024x4096 .bf16) (W : Vec Ideal S4096x512 .bf16) (r : Fin 1024) (d : Fin 512) :
    k0_pay1 X W (ix2 r d) = ∑ k : Fin 4096, X (ix2 r k) * W (ix2 k d) := by
  pointwise [k0_pay1]

/-- A head's columns are rotated: those of the keys only that, those of the queries scaled after it. -/
theorem turned (a c s : Vec Ideal S1024x128 .f32) (r : Fin 1024) (d : Fin 128) :
    k0_pay4 a c s (ix2 r d) = a (ix2 r d) * c (ix2 r d) + a (ix2 r ⟨(d.val + 128 - 64) % 128, by omega⟩) * s (ix2 r d) := by
  pointwise [k0_pay4]
theorem turned1 (a c s : Vec Ideal S1024x128 .f32) : k0_pay13 a c s = k0_pay4 a c s := rfl
theorem turned2 (a c s : Vec Ideal S1024x128 .f32) : k0_pay14 a c s = k0_pay4 a c s := rfl
theorem turned3 (a c s : Vec Ideal S1024x128 .f32) : k0_pay15 a c s = k0_pay4 a c s := rfl
theorem scaled (a c s : Vec Ideal S1024x128 .f32) (x : S1024x128.Idx) :
    k0_pay3 a c s x = k0_pay4 a c s x * Ideal.ofBits .f32 0x3DB504F3#32 := rfl
theorem scaled1 (a c s : Vec Ideal S1024x128 .f32) : k0_pay9 a c s = k0_pay3 a c s := rfl
theorem scaled2 (a c s : Vec Ideal S1024x128 .f32) : k0_pay10 a c s = k0_pay3 a c s := rfl
theorem scaled3 (a c s : Vec Ideal S1024x128 .f32) : k0_pay2 (k0_pay11 a c) (k0_pay12 a) s = k0_pay3 a c s := rfl
theorem plain (a : Vec Ideal S1024x128 .f32) (x : S1024x128.Idx) : k0_pay5 a x = a x := rfl
theorem plain1 (a : Vec Ideal S1024x128 .f32) (x : S1024x128.Idx) : k0_pay6 a x = a x := rfl
theorem plain2 (a : Vec Ideal S1024x128 .f32) (x : S1024x128.Idx) : k0_pay7 a x = a x := rfl
theorem plain3 (a : Vec Ideal S1024x128 .f32) (x : S1024x128.Idx) : k0_pay8 a x = a x := rfl

/-- The product of the two arrays. -/
def product (X : FVec Ideal S16384x4096 .bf16) (W : FVec Ideal S4096x6144 .bf16) (r : Fin 16384) (d : Fin 6144) : EReal :=
  ∑ k : Fin 4096, X (ix2 r k) * W (ix2 k d)

/-- The rotated product: within a head's 128 columns, column `d` of the first half goes with column `d + 64`. -/
def turn (X : FVec Ideal S16384x4096 .bf16) (W : FVec Ideal S4096x6144 .bf16) (C S : FVec Ideal S4096x64 .f32)
    (r : Fin 16384) (n : Fin 6144) : EReal :=
  if h : n.val % 128 < 64 then
    product X W r n * C (ix2 ⟨r.val % 4096, by omega⟩ ⟨n.val % 128, h⟩)
      - product X W r ⟨n.val + 64, by omega⟩ * S (ix2 ⟨r.val % 4096, by omega⟩ ⟨n.val % 128, h⟩)
  else
    product X W r ⟨n.val - 64, by omega⟩ * S (ix2 ⟨r.val % 4096, by omega⟩ ⟨n.val % 128 - 64, by omega⟩)
      + product X W r n * C (ix2 ⟨r.val % 4096, by omega⟩ ⟨n.val % 128 - 64, by omega⟩)

/-- The projection: queries rotated and scaled, keys rotated, values as they are. -/
def projection (X : FVec Ideal S16384x4096 .bf16) (W : FVec Ideal S4096x6144 .bf16) (C S : FVec Ideal S4096x64 .f32) :
    FVec Ideal S16384x6144 .bf16 := fun i =>
  if (i 1).val < 4096 then turn X W C S (i 0) (i 1) * Ideal.ofBits .f32 0x3DB504F3#32
  else if (i 1).val < 5120 then turn X W C S (i 0) (i 1) else product X W (i 0) (i 1)

theorem idx : ∀ t : Fin cfg0.N,
    win0_0.index t = ![t.val / 12, 0] ∧ win0_1.index t = ![0, t.val % 12] ∧ win0_2.index t = ![t.val / 12 % 4, 0]
      ∧ win0_3.index t = ![t.val / 12 % 4, 0] ∧ win0_6.index t = ![t.val / 12, t.val % 12] :=
  (by decide +kernel : ∀ t : Fin grid0.N, _)

/-- A load of part of the accumulator after it was stored whole reads that part of what was stored. -/
theorem read_part (w : Vec Ideal S1024x512 .f32) (v : View sig .tc .vmem S1024x512 .f32) (off : Fin 2 → ℕ) (inb) (inb') :
    v.readCov [(⟨Rect.unit (s := S1024x512) ![0, 0] ![1024, 512] inb', w⟩ : View.Piece (Elt Ideal) S1024x512 .f32)]
      (Rect.unit (s := S1024x512) off ![1024, 128] inb).toLoadRect = View.ld w (Rect.unit (s := S1024x512) off ![1024, 128] inb) := by
  have hz : (![0, 0] : Fin 2 → ℕ) = fun _ => 0 := funext fun a => by fin_cases a <;> rfl
  rw [View.readCov_eq_canon']
  have e : View.canon [(⟨Rect.unit (s := S1024x512) ![0, 0] ![1024, 512] inb', w⟩ : View.Piece (Elt Ideal) S1024x512 .f32)] = w :=
    View.canon_unit_zero (S := S1024x512) hz _ _
  rw [e]

variable (m : (ℓ : Loc nD τ sig) → Buf (Elt Ideal) ℓ)

/-- The table of cosines, twice side by side. -/
theorem cosines (c : Dev nD) (r : Fin 4096) (d : Fin 128) :
    V m c (Pipeline.arrRef spec0 2) (ix2 r d)
      = (m ((c : Thread nD τ).loc main_arg2) : FVec Ideal S4096x64 .f32) (ix2 r ⟨d.val % 64, by omega⟩) := by
  unfold V
  entry_read
  pointwise
  split
  · exact congrArg _ (congrArg (ix2 r) (Fin.ext (by show d.val = d.val % 64; omega)))
  · exact congrArg _ (congrArg (ix2 r) (Fin.ext (by show d.val - 64 = d.val % 64; omega)))

/-- The table of sines, with the sign turned in its first half. -/
theorem sines (c : Dev nD) (r : Fin 4096) (d : Fin 128) :
    V m c (Pipeline.arrRef spec0 3) (ix2 r d)
      = if d.val < 64 then Neg.neg (α := EReal) ((m ((c : Thread nD τ).loc main_arg3) : FVec Ideal S4096x64 .f32) (ix2 r ⟨d.val % 64, by omega⟩))
        else (m ((c : Thread nD τ).loc main_arg3) : FVec Ideal S4096x64 .f32) (ix2 r ⟨d.val % 64, by omega⟩) := by
  unfold V
  entry_read
  pointwise
  split
  · exact congrArg (Neg.neg (α := EReal)) (congrArg (m ((c : Thread nD τ).loc main_arg3) : FVec Ideal S4096x64 .f32) (congrArg (ix2 r) (Fin.ext (by show d.val = d.val % 64; omega))))
  · exact congrArg _ (congrArg (ix2 r) (Fin.ext (by show d.val - 64 = d.val % 64; omega)))

theorem cosine (c : Dev nD) (t : Fin cfg0.N) (r : Fin 1024) (d : Fin 128) (i : Fin 16384) (hi : i.val = t.val / 12 * 1024 + r.val) :
    iblk m c 2 t (ix2 r d) = (m ((c : Thread nD τ).loc main_arg2) : FVec Ideal S4096x64 .f32) (ix2 ⟨i.val % 4096, by omega⟩ ⟨d.val % 64, by omega⟩) := by
  refine Eq.trans ?_ (cosines m c ⟨i.val % 4096, by omega⟩ d)
  blk_ext [iblk, idx t]

theorem sine (c : Dev nD) (t : Fin cfg0.N) (r : Fin 1024) (d : Fin 128) (i : Fin 16384) (hi : i.val = t.val / 12 * 1024 + r.val) :
    iblk m c 3 t (ix2 r d)
      = if d.val < 64 then Neg.neg (α := EReal) ((m ((c : Thread nD τ).loc main_arg3) : FVec Ideal S4096x64 .f32) (ix2 ⟨i.val % 4096, by omega⟩ ⟨d.val % 64, by omega⟩))
        else (m ((c : Thread nD τ).loc main_arg3) : FVec Ideal S4096x64 .f32) (ix2 ⟨i.val % 4096, by omega⟩ ⟨d.val % 64, by omega⟩) := by
  refine Eq.trans ?_ (sines m c ⟨i.val % 4096, by omega⟩ d)
  blk_ext [iblk, idx t]

/-- An entry of the tile over the point's blocks is the product at the place of the entry. -/
theorem core (c : Dev nD) (t : Fin cfg0.N) (r : Fin 1024) (d : Fin 512) (i0 : Fin 16384) (i1 : Fin 6144)
    (hi0 : i0.val = t.val / 12 * 1024 + r.val) (hi1 : i1.val = t.val % 12 * 512 + d.val) :
    k0_pay1 (iblk m c 0 t) (iblk m c 1 t) (ix2 r d)
      = product (m ((c : Thread nD τ).loc main_arg0)) (m ((c : Thread nD τ).loc main_arg1)) i0 i1 := by
  rw [tile_apply]
  unfold product
  refine Finset.sum_congr rfl fun k _ => congrArg₂ (· * ·) ?_ ?_
  all_goals blk_ext [iblk, V, idx t]

/-- The same of an entry of a head's columns. -/
theorem part (c : Dev nD) (t : Fin cfg0.N) (o : ℕ) (inb) (r : Fin 1024) (d : Fin 128) (i0 : Fin 16384) (i1 : Fin 6144) (ho : o + 128 ≤ 512)
    (hi0 : i0.val = t.val / 12 * 1024 + r.val) (hi1 : i1.val = t.val % 12 * 512 + (o + d.val)) :
    View.ld (Val := Elt Ideal) (e' := .f32) (k0_pay1 (iblk m c 0 t) (iblk m c 1 t)) (Rect.unit (s := S1024x512) ![0, o] ![1024, 128] inb) (ix2 r d)
      = product (m ((c : Thread nD τ).loc main_arg0)) (m ((c : Thread nD τ).loc main_arg1)) i0 i1 := by
  refine (View.ld_unit_apply_of (S := S1024x512) _ _ _ inb _ (ix2 r ⟨o + d.val, by omega⟩) fun a => ?_).trans
    (core m c t r ⟨o + d.val, by omega⟩ i0 i1 hi0 hi1)
  match a with
  | ⟨0, _⟩ => show r.val = 0 + r.val; omega
  | ⟨1, _⟩ => rfl

/-- A head's columns after the rotation. -/
theorem turned_part (c : Dev nD) (t : Fin cfg0.N) (o : ℕ) (inb) (r : Fin 1024) (d : Fin 128) (i0 : Fin 16384) (i1 : Fin 6144) (ho : o + 128 ≤ 512)
    (hm : o % 128 = 0) (hi0 : i0.val = t.val / 12 * 1024 + r.val) (hi1 : i1.val = t.val % 12 * 512 + (o + d.val)) :
    k0_pay4 (View.ld (Val := Elt Ideal) (e' := .f32) (k0_pay1 (iblk m c 0 t) (iblk m c 1 t)) (Rect.unit (s := S1024x512) ![0, o] ![1024, 128] inb))
        (iblk m c 2 t) (iblk m c 3 t) (ix2 r d)
      = turn (m ((c : Thread nD τ).loc main_arg0)) (m ((c : Thread nD τ).loc main_arg1)) (m ((c : Thread nD τ).loc main_arg2))
          (m ((c : Thread nD τ).loc main_arg3)) i0 i1 := by
  have hd := d.isLt
  have h1 := i1.isLt
  rw [turned, cosine m c t r d i0 hi0, sine m c t r d i0 hi0, part m c t o inb r d i0 i1 ho hi0 hi1]
  unfold turn
  by_cases h : d.val < 64
  · have h' : i1.val % 128 < 64 := by omega
    rw [if_pos h, dif_pos h', part m c t o inb r _ i0 ⟨i1.val + 64, by omega⟩ ho hi0 (by show i1.val + 64 = _ + (o + (d.val + 128 - 64) % 128); omega),
      mul_neg, ← sub_eq_add_neg]
    have e : (⟨d.val % 64, by omega⟩ : Fin 64) = ⟨i1.val % 128, h'⟩ := Fin.ext (by show d.val % 64 = i1.val % 128; omega)
    rw [e]
  · have h' : ¬i1.val % 128 < 64 := by omega
    rw [if_neg h, dif_neg h', part m c t o inb r _ i0 ⟨i1.val - 64, by omega⟩ ho hi0 (by show i1.val - 64 = _ + (o + (d.val + 128 - 64) % 128); omega),
      add_comm]
    have e : (⟨d.val % 64, by omega⟩ : Fin 64) = ⟨i1.val % 128 - 64, by omega⟩ := Fin.ext (by show d.val % 64 = i1.val % 128 - 64; omega)
    rw [e]

theorem row (t : Fin cfg0.N) (y : S1024x512.Idx) : (((cfg0.win 6).blk t).view.emb y 0).val = t.val / 12 * 1024 + (y 0).val := by
  blk_simp [idx t]
theorem column (t : Fin cfg0.N) (y : S1024x512.Idx) : (((cfg0.win 6).blk t).view.emb y 1).val = t.val % 12 * 512 + (y 1).val := by
  blk_simp [idx t]

/-- What a point of the queries stores. -/
theorem pointA (c : Dev nD) (t : Fin cfg0.N) (h0 : t.val % 12 ≤ 7) (h1 : ¬(8 ≤ t.val % 12 ∧ t.val % 12 ≤ 9)) (h2 : ¬10 ≤ t.val % 12)
    (y : S1024x512.Idx) :
    outsAt0 m c t.val t.isLt y
      = projection (m ((c : Thread nD τ).loc main_arg0)) (m ((c : Thread nD τ).loc main_arg1)) (m ((c : Thread nD τ).loc main_arg2))
          (m ((c : Thread nD τ).loc main_arg3)) (((cfg0.win 6).blk t).view.emb y) := by
  have hz : (![0, 0] : Fin 2 → ℕ) = fun _ => 0 := funext fun a => by fin_cases a <;> rfl
  rw [outsAt0_A m c t h0 h1 h2]
  unfold out0_A_6
  rw [View.read_writes_junk_apply_eq_canon]
  unfold kernelRun0_A
  dsimp only
  sl_unfold_words
  simp only [read_part, scaled1, scaled2, scaled3]
  simp only [View.readAt_eq_ld, (hs0_0 t).read_unread, (hs0_1 t).read_unread, (hs0_2 t).read_unread, (hs0_3 t).read_unread]
  simp only [View.ld_unit_zero (S := S1024x4096) hz, View.ld_unit_zero (S := S4096x512) hz, View.ld_unit_zero (S := S1024x128) hz]
  have hr := row t y
  have hc := column t y
  have hy : (y 1).val < 512 := (y 1).isLt
  have hq : (((cfg0.win 6).blk t).view.emb y 1).val < 4096 := by omega
  refine Eq.trans ?_ (if_pos hq).symm
  canon_tiles x h
  all_goals idx_vars x
  all_goals
    rw [scaled]
    refine congrArg (· * Ideal.ofBits .f32 0x3DB504F3#32) (turned_part m c t _ _ x0 x1 _ _ (by decide) (by decide) (hr.trans (by omega)) (hc.trans (by omega)))

/-- What a point of the keys stores. -/
theorem pointB (c : Dev nD) (t : Fin cfg0.N) (h0 : ¬t.val % 12 ≤ 7) (h1 : 8 ≤ t.val % 12 ∧ t.val % 12 ≤ 9) (h2 : ¬10 ≤ t.val % 12)
    (y : S1024x512.Idx) :
    outsAt0 m c t.val t.isLt y
      = projection (m ((c : Thread nD τ).loc main_arg0)) (m ((c : Thread nD τ).loc main_arg1)) (m ((c : Thread nD τ).loc main_arg2))
          (m ((c : Thread nD τ).loc main_arg3)) (((cfg0.win 6).blk t).view.emb y) := by
  have hz : (![0, 0] : Fin 2 → ℕ) = fun _ => 0 := funext fun a => by fin_cases a <;> rfl
  rw [outsAt0_B m c t h0 h1 h2]
  unfold out0_B_6
  rw [View.read_writes_junk_apply_eq_canon]
  unfold kernelRun0_B
  dsimp only
  sl_unfold_words
  simp only [read_part, turned1, turned2, turned3]
  simp only [View.readAt_eq_ld, (hs0_0 t).read_unread, (hs0_1 t).read_unread, (hs0_2 t).read_unread, (hs0_3 t).read_unread]
  simp only [View.ld_unit_zero (S := S1024x4096) hz, View.ld_unit_zero (S := S4096x512) hz, View.ld_unit_zero (S := S1024x128) hz]
  have hr := row t y
  have hc := column t y
  have hy : (y 1).val < 512 := (y 1).isLt
  have hq : ¬(((cfg0.win 6).blk t).view.emb y 1).val < 4096 := by omega
  have hk : (((cfg0.win 6).blk t).view.emb y 1).val < 5120 := by omega
  refine Eq.trans ?_ ((if_neg hq).trans (if_pos hk)).symm
  canon_tiles x h
  all_goals idx_vars x
  all_goals exact turned_part m c t _ _ x0 x1 _ _ (by decide) (by decide) (hr.trans (by omega)) (hc.trans (by omega))

/-- What a point of the values stores. -/
theorem pointC (c : Dev nD) (t : Fin cfg0.N) (h0 : ¬t.val % 12 ≤ 7) (h1 : ¬(8 ≤ t.val % 12 ∧ t.val % 12 ≤ 9)) (h2 : 10 ≤ t.val % 12)
    (y : S1024x512.Idx) :
    outsAt0 m c t.val t.isLt y
      = projection (m ((c : Thread nD τ).loc main_arg0)) (m ((c : Thread nD τ).loc main_arg1)) (m ((c : Thread nD τ).loc main_arg2))
          (m ((c : Thread nD τ).loc main_arg3)) (((cfg0.win 6).blk t).view.emb y) := by
  have hz : (![0, 0] : Fin 2 → ℕ) = fun _ => 0 := funext fun a => by fin_cases a <;> rfl
  rw [outsAt0_C m c t h0 h1 h2]
  unfold out0_C_6
  rw [View.read_writes_junk_apply_eq_canon]
  unfold kernelRun0_C
  dsimp only
  sl_unfold_words
  simp only [read_part]
  simp only [View.readAt_eq_ld, (hs0_0 t).read_unread, (hs0_1 t).read_unread]
  rw [View.ld_unit_zero (S := S1024x4096) hz, View.ld_unit_zero (S := S4096x512) hz]
  have hr := row t y
  have hc := column t y
  have hq : ¬(((cfg0.win 6).blk t).view.emb y 1).val < 4096 := by omega
  have hk : ¬(((cfg0.win 6).blk t).view.emb y 1).val < 5120 := by omega
  refine Eq.trans ?_ ((if_neg hq).trans (if_neg hk)).symm
  canon_tiles x h
  all_goals idx_vars x
  all_goals exact part m c t _ _ x0 x1 _ _ (by decide) (hr.trans (by omega)) (hc.trans (by omega))

/-- The result array after the run. -/
theorem final (c : Dev nD) : (dats m 0 c).arrAt 6 (cfgs 0).N
    = projection (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6]
  by_cases h : t.val % 12 ≤ 7
  · exact pointA m c t h (by omega) (by omega) y
  · by_cases h' : t.val % 12 ≤ 9
    · exact pointB m c t h (by omega) (by omega) y
    · exact pointC m c t h (by omega) (by omega) y

end Cert.Kernel6Ideal.RefValue
-- ==== Proof.RotClaim.lean ====
/- The projection onto queries, keys and values with rotation: the claims about the call, and about its reference. -/
module

public import proofs.«01_k».proof.Defs
public import proofs.«01_k».proof.Proof.RotBlock
public import proofs.«01_k».proof.Proof.Gen.Kernel6.Frame
public import proofs.«01_k».proof.Proof.Gen.Reference6Ideal.Run
public import proofs.«01_k».proof.Proof.Gen.Reference6Ideal.Read
public import Idealize.ShloMosaic.Lib.Claim
public import Idealize.ShloMosaic.Lib.IdealHost

@[expose] public section

set_option maxRecDepth 16384

noncomputable section

open Idealize.ShloMosaic Idealize.ShloMosaic.TcCoe Idealize.SL.Sem

namespace Cert.RotClaim

open Cert.Reference6Ideal Cert.Reference6Ideal.Gen Cert.Reference6Ideal.Read
open Cert.Kernel6Ideal.RefValue (product turn projection)

variable (X : FVec Ideal S16384x4096 .bf16) (W : FVec Ideal S4096x6144 .bf16) (C S : FVec Ideal S4096x64 .f32)

theorem product_apply (i : S16384x6144.Idx) : val_main_v2 (F := Ideal) X W i = product X W (i 0) (i 1) := by
  refine (val_main_v2_apply X W i).trans ?_
  refine Finset.sum_congr rfl fun k _ => congrArg₂ (· * ·) (congrArg X ?_) (congrArg W ?_)
  all_goals
    funext a
    match a with
    | ⟨0, _⟩ => rfl
    | ⟨1, _⟩ => rfl

/-- The tables with axes of size one. -/
theorem cosine (i : S1x4096x1x64.Idx) (t : Fin 4096) (d : Fin 64) (ht : t.val = (i 1).val) (hd : d.val = (i 3).val) :
    val_main_v6 (F := Ideal) C i = C (ix2 t d) := by
  refine (val_main_v6_apply (F := Ideal) C i).trans (congrArg C (funext fun a => Fin.ext ?_))
  have h0 : (i 0).val < 1 := (i 0).isLt
  have h2 : (i 2).val < 1 := (i 2).isLt
  have h3 : (i 3).val < 64 := (i 3).isLt
  match a with
  | ⟨0, _⟩ => show _ = t.val; simp only [idx_main_v6]; omega
  | ⟨1, _⟩ => show _ = d.val; simp only [idx_main_v6]; omega

theorem sine (i : S1x4096x1x64.Idx) (t : Fin 4096) (d : Fin 64) (ht : t.val = (i 1).val) (hd : d.val = (i 3).val) :
    val_main_v7 (F := Ideal) S i = S (ix2 t d) := by
  refine (val_main_v7_apply (F := Ideal) S i).trans (congrArg S (funext fun a => Fin.ext ?_))
  have h0 : (i 0).val < 1 := (i 0).isLt
  have h2 : (i 2).val < 1 := (i 2).isLt
  have h3 : (i 3).val < 64 := (i 3).isLt
  match a with
  | ⟨0, _⟩ => show _ = t.val; simp only [idx_main_v7]; omega
  | ⟨1, _⟩ => show _ = d.val; simp only [idx_main_v7]; omega

/-- The queries before the rotation, head by head. -/
theorem query (j : S4x4096x32x128.Idx) (r : Fin 16384) (n : Fin 6144) (hr : r.val = (j 0).val * 4096 + (j 1).val)
    (hn : n.val = (j 2).val * 128 + (j 3).val) : val_main_v8 (F := Ideal) X W j = product X W r n := by
  have h1 : (j 1).val < 4096 := (j 1).isLt
  have h2 : (j 2).val < 32 := (j 2).isLt
  have h3 : (j 3).val < 128 := (j 3).isLt
  refine (val_main_v8_apply (F := Ideal) X W j).trans ((val_main_v3_apply (F := Ideal) X W _).trans ((product_apply X W _).trans ?_))
  refine congrArg₂ (product X W) (Fin.ext ?_) (Fin.ext ?_)
  · simp only [idx_main_v3, idx_main_v8]; omega
  · simp only [idx_main_v3, idx_main_v8]; omega

/-- The keys before the rotation, head by head. -/
theorem key (j : S4x4096x8x128.Idx) (r : Fin 16384) (n : Fin 6144) (hr : r.val = (j 0).val * 4096 + (j 1).val)
    (hn : n.val = 4096 + ((j 2).val * 128 + (j 3).val)) : val_main_v23 (F := Ideal) X W j = product X W r n := by
  have h1 : (j 1).val < 4096 := (j 1).isLt
  have h2 : (j 2).val < 8 := (j 2).isLt
  have h3 : (j 3).val < 128 := (j 3).isLt
  refine (val_main_v23_apply (F := Ideal) X W j).trans ((val_main_v4_apply (F := Ideal) X W _).trans ((product_apply X W _).trans ?_))
  refine congrArg₂ (product X W) (Fin.ext ?_) (Fin.ext ?_)
  · simp only [idx_main_v4, idx_main_v23]; omega
  · simp only [idx_main_v4, idx_main_v23]; omega

/-- The queries after the rotation. -/
theorem query_turned (b : Fin 4) (s : Fin 4096) (g : Fin 32) (e : Fin 128) (r : Fin 16384) (n : Fin 6144)
    (hr : r.val = b.val * 4096 + s.val) (hn : n.val = g.val * 128 + e.val) :
    val_main_v21 (F := Ideal) X W C S (ix4 b s g e) = turn X W C S r n := by
  have hs := s.isLt
  have he := e.isLt
  unfold val_main_v21 turn
  pointwise
  by_cases h : e.val < 64
  · rw [dif_pos h, dif_pos (by omega)]
    refine (val_main_v15_apply (F := Ideal) X W C S _).trans (congrArg₂ (fun x y : EReal => x - y) ?_ ?_)
    · refine (val_main_v12_apply (F := Ideal) X W C _).trans (congrArg₂ (fun x y : EReal => x * y) ?_ ?_)
      · exact (val_main_v9_apply (F := Ideal) X W _).trans (query X W _ r n hr hn)
      · exact (val_main_v11_apply (F := Ideal) C _).trans (cosine C _ _ _ (by show r.val % 4096 = s.val; omega) (by show n.val % 128 = e.val; omega))
    · refine (val_main_v14_apply (F := Ideal) X W S _).trans (congrArg₂ (fun x y : EReal => x * y) ?_ ?_)
      · exact (val_main_v10_apply (F := Ideal) X W _).trans (query X W _ r _ hr (by show n.val + 64 = g.val * 128 + (64 + e.val); omega))
      · exact (val_main_v13_apply (F := Ideal) S _).trans (sine S _ _ _ (by show r.val % 4096 = s.val; omega) (by show n.val % 128 = e.val; omega))
  · rw [dif_neg h, dif_neg (by omega)]
    refine (val_main_v20_apply (F := Ideal) X W C S _).trans (congrArg₂ (fun x y : EReal => x + y) ?_ ?_)
    · refine (val_main_v17_apply (F := Ideal) X W S _).trans (congrArg₂ (fun x y : EReal => x * y) ?_ ?_)
      · exact (val_main_v9_apply (F := Ideal) X W _).trans (query X W _ r _ hr (by show n.val - 64 = g.val * 128 + (e.val - 64); omega))
      · exact (val_main_v16_apply (F := Ideal) S _).trans (sine S _ _ _ (by show r.val % 4096 = s.val; omega) (by show n.val % 128 - 64 = e.val - 64; omega))
    · refine (val_main_v19_apply (F := Ideal) X W C _).trans (congrArg₂ (fun x y : EReal => x * y) ?_ ?_)
      · exact (val_main_v10_apply (F := Ideal) X W _).trans (query X W _ r n hr (by show n.val = g.val * 128 + (64 + (e.val - 64)); omega))
      · exact (val_main_v18_apply (F := Ideal) C _).trans (cosine C _ _ _ (by show r.val % 4096 = s.val; omega) (by show n.val % 128 - 64 = e.val - 64; omega))

/-- The keys after the rotation. -/
theorem key_turned (b : Fin 4) (s : Fin 4096) (g : Fin 8) (e : Fin 128) (r : Fin 16384) (n : Fin 6144)
    (hr : r.val = b.val * 4096 + s.val) (hn : n.val = 4096 + (g.val * 128 + e.val)) :
    val_main_v36 (F := Ideal) X W C S (ix4 b s g e) = turn X W C S r n := by
  have hs := s.isLt
  have he := e.isLt
  unfold val_main_v36 turn
  pointwise
  by_cases h : e.val < 64
  · rw [dif_pos h, dif_pos (by omega)]
    refine (val_main_v30_apply (F := Ideal) X W C S _).trans (congrArg₂ (fun x y : EReal => x - y) ?_ ?_)
    · refine (val_main_v27_apply (F := Ideal) X W C _).trans (congrArg₂ (fun x y : EReal => x * y) ?_ ?_)
      · exact (val_main_v24_apply (F := Ideal) X W _).trans (key X W _ r n hr hn)
      · exact (val_main_v26_apply (F := Ideal) C _).trans (cosine C _ _ _ (by show r.val % 4096 = s.val; omega) (by show n.val % 128 = e.val; omega))
    · refine (val_main_v29_apply (F := Ideal) X W S _).trans (congrArg₂ (fun x y : EReal => x * y) ?_ ?_)
      · exact (val_main_v25_apply (F := Ideal) X W _).trans (key X W _ r _ hr (by show n.val + 64 = 4096 + (g.val * 128 + (64 + e.val)); omega))
      · exact (val_main_v28_apply (F := Ideal) S _).trans (sine S _ _ _ (by show r.val % 4096 = s.val; omega) (by show n.val % 128 = e.val; omega))
  · rw [dif_neg h, dif_neg (by omega)]
    refine (val_main_v35_apply (F := Ideal) X W C S _).trans (congrArg₂ (fun x y : EReal => x + y) ?_ ?_)
    · refine (val_main_v32_apply (F := Ideal) X W S _).trans (congrArg₂ (fun x y : EReal => x * y) ?_ ?_)
      · exact (val_main_v24_apply (F := Ideal) X W _).trans (key X W _ r _ hr (by show n.val - 64 = 4096 + (g.val * 128 + (e.val - 64)); omega))
      · exact (val_main_v31_apply (F := Ideal) S _).trans (sine S _ _ _ (by show r.val % 4096 = s.val; omega) (by show n.val % 128 - 64 = e.val - 64; omega))
    · refine (val_main_v34_apply (F := Ideal) X W C _).trans (congrArg₂ (fun x y : EReal => x * y) ?_ ?_)
      · exact (val_main_v25_apply (F := Ideal) X W _).trans (key X W _ r n hr (by show n.val = 4096 + (g.val * 128 + (64 + (e.val - 64))); omega))
      · exact (val_main_v33_apply (F := Ideal) C _).trans (cosine C _ _ _ (by show r.val % 4096 = s.val; omega) (by show n.val % 128 - 64 = e.val - 64; omega))

/-- The reference's result is the projection. -/
theorem result : val_main_v41 (F := Ideal) X W C S = projection X W C S := by
  funext i
  refine (val_main_v41_apply (F := Ideal) X W C S i).trans ?_
  idx_vars i
  have h0 := i0.isLt
  have h1 := i1.isLt
  unfold val_main_v40 projection
  pointwise
  by_cases h : i1.val < 4096
  · rw [dif_pos h, if_pos h]
    refine (val_main_v39_apply (F := Ideal) X W C S _).trans (congrArg₂ (fun x y : EReal => x * y) ?_ ?_)
    · refine (val_main_v22_apply (F := Ideal) X W C S _).trans ?_
      refine Eq.trans (congrArg (val_main_v21 (F := Ideal) X W C S) (funext fun a => Fin.ext ?_))
        (query_turned X W C S ⟨i0.val / 4096, by omega⟩ ⟨i0.val % 4096, by omega⟩ ⟨i1.val / 128, by omega⟩ ⟨i1.val % 128, by omega⟩ i0 i1
          (by show i0.val = i0.val / 4096 * 4096 + i0.val % 4096; omega) (by show i1.val = i1.val / 128 * 128 + i1.val % 128; omega))
      match a with
      | ⟨0, _⟩ => show (i0.val * 4096 + i1.val) / 16777216 = i0.val / 4096; omega
      | ⟨1, _⟩ => show (i0.val * 4096 + i1.val) / 4096 % 4096 = i0.val % 4096; omega
      | ⟨2, _⟩ => show (i0.val * 4096 + i1.val) / 128 % 32 = i1.val / 128; omega
      | ⟨3, _⟩ => show (i0.val * 4096 + i1.val) % 128 = i1.val % 128; omega
    · exact (val_main_v38_apply (F := Ideal) _).trans (val_main_cst_apply (F := Ideal) _)
  · rw [dif_neg h, if_neg h]
    by_cases h' : i1.val < 5120
    · rw [dif_pos (by omega), if_pos h']
      refine (val_main_v37_apply (F := Ideal) X W C S _).trans ?_
      refine Eq.trans (congrArg (val_main_v36 (F := Ideal) X W C S) (funext fun a => Fin.ext ?_))
        (key_turned X W C S ⟨i0.val / 4096, by omega⟩ ⟨i0.val % 4096, by omega⟩ ⟨(i1.val - 4096) / 128, by omega⟩ ⟨i1.val % 128, by omega⟩ i0 i1
          (by show i0.val = i0.val / 4096 * 4096 + i0.val % 4096; omega) (by show i1.val = 4096 + ((i1.val - 4096) / 128 * 128 + i1.val % 128); omega))
      match a with
      | ⟨0, _⟩ => show (i0.val * 1024 + (i1.val - 4096)) / 4194304 = i0.val / 4096; omega
      | ⟨1, _⟩ => show (i0.val * 1024 + (i1.val - 4096)) / 1024 % 4096 = i0.val % 4096; omega
      | ⟨2, _⟩ => show (i0.val * 1024 + (i1.val - 4096)) / 128 % 8 = (i1.val - 4096) / 128; omega
      | ⟨3, _⟩ => show (i0.val * 1024 + (i1.val - 4096)) % 128 = i1.val % 128; omega
    · rw [dif_neg (by omega), if_neg h']
      refine ((val_main_v5_apply (F := Ideal) X W _).trans (product_apply X W _)).trans (congrArg (product X W i0) (Fin.ext ?_))
      show 5120 + (i1.val - 4096 - 1024) = i1.val
      omega

theorem kernel : Cert.quiescent_Kernel6 := fun m ρ _ => Cert.Kernel6.Gen.frame m ρ
theorem kernelIdeal : Cert.quiescent_Kernel6Ideal := fun m ρ _ => Cert.Kernel6Ideal.Gen.frame m ρ
theorem reference : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

theorem algebraic : Cert.algebraic_Kernel6Ideal_Reference6Ideal := by
  pair_intro
  · run_from Cert.Kernel6Ideal.Gen.run_main m g
  · run_from Cert.Reference6Ideal.Value.run m' g'
    rw [Cert.Reference6Ideal.Read.val_main_v41_eq, Cert.Kernel6Ideal.RefValue.final]
    rw [(hagree c).1, (hagree c).2.1, (hagree c).2.2.1, (hagree c).2.2.2.1]
    exact result _ _ _ _

end Cert.RotClaim
-- ==== Proof.DilBlock.lean ====
/- The projection onto queries, keys and values with rotation, of the dilated layer: what one grid point stores, and the result array after
   the run. -/
module

public import proofs.«01_k».proof.Proof.Gen.Kernel7Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.RefValue

open Cert.Kernel7Ideal Cert.Kernel7Ideal.Gen

theorem tile_apply (X : Vec Ideal S1024x4096 .bf16) (W : Vec Ideal S4096x512 .bf16) (r : Fin 1024) (d : Fin 512) :
    k0_pay1 X W (ix2 r d) = ∑ k : Fin 4096, X (ix2 r k) * W (ix2 k d) := by
  pointwise [k0_pay1]

/-- A head's columns are rotated: those of the keys only that, those of the queries scaled after it. -/
theorem turned (a c s : Vec Ideal S1024x128 .f32) (r : Fin 1024) (d : Fin 128) :
    k0_pay4 a c s (ix2 r d) = a (ix2 r d) * c (ix2 r d) + a (ix2 r ⟨(d.val + 128 - 64) % 128, by omega⟩) * s (ix2 r d) := by
  pointwise [k0_pay4]
theorem turned1 (a c s : Vec Ideal S1024x128 .f32) : k0_pay13 a c s = k0_pay4 a c s := rfl
theorem turned2 (a c s : Vec Ideal S1024x128 .f32) : k0_pay14 a c s = k0_pay4 a c s := rfl
theorem turned3 (a c s : Vec Ideal S1024x128 .f32) : k0_pay15 a c s = k0_pay4 a c s := rfl
theorem scaled (a c s : Vec Ideal S1024x128 .f32) (x : S1024x128.Idx) :
    k0_pay3 a c s x = k0_pay4 a c s x * Ideal.ofBits .f32 0x3DB504F3#32 := rfl
theorem scaled1 (a c s : Vec Ideal S1024x128 .f32) : k0_pay9 a c s = k0_pay3 a c s := rfl
theorem scaled2 (a c s : Vec Ideal S1024x128 .f32) : k0_pay10 a c s = k0_pay3 a c s := rfl
theorem scaled3 (a c s : Vec Ideal S1024x128 .f32) : k0_pay2 (k0_pay11 a c) (k0_pay12 a) s = k0_pay3 a c s := rfl
theorem plain (a : Vec Ideal S1024x128 .f32) (x : S1024x128.Idx) : k0_pay5 a x = a x := rfl
theorem plain1 (a : Vec Ideal S1024x128 .f32) (x : S1024x128.Idx) : k0_pay6 a x = a x := rfl
theorem plain2 (a : Vec Ideal S1024x128 .f32) (x : S1024x128.Idx) : k0_pay7 a x = a x := rfl
theorem plain3 (a : Vec Ideal S1024x128 .f32) (x : S1024x128.Idx) : k0_pay8 a x = a x := rfl

/-- The product of the two arrays. -/
def product (X : FVec Ideal S16384x4096 .bf16) (W : FVec Ideal S4096x9216 .bf16) (r : Fin 16384) (d : Fin 9216) : EReal :=
  ∑ k : Fin 4096, X (ix2 r k) * W (ix2 k d)

/-- The rotated product: within a head's 128 columns, column `d` of the first half goes with column `d + 64`. -/
def turn (X : FVec Ideal S16384x4096 .bf16) (W : FVec Ideal S4096x9216 .bf16) (C S : FVec Ideal S4096x64 .f32)
    (r : Fin 16384) (n : Fin 9216) : EReal :=
  if h : n.val % 128 < 64 then
    product X W r n * C (ix2 ⟨r.val % 4096, by omega⟩ ⟨n.val % 128, h⟩)
      - product X W r ⟨n.val + 64, by omega⟩ * S (ix2 ⟨r.val % 4096, by omega⟩ ⟨n.val % 128, h⟩)
  else
    product X W r ⟨n.val - 64, by omega⟩ * S (ix2 ⟨r.val % 4096, by omega⟩ ⟨n.val % 128 - 64, by omega⟩)
      + product X W r n * C (ix2 ⟨r.val % 4096, by omega⟩ ⟨n.val % 128 - 64, by omega⟩)

/-- The projection: queries rotated and scaled, keys rotated, values as they are. -/
def projection (X : FVec Ideal S16384x4096 .bf16) (W : FVec Ideal S4096x9216 .bf16) (C S : FVec Ideal S4096x64 .f32) :
    FVec Ideal S16384x9216 .bf16 := fun i =>
  if (i 1).val < 6144 then turn X W C S (i 0) (i 1) * Ideal.ofBits .f32 0x3DB504F3#32
  else if (i 1).val < 7680 then turn X W C S (i 0) (i 1) else product X W (i 0) (i 1)

theorem idx : ∀ t : Fin cfg0.N,
    win0_0.index t = ![t.val / 18, 0] ∧ win0_1.index t = ![0, t.val % 18] ∧ win0_2.index t = ![t.val / 18 % 4, 0]
      ∧ win0_3.index t = ![t.val / 18 % 4, 0] ∧ win0_6.index t = ![t.val / 18, t.val % 18] :=
  (by decide +kernel : ∀ t : Fin grid0.N, _)

/-- A load of part of the accumulator after it was stored whole reads that part of what was stored. -/
theorem read_part (w : Vec Ideal S1024x512 .f32) (v : View sig .tc .vmem S1024x512 .f32) (off : Fin 2 → ℕ) (inb) (inb') :
    v.readCov [(⟨Rect.unit (s := S1024x512) ![0, 0] ![1024, 512] inb', w⟩ : View.Piece (Elt Ideal) S1024x512 .f32)]
      (Rect.unit (s := S1024x512) off ![1024, 128] inb).toLoadRect = View.ld w (Rect.unit (s := S1024x512) off ![1024, 128] inb) := by
  have hz : (![0, 0] : Fin 2 → ℕ) = fun _ => 0 := funext fun a => by fin_cases a <;> rfl
  rw [View.readCov_eq_canon']
  have e : View.canon [(⟨Rect.unit (s := S1024x512) ![0, 0] ![1024, 512] inb', w⟩ : View.Piece (Elt Ideal) S1024x512 .f32)] = w :=
    View.canon_unit_zero (S := S1024x512) hz _ _
  rw [e]

variable (m : (ℓ : Loc nD τ sig) → Buf (Elt Ideal) ℓ)

/-- The table of cosines, twice side by side. -/
theorem cosines (c : Dev nD) (r : Fin 4096) (d : Fin 128) :
    V m c (Pipeline.arrRef spec0 2) (ix2 r d)
      = (m ((c : Thread nD τ).loc main_arg2) : FVec Ideal S4096x64 .f32) (ix2 r ⟨d.val % 64, by omega⟩) := by
  unfold V
  entry_read
  pointwise
  split
  · exact congrArg _ (congrArg (ix2 r) (Fin.ext (by show d.val = d.val % 64; omega)))
  · exact congrArg _ (congrArg (ix2 r) (Fin.ext (by show d.val - 64 = d.val % 64; omega)))

/-- The table of sines, with the sign turned in its first half. -/
theorem sines (c : Dev nD) (r : Fin 4096) (d : Fin 128) :
    V m c (Pipeline.arrRef spec0 3) (ix2 r d)
      = if d.val < 64 then Neg.neg (α := EReal) ((m ((c : Thread nD τ).loc main_arg3) : FVec Ideal S4096x64 .f32) (ix2 r ⟨d.val % 64, by omega⟩))
        else (m ((c : Thread nD τ).loc main_arg3) : FVec Ideal S4096x64 .f32) (ix2 r ⟨d.val % 64, by omega⟩) := by
  unfold V
  entry_read
  pointwise
  split
  · exact congrArg (Neg.neg (α := EReal)) (congrArg (m ((c : Thread nD τ).loc main_arg3) : FVec Ideal S4096x64 .f32) (congrArg (ix2 r) (Fin.ext (by show d.val = d.val % 64; omega))))
  · exact congrArg _ (congrArg (ix2 r) (Fin.ext (by show d.val - 64 = d.val % 64; omega)))

theorem cosine (c : Dev nD) (t : Fin cfg0.N) (r : Fin 1024) (d : Fin 128) (i : Fin 16384) (hi : i.val = t.val / 18 * 1024 + r.val) :
    iblk m c 2 t (ix2 r d) = (m ((c : Thread nD τ).loc main_arg2) : FVec Ideal S4096x64 .f32) (ix2 ⟨i.val % 4096, by omega⟩ ⟨d.val % 64, by omega⟩) := by
  refine Eq.trans ?_ (cosines m c ⟨i.val % 4096, by omega⟩ d)
  blk_ext [iblk, idx t]

theorem sine (c : Dev nD) (t : Fin cfg0.N) (r : Fin 1024) (d : Fin 128) (i : Fin 16384) (hi : i.val = t.val / 18 * 1024 + r.val) :
    iblk m c 3 t (ix2 r d)
      = if d.val < 64 then Neg.neg (α := EReal) ((m ((c : Thread nD τ).loc main_arg3) : FVec Ideal S4096x64 .f32) (ix2 ⟨i.val % 4096, by omega⟩ ⟨d.val % 64, by omega⟩))
        else (m ((c : Thread nD τ).loc main_arg3) : FVec Ideal S4096x64 .f32) (ix2 ⟨i.val % 4096, by omega⟩ ⟨d.val % 64, by omega⟩) := by
  refine Eq.trans ?_ (sines m c ⟨i.val % 4096, by omega⟩ d)
  blk_ext [iblk, idx t]

/-- An entry of the tile over the point's blocks is the product at the place of the entry. -/
theorem core (c : Dev nD) (t : Fin cfg0.N) (r : Fin 1024) (d : Fin 512) (i0 : Fin 16384) (i1 : Fin 9216)
    (hi0 : i0.val = t.val / 18 * 1024 + r.val) (hi1 : i1.val = t.val % 18 * 512 + d.val) :
    k0_pay1 (iblk m c 0 t) (iblk m c 1 t) (ix2 r d)
      = product (m ((c : Thread nD τ).loc main_arg0)) (m ((c : Thread nD τ).loc main_arg1)) i0 i1 := by
  rw [tile_apply]
  unfold product
  refine Finset.sum_congr rfl fun k _ => congrArg₂ (· * ·) ?_ ?_
  all_goals blk_ext [iblk, V, idx t]

/-- The same of an entry of a head's columns. -/
theorem part (c : Dev nD) (t : Fin cfg0.N) (o : ℕ) (inb) (r : Fin 1024) (d : Fin 128) (i0 : Fin 16384) (i1 : Fin 9216) (ho : o + 128 ≤ 512)
    (hi0 : i0.val = t.val / 18 * 1024 + r.val) (hi1 : i1.val = t.val % 18 * 512 + (o + d.val)) :
    View.ld (Val := Elt Ideal) (e' := .f32) (k0_pay1 (iblk m c 0 t) (iblk m c 1 t)) (Rect.unit (s := S1024x512) ![0, o] ![1024, 128] inb) (ix2 r d)
      = product (m ((c : Thread nD τ).loc main_arg0)) (m ((c : Thread nD τ).loc main_arg1)) i0 i1 := by
  refine (View.ld_unit_apply_of (S := S1024x512) _ _ _ inb _ (ix2 r ⟨o + d.val, by omega⟩) fun a => ?_).trans
    (core m c t r ⟨o + d.val, by omega⟩ i0 i1 hi0 hi1)
  match a with
  | ⟨0, _⟩ => show r.val = 0 + r.val; omega
  | ⟨1, _⟩ => rfl

/-- A head's columns after the rotation. -/
theorem turned_part (c : Dev nD) (t : Fin cfg0.N) (o : ℕ) (inb) (r : Fin 1024) (d : Fin 128) (i0 : Fin 16384) (i1 : Fin 9216) (ho : o + 128 ≤ 512)
    (hm : o % 128 = 0) (hi0 : i0.val = t.val / 18 * 1024 + r.val) (hi1 : i1.val = t.val % 18 * 512 + (o + d.val)) :
    k0_pay4 (View.ld (Val := Elt Ideal) (e' := .f32) (k0_pay1 (iblk m c 0 t) (iblk m c 1 t)) (Rect.unit (s := S1024x512) ![0, o] ![1024, 128] inb))
        (iblk m c 2 t) (iblk m c 3 t) (ix2 r d)
      = turn (m ((c : Thread nD τ).loc main_arg0)) (m ((c : Thread nD τ).loc main_arg1)) (m ((c : Thread nD τ).loc main_arg2))
          (m ((c : Thread nD τ).loc main_arg3)) i0 i1 := by
  have hd := d.isLt
  have h1 := i1.isLt
  rw [turned, cosine m c t r d i0 hi0, sine m c t r d i0 hi0, part m c t o inb r d i0 i1 ho hi0 hi1]
  unfold turn
  by_cases h : d.val < 64
  · have h' : i1.val % 128 < 64 := by omega
    rw [if_pos h, dif_pos h', part m c t o inb r _ i0 ⟨i1.val + 64, by omega⟩ ho hi0 (by show i1.val + 64 = _ + (o + (d.val + 128 - 64) % 128); omega),
      mul_neg, ← sub_eq_add_neg]
    have e : (⟨d.val % 64, by omega⟩ : Fin 64) = ⟨i1.val % 128, h'⟩ := Fin.ext (by show d.val % 64 = i1.val % 128; omega)
    rw [e]
  · have h' : ¬i1.val % 128 < 64 := by omega
    rw [if_neg h, dif_neg h', part m c t o inb r _ i0 ⟨i1.val - 64, by omega⟩ ho hi0 (by show i1.val - 64 = _ + (o + (d.val + 128 - 64) % 128); omega),
      add_comm]
    have e : (⟨d.val % 64, by omega⟩ : Fin 64) = ⟨i1.val % 128 - 64, by omega⟩ := Fin.ext (by show d.val % 64 = i1.val % 128 - 64; omega)
    rw [e]

theorem row (t : Fin cfg0.N) (y : S1024x512.Idx) : (((cfg0.win 6).blk t).view.emb y 0).val = t.val / 18 * 1024 + (y 0).val := by
  blk_simp [idx t]
theorem column (t : Fin cfg0.N) (y : S1024x512.Idx) : (((cfg0.win 6).blk t).view.emb y 1).val = t.val % 18 * 512 + (y 1).val := by
  blk_simp [idx t]

/-- What a point of the queries stores. -/
theorem pointA (c : Dev nD) (t : Fin cfg0.N) (h0 : t.val % 18 ≤ 11) (h1 : ¬(12 ≤ t.val % 18 ∧ t.val % 18 ≤ 14)) (h2 : ¬15 ≤ t.val % 18)
    (y : S1024x512.Idx) :
    outsAt0 m c t.val t.isLt y
      = projection (m ((c : Thread nD τ).loc main_arg0)) (m ((c : Thread nD τ).loc main_arg1)) (m ((c : Thread nD τ).loc main_arg2))
          (m ((c : Thread nD τ).loc main_arg3)) (((cfg0.win 6).blk t).view.emb y) := by
  have hz : (![0, 0] : Fin 2 → ℕ) = fun _ => 0 := funext fun a => by fin_cases a <;> rfl
  rw [outsAt0_A m c t h0 h1 h2]
  unfold out0_A_6
  rw [View.read_writes_junk_apply_eq_canon]
  unfold kernelRun0_A
  dsimp only
  sl_unfold_words
  simp only [read_part, scaled1, scaled2, scaled3]
  simp only [View.readAt_eq_ld, (hs0_0 t).read_unread, (hs0_1 t).read_unread, (hs0_2 t).read_unread, (hs0_3 t).read_unread]
  simp only [View.ld_unit_zero (S := S1024x4096) hz, View.ld_unit_zero (S := S4096x512) hz, View.ld_unit_zero (S := S1024x128) hz]
  have hr := row t y
  have hc := column t y
  have hy : (y 1).val < 512 := (y 1).isLt
  have hq : (((cfg0.win 6).blk t).view.emb y 1).val < 6144 := by omega
  refine Eq.trans ?_ (if_pos hq).symm
  canon_tiles x h
  all_goals idx_vars x
  all_goals
    rw [scaled]
    refine congrArg (· * Ideal.ofBits .f32 0x3DB504F3#32) (turned_part m c t _ _ x0 x1 _ _ (by decide) (by decide) (hr.trans (by omega)) (hc.trans (by omega)))

/-- What a point of the keys stores. -/
theorem pointB (c : Dev nD) (t : Fin cfg0.N) (h0 : ¬t.val % 18 ≤ 11) (h1 : 12 ≤ t.val % 18 ∧ t.val % 18 ≤ 14) (h2 : ¬15 ≤ t.val % 18)
    (y : S1024x512.Idx) :
    outsAt0 m c t.val t.isLt y
      = projection (m ((c : Thread nD τ).loc main_arg0)) (m ((c : Thread nD τ).loc main_arg1)) (m ((c : Thread nD τ).loc main_arg2))
          (m ((c : Thread nD τ).loc main_arg3)) (((cfg0.win 6).blk t).view.emb y) := by
  have hz : (![0, 0] : Fin 2 → ℕ) = fun _ => 0 := funext fun a => by fin_cases a <;> rfl
  rw [outsAt0_B m c t h0 h1 h2]
  unfold out0_B_6
  rw [View.read_writes_junk_apply_eq_canon]
  unfold kernelRun0_B
  dsimp only
  sl_unfold_words
  simp only [read_part, turned1, turned2, turned3]
  simp only [View.readAt_eq_ld, (hs0_0 t).read_unread, (hs0_1 t).read_unread, (hs0_2 t).read_unread, (hs0_3 t).read_unread]
  simp only [View.ld_unit_zero (S := S1024x4096) hz, View.ld_unit_zero (S := S4096x512) hz, View.ld_unit_zero (S := S1024x128) hz]
  have hr := row t y
  have hc := column t y
  have hy : (y 1).val < 512 := (y 1).isLt
  have hq : ¬(((cfg0.win 6).blk t).view.emb y 1).val < 6144 := by omega
  have hk : (((cfg0.win 6).blk t).view.emb y 1).val < 7680 := by omega
  refine Eq.trans ?_ ((if_neg hq).trans (if_pos hk)).symm
  canon_tiles x h
  all_goals idx_vars x
  all_goals exact turned_part m c t _ _ x0 x1 _ _ (by decide) (by decide) (hr.trans (by omega)) (hc.trans (by omega))

/-- What a point of the values stores. -/
theorem pointC (c : Dev nD) (t : Fin cfg0.N) (h0 : ¬t.val % 18 ≤ 11) (h1 : ¬(12 ≤ t.val % 18 ∧ t.val % 18 ≤ 14)) (h2 : 15 ≤ t.val % 18)
    (y : S1024x512.Idx) :
    outsAt0 m c t.val t.isLt y
      = projection (m ((c : Thread nD τ).loc main_arg0)) (m ((c : Thread nD τ).loc main_arg1)) (m ((c : Thread nD τ).loc main_arg2))
          (m ((c : Thread nD τ).loc main_arg3)) (((cfg0.win 6).blk t).view.emb y) := by
  have hz : (![0, 0] : Fin 2 → ℕ) = fun _ => 0 := funext fun a => by fin_cases a <;> rfl
  rw [outsAt0_C m c t h0 h1 h2]
  unfold out0_C_6
  rw [View.read_writes_junk_apply_eq_canon]
  unfold kernelRun0_C
  dsimp only
  sl_unfold_words
  simp only [read_part]
  simp only [View.readAt_eq_ld, (hs0_0 t).read_unread, (hs0_1 t).read_unread]
  rw [View.ld_unit_zero (S := S1024x4096) hz, View.ld_unit_zero (S := S4096x512) hz]
  have hr := row t y
  have hc := column t y
  have hq : ¬(((cfg0.win 6).blk t).view.emb y 1).val < 6144 := by omega
  have hk : ¬(((cfg0.win 6).blk t).view.emb y 1).val < 7680 := by omega
  refine Eq.trans ?_ ((if_neg hq).trans (if_neg hk)).symm
  canon_tiles x h
  all_goals idx_vars x
  all_goals exact part m c t _ _ x0 x1 _ _ (by decide) (hr.trans (by omega)) (hc.trans (by omega))

/-- The result array after the run. -/
theorem final (c : Dev nD) : (dats m 0 c).arrAt 6 (cfgs 0).N
    = projection (m ((c : Thread nD τ).loc main_arg0)) (m ((c : Thread nD τ).loc main_arg1)) (m ((c : Thread nD τ).loc main_arg2))
        (m ((c : Thread nD τ).loc main_arg3)) := by
  refine (dats m 0 c).arrAt_eq_of_covers 6 _ (by decide +kernel) fun t _ y => ?_
  blk_simp
  rw [after0_6]
  by_cases h : t.val % 18 ≤ 11
  · exact pointA m c t h (by omega) (by omega) y
  · by_cases h' : t.val % 18 ≤ 14
    · exact pointB m c t h (by omega) (by omega) y
    · exact pointC m c t h (by omega) (by omega) y

end Cert.Kernel7Ideal.RefValue
-- ==== Proof.DilClaim.lean ====
/- The projection onto queries, keys and values with rotation, of the dilated layer: the claims about the call, and about its reference. -/
module

public import proofs.«01_k».proof.Defs
public import proofs.«01_k».proof.Proof.DilBlock
public import proofs.«01_k».proof.Proof.Gen.Kernel7.Frame
public import proofs.«01_k».proof.Proof.Gen.Reference7Ideal.Run
public import proofs.«01_k».proof.Proof.Gen.Reference7Ideal.Read
public import Idealize.ShloMosaic.Lib.Claim
public import Idealize.ShloMosaic.Lib.IdealHost

@[expose] public section

set_option maxRecDepth 16384

noncomputable section

open Idealize.ShloMosaic Idealize.ShloMosaic.TcCoe Idealize.SL.Sem

namespace Cert.DilClaim

open Cert.Reference7Ideal Cert.Reference7Ideal.Gen Cert.Reference7Ideal.Read
open Cert.Kernel7Ideal.RefValue (product turn projection)

variable (X : FVec Ideal S16384x4096 .bf16) (W : FVec Ideal S4096x9216 .bf16) (C S : FVec Ideal S4096x64 .f32)

theorem product_apply (i : S16384x9216.Idx) : val_main_v2 (F := Ideal) X W i = product X W (i 0) (i 1) := by
  refine (val_main_v2_apply X W i).trans ?_
  refine Finset.sum_congr rfl fun k _ => congrArg₂ (· * ·) (congrArg X ?_) (congrArg W ?_)
  all_goals
    funext a
    match a with
    | ⟨0, _⟩ => rfl
    | ⟨1, _⟩ => rfl

/-- The tables with axes of size one. -/
theorem cosine (i : S1x4096x1x64.Idx) (t : Fin 4096) (d : Fin 64) (ht : t.val = (i 1).val) (hd : d.val = (i 3).val) :
    val_main_v6 (F := Ideal) C i = C (ix2 t d) := by
  refine (val_main_v6_apply (F := Ideal) C i).trans (congrArg C (funext fun a => Fin.ext ?_))
  have h0 : (i 0).val < 1 := (i 0).isLt
  have h2 : (i 2).val < 1 := (i 2).isLt
  have h3 : (i 3).val < 64 := (i 3).isLt
  match a with
  | ⟨0, _⟩ => show _ = t.val; simp only [idx_main_v6]; omega
  | ⟨1, _⟩ => show _ = d.val; simp only [idx_main_v6]; omega

theorem sine (i : S1x4096x1x64.Idx) (t : Fin 4096) (d : Fin 64) (ht : t.val = (i 1).val) (hd : d.val = (i 3).val) :
    val_main_v7 (F := Ideal) S i = S (ix2 t d) := by
  refine (val_main_v7_apply (F := Ideal) S i).trans (congrArg S (funext fun a => Fin.ext ?_))
  have h0 : (i 0).val < 1 := (i 0).isLt
  have h2 : (i 2).val < 1 := (i 2).isLt
  have h3 : (i 3).val < 64 := (i 3).isLt
  match a with
  | ⟨0, _⟩ => show _ = t.val; simp only [idx_main_v7]; omega
  | ⟨1, _⟩ => show _ = d.val; simp only [idx_main_v7]; omega

/-- The queries before the rotation, head by head. -/
theorem query (j : S4x4096x48x128.Idx) (r : Fin 16384) (n : Fin 9216) (hr : r.val = (j 0).val * 4096 + (j 1).val)
    (hn : n.val = (j 2).val * 128 + (j 3).val) : val_main_v8 (F := Ideal) X W j = product X W r n := by
  have h1 : (j 1).val < 4096 := (j 1).isLt
  have h2 : (j 2).val < 48 := (j 2).isLt
  have h3 : (j 3).val < 128 := (j 3).isLt
  refine (val_main_v8_apply (F := Ideal) X W j).trans ((val_main_v3_apply (F := Ideal) X W _).trans ((product_apply X W _).trans ?_))
  refine congrArg₂ (product X W) (Fin.ext ?_) (Fin.ext ?_)
  · simp only [idx_main_v3, idx_main_v8]; omega
  · simp only [idx_main_v3, idx_main_v8]; omega

/-- The keys before the rotation, head by head. -/
theorem key (j : S4x4096x12x128.Idx) (r : Fin 16384) (n : Fin 9216) (hr : r.val = (j 0).val * 4096 + (j 1).val)
    (hn : n.val = 6144 + ((j 2).val * 128 + (j 3).val)) : val_main_v23 (F := Ideal) X W j = product X W r n := by
  have h1 : (j 1).val < 4096 := (j 1).isLt
  have h2 : (j 2).val < 12 := (j 2).isLt
  have h3 : (j 3).val < 128 := (j 3).isLt
  refine (val_main_v23_apply (F := Ideal) X W j).trans ((val_main_v4_apply (F := Ideal) X W _).trans ((product_apply X W _).trans ?_))
  refine congrArg₂ (product X W) (Fin.ext ?_) (Fin.ext ?_)
  · simp only [idx_main_v4, idx_main_v23]; omega
  · simp only [idx_main_v4, idx_main_v23]; omega

/-- The queries after the rotation. -/
theorem query_turned (b : Fin 4) (s : Fin 4096) (g : Fin 48) (e : Fin 128) (r : Fin 16384) (n : Fin 9216)
    (hr : r.val = b.val * 4096 + s.val) (hn : n.val = g.val * 128 + e.val) :
    val_main_v21 (F := Ideal) X W C S (ix4 b s g e) = turn X W C S r n := by
  have hs := s.isLt
  have he := e.isLt
  unfold val_main_v21 turn
  pointwise
  by_cases h : e.val < 64
  · rw [dif_pos h, dif_pos (by omega)]
    refine (val_main_v15_apply (F := Ideal) X W C S _).trans (congrArg₂ (fun x y : EReal => x - y) ?_ ?_)
    · refine (val_main_v12_apply (F := Ideal) X W C _).trans (congrArg₂ (fun x y : EReal => x * y) ?_ ?_)
      · exact (val_main_v9_apply (F := Ideal) X W _).trans (query X W _ r n hr hn)
      · exact (val_main_v11_apply (F := Ideal) C _).trans (cosine C _ _ _ (by show r.val % 4096 = s.val; omega) (by show n.val % 128 = e.val; omega))
    · refine (val_main_v14_apply (F := Ideal) X W S _).trans (congrArg₂ (fun x y : EReal => x * y) ?_ ?_)
      · exact (val_main_v10_apply (F := Ideal) X W _).trans (query X W _ r _ hr (by show n.val + 64 = g.val * 128 + (64 + e.val); omega))
      · exact (val_main_v13_apply (F := Ideal) S _).trans (sine S _ _ _ (by show r.val % 4096 = s.val; omega) (by show n.val % 128 = e.val; omega))
  · rw [dif_neg h, dif_neg (by omega)]
    refine (val_main_v20_apply (F := Ideal) X W C S _).trans (congrArg₂ (fun x y : EReal => x + y) ?_ ?_)
    · refine (val_main_v17_apply (F := Ideal) X W S _).trans (congrArg₂ (fun x y : EReal => x * y) ?_ ?_)
      · exact (val_main_v9_apply (F := Ideal) X W _).trans (query X W _ r _ hr (by show n.val - 64 = g.val * 128 + (e.val - 64); omega))
      · exact (val_main_v16_apply (F := Ideal) S _).trans (sine S _ _ _ (by show r.val % 4096 = s.val; omega) (by show n.val % 128 - 64 = e.val - 64; omega))
    · refine (val_main_v19_apply (F := Ideal) X W C _).trans (congrArg₂ (fun x y : EReal => x * y) ?_ ?_)
      · exact (val_main_v10_apply (F := Ideal) X W _).trans (query X W _ r n hr (by show n.val = g.val * 128 + (64 + (e.val - 64)); omega))
      · exact (val_main_v18_apply (F := Ideal) C _).trans (cosine C _ _ _ (by show r.val % 4096 = s.val; omega) (by show n.val % 128 - 64 = e.val - 64; omega))

/-- The keys after the rotation. -/
theorem key_turned (b : Fin 4) (s : Fin 4096) (g : Fin 12) (e : Fin 128) (r : Fin 16384) (n : Fin 9216)
    (hr : r.val = b.val * 4096 + s.val) (hn : n.val = 6144 + (g.val * 128 + e.val)) :
    val_main_v36 (F := Ideal) X W C S (ix4 b s g e) = turn X W C S r n := by
  have hs := s.isLt
  have he := e.isLt
  unfold val_main_v36 turn
  pointwise
  by_cases h : e.val < 64
  · rw [dif_pos h, dif_pos (by omega)]
    refine (val_main_v30_apply (F := Ideal) X W C S _).trans (congrArg₂ (fun x y : EReal => x - y) ?_ ?_)
    · refine (val_main_v27_apply (F := Ideal) X W C _).trans (congrArg₂ (fun x y : EReal => x * y) ?_ ?_)
      · exact (val_main_v24_apply (F := Ideal) X W _).trans (key X W _ r n hr hn)
      · exact (val_main_v26_apply (F := Ideal) C _).trans (cosine C _ _ _ (by show r.val % 4096 = s.val; omega) (by show n.val % 128 = e.val; omega))
    · refine (val_main_v29_apply (F := Ideal) X W S _).trans (congrArg₂ (fun x y : EReal => x * y) ?_ ?_)
      · exact (val_main_v25_apply (F := Ideal) X W _).trans (key X W _ r _ hr (by show n.val + 64 = 6144 + (g.val * 128 + (64 + e.val)); omega))
      · exact (val_main_v28_apply (F := Ideal) S _).trans (sine S _ _ _ (by show r.val % 4096 = s.val; omega) (by show n.val % 128 = e.val; omega))
  · rw [dif_neg h, dif_neg (by omega)]
    refine (val_main_v35_apply (F := Ideal) X W C S _).trans (congrArg₂ (fun x y : EReal => x + y) ?_ ?_)
    · refine (val_main_v32_apply (F := Ideal) X W S _).trans (congrArg₂ (fun x y : EReal => x * y) ?_ ?_)
      · exact (val_main_v24_apply (F := Ideal) X W _).trans (key X W _ r _ hr (by show n.val - 64 = 6144 + (g.val * 128 + (e.val - 64)); omega))
      · exact (val_main_v31_apply (F := Ideal) S _).trans (sine S _ _ _ (by show r.val % 4096 = s.val; omega) (by show n.val % 128 - 64 = e.val - 64; omega))
    · refine (val_main_v34_apply (F := Ideal) X W C _).trans (congrArg₂ (fun x y : EReal => x * y) ?_ ?_)
      · exact (val_main_v25_apply (F := Ideal) X W _).trans (key X W _ r n hr (by show n.val = 6144 + (g.val * 128 + (64 + (e.val - 64))); omega))
      · exact (val_main_v33_apply (F := Ideal) C _).trans (cosine C _ _ _ (by show r.val % 4096 = s.val; omega) (by show n.val % 128 - 64 = e.val - 64; omega))

/-- The reference's result is the projection. -/
theorem result : val_main_v41 (F := Ideal) X W C S = projection X W C S := by
  funext i
  refine (val_main_v41_apply (F := Ideal) X W C S i).trans ?_
  idx_vars i
  have h0 := i0.isLt
  have h1 := i1.isLt
  unfold val_main_v40 projection
  pointwise
  by_cases h : i1.val < 6144
  · rw [dif_pos h, if_pos h]
    refine (val_main_v39_apply (F := Ideal) X W C S _).trans (congrArg₂ (fun x y : EReal => x * y) ?_ ?_)
    · refine (val_main_v22_apply (F := Ideal) X W C S _).trans ?_
      refine Eq.trans (congrArg (val_main_v21 (F := Ideal) X W C S) (funext fun a => Fin.ext ?_))
        (query_turned X W C S ⟨i0.val / 4096, by omega⟩ ⟨i0.val % 4096, by omega⟩ ⟨i1.val / 128, by omega⟩ ⟨i1.val % 128, by omega⟩ i0 i1
          (by show i0.val = i0.val / 4096 * 4096 + i0.val % 4096; omega) (by show i1.val = i1.val / 128 * 128 + i1.val % 128; omega))
      match a with
      | ⟨0, _⟩ => show (i0.val * 6144 + i1.val) / 25165824 = i0.val / 4096; omega
      | ⟨1, _⟩ => show (i0.val * 6144 + i1.val) / 6144 % 4096 = i0.val % 4096; omega
      | ⟨2, _⟩ => show (i0.val * 6144 + i1.val) / 128 % 48 = i1.val / 128; omega
      | ⟨3, _⟩ => show (i0.val * 6144 + i1.val) % 128 = i1.val % 128; omega
    · exact (val_main_v38_apply (F := Ideal) _).trans (val_main_cst_apply (F := Ideal) _)
  · rw [dif_neg h, if_neg h]
    by_cases h' : i1.val < 7680
    · rw [dif_pos (by omega), if_pos h']
      refine (val_main_v37_apply (F := Ideal) X W C S _).trans ?_
      refine Eq.trans (congrArg (val_main_v36 (F := Ideal) X W C S) (funext fun a => Fin.ext ?_))
        (key_turned X W C S ⟨i0.val / 4096, by omega⟩ ⟨i0.val % 4096, by omega⟩ ⟨(i1.val - 6144) / 128, by omega⟩ ⟨i1.val % 128, by omega⟩ i0 i1
          (by show i0.val = i0.val / 4096 * 4096 + i0.val % 4096; omega) (by show i1.val = 6144 + ((i1.val - 6144) / 128 * 128 + i1.val % 128); omega))
      match a with
      | ⟨0, _⟩ => show (i0.val * 1536 + (i1.val - 6144)) / 6291456 = i0.val / 4096; omega
      | ⟨1, _⟩ => show (i0.val * 1536 + (i1.val - 6144)) / 1536 % 4096 = i0.val % 4096; omega
      | ⟨2, _⟩ => show (i0.val * 1536 + (i1.val - 6144)) / 128 % 12 = (i1.val - 6144) / 128; omega
      | ⟨3, _⟩ => show (i0.val * 1536 + (i1.val - 6144)) % 128 = i1.val % 128; omega
    · rw [dif_neg (by omega), if_neg h']
      refine ((val_main_v5_apply (F := Ideal) X W _).trans (product_apply X W _)).trans (congrArg (product X W i0) (Fin.ext ?_))
      show 7680 + (i1.val - 6144 - 1536) = i1.val
      omega

theorem kernel : Cert.quiescent_Kernel7 := fun m ρ _ => Cert.Kernel7.Gen.frame m ρ
theorem kernelIdeal : Cert.quiescent_Kernel7Ideal := fun m ρ _ => Cert.Kernel7Ideal.Gen.frame m ρ
theorem reference : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem algebraic : Cert.algebraic_Kernel7Ideal_Reference7Ideal := by
  pair_intro
  · run_from Cert.Kernel7Ideal.Gen.run_main m g
  · run_from Cert.Reference7Ideal.Value.run m' g'
    rw [Cert.Reference7Ideal.Read.val_main_v41_eq, Cert.Kernel7Ideal.RefValue.final]
    rw [(hagree c).1, (hagree c).2.1, (hagree c).2.2.1, (hagree c).2.2.2.1]
    exact result _ _ _ _

end Cert.DilClaim
-- ==== Proof.DilOutBlock.lean ====
/- The output projection of the dilated layer: what one grid point stores, and the result array after the run. -/
module

public import proofs.«01_k».proof.Proof.Gen.Kernel8Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.RefValue

open Cert.Kernel8Ideal Cert.Kernel8Ideal.Gen

theorem tile_apply (X : Vec Ideal S1024x2048 .bf16) (W : Vec Ideal S2048x512 .bf16) (r : Fin 1024) (d : Fin 512) :
    k0_pay1 X W (ix2 r d) = ∑ k : Fin 2048, X (ix2 r k) * W (ix2 k d) := by
  pointwise [k0_pay1]

/-- The product of the two arrays. -/
def product (X : FVec Ideal S16384x2048 .bf16) (W : FVec Ideal S2048x4096 .bf16) : FVec Ideal S16384x4096 .bf16 := fun i =>
  ∑ k : Fin 2048, X (ix2 (i 0) k) * W (ix2 k (i 1))

theorem idx : ∀ t : Fin cfg0.N,
    win0_0.index t = ![t.val / 8, 0] ∧ win0_1.index t = ![0, t.val % 8] ∧ win0_2.index t = ![t.val / 8, t.val % 8] :=
  (by decide +kernel : ∀ t : Fin grid0.N, _)

variable (m : (ℓ : Loc nD τ sig) → Buf (Elt Ideal) ℓ)

/-- What point `t` stores at block index `y`. -/
theorem point (c : Dev nD) (t : Fin cfg0.N) (y : S1024x512.Idx) :
    out0_2 (iblk m c 0 t) (iblk m c 1 t) y
      = product (m ((c : Thread nD τ).loc main_arg0)) (m ((c : Thread nD τ).loc main_arg1)) (((cfg0.win 2).blk t).view.emb y) := by
  have hz : (![0, 0] : Fin 2 → ℕ) = fun _ => 0 := funext fun a => by fin_cases a <;> rfl
  unfold out0_2
  rw [View.ld_unit_zero hz, View.ld_unit_zero hz]
  canon_tiles x h
  idx_vars x
  rw [tile_apply]
  unfold product
  refine Finset.sum_congr rfl fun k _ => congrArg₂ (· * ·) ?_ ?_
  all_goals blk_ext [iblk, V, idx t]

/-- The result array after the run. -/
theorem final (c : Dev nD) : (dats m 0 c).arrAt 2 (cfgs 0).N = product (m ((c : Thread nD τ).loc main_arg0)) (m ((c : Thread nD τ).loc main_arg1)) := by
  refine (dats m 0 c).arrAt_eq_of_covers 2 _ (by decide +kernel) fun t _ y => ?_
  blk_simp
  rw [after0_2]; exact point m c t y

end Cert.Kernel8Ideal.RefValue
-- ==== Proof.DilOutClaim.lean ====
/- The output projection of the dilated layer: the claims about the call, and about its reference. -/
module

public import proofs.«01_k».proof.Defs
public import proofs.«01_k».proof.Proof.DilOutBlock
public import proofs.«01_k».proof.Proof.Gen.Kernel8.Frame
public import proofs.«01_k».proof.Proof.Gen.Reference8Ideal.Run
public import proofs.«01_k».proof.Proof.Gen.Reference8Ideal.Read
public import Idealize.ShloMosaic.Lib.Claim
public import Idealize.ShloMosaic.Lib.IdealHost

@[expose] public section

set_option maxRecDepth 16384

noncomputable section

open Idealize.ShloMosaic Idealize.ShloMosaic.TcCoe Idealize.SL.Sem

namespace Cert.DilOutClaim

/-- The reference's result is the product. -/
theorem result (X : FVec Ideal Cert.Reference8Ideal.S16384x2048 .bf16) (W : FVec Ideal Cert.Reference8Ideal.S2048x4096 .bf16) :
    Cert.Reference8Ideal.Read.val_main_v3 (F := Ideal) X W = Cert.Kernel8Ideal.RefValue.product X W := by
  funext i
  refine (Cert.Reference8Ideal.Read.val_main_v3_apply (F := Ideal) X W i).trans ?_
  refine (Cert.Reference8Ideal.Read.val_main_v2_apply X W i).trans ?_
  refine Finset.sum_congr rfl fun k _ => congrArg₂ (· * ·) (congrArg X ?_) (congrArg W ?_)
  all_goals
    funext a
    match a with
    | ⟨0, _⟩ => rfl
    | ⟨1, _⟩ => rfl

theorem kernel : Cert.quiescent_Kernel8 := fun m ρ _ => Cert.Kernel8.Gen.frame m ρ
theorem kernelIdeal : Cert.quiescent_Kernel8Ideal := fun m ρ _ => Cert.Kernel8Ideal.Gen.frame m ρ
theorem reference : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

theorem algebraic : Cert.algebraic_Kernel8Ideal_Reference8Ideal := by
  pair_intro
  · run_from Cert.Kernel8Ideal.Gen.run_main m g
  · run_from Cert.Reference8Ideal.Value.run m' g'
    rw [Cert.Reference8Ideal.Read.val_main_v3_eq, Cert.Kernel8Ideal.RefValue.final]
    exact result _ _

end Cert.DilOutClaim
-- ==== Proof.GqaBlock.lean ====
/- The projection onto queries, keys and values with normalised and rotated heads: what one grid point stores, and the result array after
   the run. -/
module

public import proofs.«01_k».proof.Proof.Gen.Kernel9Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel9Ideal.RefValue

open Cert.Kernel9Ideal Cert.Kernel9Ideal.Gen

theorem tile_apply (X : Vec Ideal S1024x4096 .bf16) (W : Vec Ideal S4096x512 .bf16) (r : Fin 1024) (d : Fin 512) :
    k0_pay1 X W (ix2 r d) = ∑ k : Fin 4096, X (ix2 r k) * W (ix2 k d) := by
  pointwise [k0_pay1]

/-- A head's columns are normalised. -/
theorem normed_apply (a : Vec Ideal S1024x128 .f32) (g : Vec Ideal S1x128 .f32) (r : Fin 1024) (d : Fin 128) :
    k0_pay23 a g (ix2 r d) = a (ix2 r d) * Ideal.rsqrt (Ideal.div (∑ x, a (ix2 r x) * a (ix2 r x)) (Ideal.ofBits .f32 0x43000000#32)
      + Ideal.ofBits .f32 0x358637BD#32) * g (ix2 0 d) := by
  pointwise [k0_pay23]

/-- They are rotated, each half in itself: those of the keys only that, those of the queries scaled after it. -/
theorem lane (d : Fin 128) : IntOp.cmpi CmpIPredicate.slt (IntOp.andi (BitVec.ofNat 32 d.val) 63#32) 32#32 = if d.val % 64 < 32 then 1#1 else 0#1 := by
  revert d
  decide +kernel

theorem turned_apply (b q s : Vec Ideal S1024x128 .f32) (r : Fin 1024) (d : Fin 128) :
    k0_pay3 q b (iota .tc S1024x128 32 [1] iota_S1024x128_d1_w32) k0_pay25 s (ix2 r d)
      = b (ix2 r d) + (if d.val % 64 < 32 then q (ix2 r ⟨(d.val + 128 - 96) % 128, by omega⟩) else q (ix2 r ⟨(d.val + 128 - 32) % 128, by omega⟩))
          * s (ix2 r d) := by
  pointwise [k0_pay3, k0_pay25]
  rw [lane]
  by_cases h : d.val % 64 < 32
  · rw [if_pos h, if_pos h]; rfl
  · rw [if_neg h, if_neg h]; rfl

theorem turned0 (a c s : Vec Ideal S1024x128 .f32) (g : Vec Ideal S1x128 .f32) :
    k0_pay16 a g c s = k0_pay3 (k0_pay23 a g) (k0_pay24 a g c) (iota .tc S1024x128 32 [1] iota_S1024x128_d1_w32) k0_pay25 s := rfl

theorem turned (a c s : Vec Ideal S1024x128 .f32) (g : Vec Ideal S1x128 .f32) (r : Fin 1024) (d : Fin 128) :
    k0_pay16 a g c s (ix2 r d)
      = k0_pay23 a g (ix2 r d) * c (ix2 r d)
        + (if d.val % 64 < 32 then k0_pay23 a g (ix2 r ⟨(d.val + 128 - 96) % 128, by omega⟩)
            else k0_pay23 a g (ix2 r ⟨(d.val + 128 - 32) % 128, by omega⟩)) * s (ix2 r d) := by
  rw [turned0, turned_apply]
  refine congrArg (fun x : EReal => x + _) ?_
  generalize h : k0_pay23 a g = q
  unfold k0_pay24
  rw [h]
  pointwise

theorem turned1 (a c s : Vec Ideal S1024x128 .f32) (g : Vec Ideal S1x128 .f32) :
    k0_pay19 a (k0_pay17 g) (k0_pay18 a) c s = k0_pay16 a g c s := rfl
theorem turned2 (a c s : Vec Ideal S1024x128 .f32) (g : Vec Ideal S1x128 .f32) :
    k0_pay22 (k0_pay20 g) (k0_pay21 a) c s = k0_pay16 a g c s := rfl
theorem scaled (a c s : Vec Ideal S1024x128 .f32) (g : Vec Ideal S1x128 .f32) (x : S1024x128.Idx) :
    k0_pay8 a g c s x = k0_pay16 a g c s x * Ideal.ofBits .f32 0x3DB504F3#32 := rfl
theorem scaled1 (a c s : Vec Ideal S1024x128 .f32) (g : Vec Ideal S1x128 .f32) : k0_pay10 a (k0_pay9 g) c s = k0_pay8 a g c s := rfl
theorem scaled2 (a c s : Vec Ideal S1024x128 .f32) (g : Vec Ideal S1x128 .f32) :
    k0_pay13 a (k0_pay11 g) (k0_pay12 a) c s = k0_pay8 a g c s := rfl
theorem scaled3 (a c s : Vec Ideal S1024x128 .f32) (g : Vec Ideal S1x128 .f32) :
    k0_pay2 (k0_pay14 a) (k0_pay15 g) c s = k0_pay8 a g c s := rfl
theorem plain (a : Vec Ideal S1024x128 .f32) (x : S1024x128.Idx) : k0_pay4 a x = a x := rfl
theorem plain1 (a : Vec Ideal S1024x128 .f32) (x : S1024x128.Idx) : k0_pay5 a x = a x := rfl
theorem plain2 (a : Vec Ideal S1024x128 .f32) (x : S1024x128.Idx) : k0_pay6 a x = a x := rfl
theorem plain3 (a : Vec Ideal S1024x128 .f32) (x : S1024x128.Idx) : k0_pay7 a x = a x := rfl

/-- The product of the two arrays. -/
def product (X : FVec Ideal S16384x4096 .bf16) (W : FVec Ideal S4096x6144 .bf16) (r : Fin 16384) (d : Fin 6144) : EReal :=
  ∑ k : Fin 4096, X (ix2 r k) * W (ix2 k d)

/-- The product, normalised over the 128 columns of the head and multiplied with the gain. -/
def normed (X : FVec Ideal S16384x4096 .bf16) (W : FVec Ideal S4096x6144 .bf16) (G : FVec Ideal S128 .f32) (r : Fin 16384) (n : Fin 6144) : EReal :=
  product X W r n * Ideal.rsqrt (Ideal.div
      (∑ x : Fin 128, product X W r ⟨n.val / 128 * 128 + x.val, by omega⟩ * product X W r ⟨n.val / 128 * 128 + x.val, by omega⟩)
      (Ideal.ofBits .f32 0x43000000#32) + Ideal.ofBits .f32 0x358637BD#32)
    * G (ix1 ⟨n.val % 128, by omega⟩)

/-- The angle's entry for column `d` of a head: the rows' table in the first half, the columns' in the second. -/
def entry (A B : FVec Ideal S4096x32 .f32) (r : Fin 4096) (d : Fin 128) : EReal :=
  if d.val < 64 then A (ix2 r ⟨d.val % 32, by omega⟩) else B (ix2 r ⟨d.val % 32, by omega⟩)

/-- The rotation: within each half of a head, column `d` of the first 32 goes with column `d + 32`. -/
def turn (X : FVec Ideal S16384x4096 .bf16) (W : FVec Ideal S4096x6144 .bf16) (RC RS CC CS : FVec Ideal S4096x32 .f32)
    (G : FVec Ideal S128 .f32) (r : Fin 16384) (n : Fin 6144) : EReal :=
  if h : n.val % 64 < 32 then
    normed X W G r n * entry RC CC ⟨r.val % 4096, by omega⟩ ⟨n.val % 128, by omega⟩
      - normed X W G r ⟨n.val + 32, by omega⟩ * entry RS CS ⟨r.val % 4096, by omega⟩ ⟨n.val % 128, by omega⟩
  else
    normed X W G r ⟨n.val - 32, by omega⟩ * entry RS CS ⟨r.val % 4096, by omega⟩ ⟨n.val % 128, by omega⟩
      + normed X W G r n * entry RC CC ⟨r.val % 4096, by omega⟩ ⟨n.val % 128, by omega⟩

/-- The projection: queries and keys normalised and rotated, the queries scaled, the values as they are. -/
def projection (X : FVec Ideal S16384x4096 .bf16) (W : FVec Ideal S4096x6144 .bf16) (RC RS CC CS : FVec Ideal S4096x32 .f32)
    (GQ GK : FVec Ideal S128 .f32) : FVec Ideal S16384x6144 .bf16 := fun i =>
  if (i 1).val < 4096 then turn X W RC RS CC CS GQ (i 0) (i 1) * Ideal.ofBits .f32 0x3DB504F3#32
  else if (i 1).val < 5120 then turn X W RC RS CC CS GK (i 0) (i 1) else product X W (i 0) (i 1)

theorem idx : ∀ t : Fin cfg0.N,
    win0_0.index t = ![t.val / 12, 0] ∧ win0_1.index t = ![0, t.val % 12] ∧ win0_2.index t = ![t.val / 12 % 4, 0]
      ∧ win0_3.index t = ![t.val / 12 % 4, 0] ∧ win0_4.index t = ![0, 0] ∧ win0_5.index t = ![0, 0] ∧ win0_6.index t = ![t.val / 12, t.val % 12] :=
  (by decide +kernel : ∀ t : Fin grid0.N, _)

/-- A load of part of the accumulator after it was stored whole reads that part of what was stored. -/
theorem read_part (w : Vec Ideal S1024x512 .f32) (v : View sig .tc .vmem S1024x512 .f32) (off : Fin 2 → ℕ) (inb) (inb') :
    v.readCov [(⟨Rect.unit (s := S1024x512) ![0, 0] ![1024, 512] inb', w⟩ : View.Piece (Elt Ideal) S1024x512 .f32)]
      (Rect.unit (s := S1024x512) off ![1024, 128] inb).toLoadRect = View.ld w (Rect.unit (s := S1024x512) off ![1024, 128] inb) := by
  have hz : (![0, 0] : Fin 2 → ℕ) = fun _ => 0 := funext fun a => by fin_cases a <;> rfl
  rw [View.readCov_eq_canon']
  have e : View.canon [(⟨Rect.unit (s := S1024x512) ![0, 0] ![1024, 512] inb', w⟩ : View.Piece (Elt Ideal) S1024x512 .f32)] = w :=
    View.canon_unit_zero (S := S1024x512) hz _ _
  rw [e]

variable (m : (ℓ : Loc nD τ sig) → Buf (Elt Ideal) ℓ)

theorem entry_lo (A B : FVec Ideal S4096x32 .f32) (r : Fin 4096) (d : Fin 128) (e : Fin 32) (h : d.val < 64) (he : e.val = d.val % 32) :
    A (ix2 r e) = entry A B r d :=
  (congrArg A (congrArg (ix2 r) (Fin.ext he))).trans (if_pos h).symm
theorem entry_hi (A B : FVec Ideal S4096x32 .f32) (r : Fin 4096) (d : Fin 128) (e : Fin 32) (h : ¬d.val < 64) (he : e.val = d.val % 32) :
    B (ix2 r e) = entry A B r d :=
  (congrArg B (congrArg (ix2 r) (Fin.ext he))).trans (if_neg h).symm

/-- The table of cosines: the rows' twice, then the columns' twice. -/
theorem cosines (c : Dev nD) (r : Fin 4096) (d : Fin 128) :
    V m c (Pipeline.arrRef spec0 2) (ix2 r d)
      = entry (m ((c : Thread nD τ).loc main_arg2)) (m ((c : Thread nD τ).loc main_arg4)) r d := by
  unfold V
  entry_read
  pointwise
  have hd := d.isLt
  by_cases h1 : d.val < 32
  · rw [dif_pos h1]
    exact entry_lo _ _ r d _ (by omega) (by show d.val = _; omega)
  · rw [dif_neg h1]
    by_cases h2 : d.val - 32 < 32
    · rw [dif_pos h2]
      exact entry_lo _ _ r d _ (by omega) (by show d.val - 32 = _; omega)
    · rw [dif_neg h2]
      by_cases h3 : d.val - 32 - 32 < 32
      · rw [dif_pos h3]
        exact entry_hi _ _ r d _ (by omega) (by show d.val - 32 - 32 = _; omega)
      · rw [dif_neg h3]
        exact entry_hi _ _ r d _ (by omega) (by show d.val - 32 - 32 - 32 = _; omega)

/-- The table of sines, with the sign turned in the first 32 columns of each half. -/
theorem sines_table (c : Dev nD) :
    (V m c main_v3 : FVec Ideal S4096x128 .f32)
      = (concatenate S4096x128 1 [⟨S4096x32, Host.negf (m ((c : Thread nD τ).loc main_arg3) : FVec Ideal S4096x32 .f32)⟩,
          ⟨S4096x32, (m ((c : Thread nD τ).loc main_arg3) : FVec Ideal S4096x32 .f32)⟩,
          ⟨S4096x32, Host.negf (m ((c : Thread nD τ).loc main_arg5) : FVec Ideal S4096x32 .f32)⟩,
          ⟨S4096x32, (m ((c : Thread nD τ).loc main_arg5) : FVec Ideal S4096x32 .f32)⟩]
          concatenates_S4096x32_S4096x32_S4096x32_S4096x32_S4096x128_d1 : FVec Ideal S4096x128 .f32) := by
  unfold V
  rfl

theorem sines (c : Dev nD) (r : Fin 4096) (d : Fin 128) :
    V m c (Pipeline.arrRef spec0 3) (ix2 r d)
      = if d.val % 64 < 32 then Neg.neg (α := EReal) (entry (m ((c : Thread nD τ).loc main_arg3)) (m ((c : Thread nD τ).loc main_arg5)) r d)
        else entry (m ((c : Thread nD τ).loc main_arg3)) (m ((c : Thread nD τ).loc main_arg5)) r d := by
  refine (congrFun (sines_table m c) (ix2 r d)).trans ?_
  generalize (m ((c : Thread nD τ).loc main_arg3) : FVec Ideal S4096x32 .f32) = A
  generalize (m ((c : Thread nD τ).loc main_arg5) : FVec Ideal S4096x32 .f32) = B
  pointwise
  have hd := d.isLt
  by_cases h1 : d.val < 32
  · rw [dif_pos h1]
    refine Eq.trans ?_ (if_pos (by omega)).symm
    exact congrArg (Neg.neg (α := EReal)) (entry_lo A B r d _ (by omega) (by show d.val = _; omega))
  · rw [dif_neg h1]
    by_cases h2 : d.val - 32 < 32
    · rw [dif_pos h2]
      refine Eq.trans ?_ (if_neg (by omega)).symm
      exact entry_lo A B r d _ (by omega) (by show d.val - 32 = _; omega)
    · rw [dif_neg h2]
      by_cases h3 : d.val - 32 - 32 < 32
      · rw [dif_pos h3]
        refine Eq.trans ?_ (if_pos (by omega)).symm
        exact congrArg (Neg.neg (α := EReal)) (entry_hi A B r d _ (by omega) (by show d.val - 32 - 32 = _; omega))
      · rw [dif_neg h3]
        refine Eq.trans ?_ (if_neg (by omega)).symm
        exact entry_hi A B r d _ (by omega) (by show d.val - 32 - 32 - 32 = _; omega)

theorem cosine (c : Dev nD) (t : Fin cfg0.N) (r : Fin 1024) (d : Fin 128) (i : Fin 16384) (hi : i.val = t.val / 12 * 1024 + r.val) :
    iblk m c 2 t (ix2 r d) = entry (m ((c : Thread nD τ).loc main_arg2)) (m ((c : Thread nD τ).loc main_arg4)) ⟨i.val % 4096, by omega⟩ d := by
  refine Eq.trans ?_ (cosines m c ⟨i.val % 4096, by omega⟩ d)
  blk_ext [iblk, idx t]

theorem sine (c : Dev nD) (t : Fin cfg0.N) (r : Fin 1024) (d : Fin 128) (i : Fin 16384) (hi : i.val = t.val / 12 * 1024 + r.val) :
    iblk m c 3 t (ix2 r d)
      = if d.val % 64 < 32 then Neg.neg (α := EReal) (entry (m ((c : Thread nD τ).loc main_arg3)) (m ((c : Thread nD τ).loc main_arg5)) ⟨i.val % 4096, by omega⟩ d)
        else entry (m ((c : Thread nD τ).loc main_arg3)) (m ((c : Thread nD τ).loc main_arg5)) ⟨i.val % 4096, by omega⟩ d := by
  refine Eq.trans ?_ (sines m c ⟨i.val % 4096, by omega⟩ d)
  blk_ext [iblk, idx t]

/-- The gains, a row of 128. -/
theorem gainsQ (c : Dev nD) (d : Fin 128) :
    V m c (Pipeline.arrRef spec0 4) (ix2 0 d) = (m ((c : Thread nD τ).loc main_arg6) : FVec Ideal S128 .f32) (ix1 d) := by
  unfold V
  entry_read
  pointwise
theorem gainsK (c : Dev nD) (d : Fin 128) :
    V m c (Pipeline.arrRef spec0 5) (ix2 0 d) = (m ((c : Thread nD τ).loc main_arg7) : FVec Ideal S128 .f32) (ix1 d) := by
  unfold V
  entry_read
  pointwise
theorem gainQ (c : Dev nD) (t : Fin cfg0.N) (d : Fin 128) :
    iblk m c 4 t (ix2 0 d) = (m ((c : Thread nD τ).loc main_arg6) : FVec Ideal S128 .f32) (ix1 d) := by
  refine Eq.trans ?_ (gainsQ m c d)
  blk_ext [iblk, idx t]
theorem gainK (c : Dev nD) (t : Fin cfg0.N) (d : Fin 128) :
    iblk m c 5 t (ix2 0 d) = (m ((c : Thread nD τ).loc main_arg7) : FVec Ideal S128 .f32) (ix1 d) := by
  refine Eq.trans ?_ (gainsK m c d)
  blk_ext [iblk, idx t]

/-- An entry of the tile over the point's blocks is the product at the place of the entry. -/
theorem core (c : Dev nD) (t : Fin cfg0.N) (r : Fin 1024) (d : Fin 512) (i0 : Fin 16384) (i1 : Fin 6144)
    (hi0 : i0.val = t.val / 12 * 1024 + r.val) (hi1 : i1.val = t.val % 12 * 512 + d.val) :
    k0_pay1 (iblk m c 0 t) (iblk m c 1 t) (ix2 r d)
      = product (m ((c : Thread nD τ).loc main_arg0)) (m ((c : Thread nD τ).loc main_arg1)) i0 i1 := by
  rw [tile_apply]
  unfold product
  refine Finset.sum_congr rfl fun k _ => congrArg₂ (· * ·) ?_ ?_
  all_goals blk_ext [iblk, V, idx t]

/-- The same of an entry of a head's columns. -/
theorem part (c : Dev nD) (t : Fin cfg0.N) (o : ℕ) (inb) (r : Fin 1024) (d : Fin 128) (i0 : Fin 16384) (i1 : Fin 6144) (ho : o + 128 ≤ 512)
    (hi0 : i0.val = t.val / 12 * 1024 + r.val) (hi1 : i1.val = t.val % 12 * 512 + (o + d.val)) :
    View.ld (Val := Elt Ideal) (e' := .f32) (k0_pay1 (iblk m c 0 t) (iblk m c 1 t)) (Rect.unit (s := S1024x512) ![0, o] ![1024, 128] inb) (ix2 r d)
      = product (m ((c : Thread nD τ).loc main_arg0)) (m ((c : Thread nD τ).loc main_arg1)) i0 i1 := by
  refine (View.ld_unit_apply_of (S := S1024x512) _ _ _ inb _ (ix2 r ⟨o + d.val, by omega⟩) fun a => ?_).trans
    (core m c t r ⟨o + d.val, by omega⟩ i0 i1 hi0 hi1)
  match a with
  | ⟨0, _⟩ => show r.val = 0 + r.val; omega
  | ⟨1, _⟩ => rfl

/-- A head's columns after the normalisation. -/
theorem normed_part (c : Dev nD) (t : Fin cfg0.N) (g : Vec Ideal S1x128 .f32) (G : FVec Ideal S128 .f32) (hg : ∀ d, g (ix2 0 d) = G (ix1 d))
    (o : ℕ) (inb) (r : Fin 1024) (d : Fin 128) (i0 : Fin 16384) (i1 : Fin 6144) (ho : o + 128 ≤ 512)
    (hm : o % 128 = 0) (hi0 : i0.val = t.val / 12 * 1024 + r.val) (hi1 : i1.val = t.val % 12 * 512 + (o + d.val)) :
    k0_pay23 (View.ld (Val := Elt Ideal) (e' := .f32) (k0_pay1 (iblk m c 0 t) (iblk m c 1 t)) (Rect.unit (s := S1024x512) ![0, o] ![1024, 128] inb)) g (ix2 r d)
      = normed (m ((c : Thread nD τ).loc main_arg0)) (m ((c : Thread nD τ).loc main_arg1)) G i0 i1 := by
  have hd := d.isLt
  have h1 := i1.isLt
  rw [normed_apply, part m c t o inb r d i0 i1 ho hi0 hi1, hg]
  unfold normed
  have e : (⟨i1.val % 128, by omega⟩ : Fin 128) = d := Fin.ext (by show i1.val % 128 = d.val; omega)
  rw [e]
  have es : ∀ x : Fin 128, View.ld (Val := Elt Ideal) (e' := .f32) (k0_pay1 (iblk m c 0 t) (iblk m c 1 t)) (Rect.unit (s := S1024x512) ![0, o] ![1024, 128] inb) (ix2 r x)
      = product (m ((c : Thread nD τ).loc main_arg0)) (m ((c : Thread nD τ).loc main_arg1)) i0 ⟨i1.val / 128 * 128 + x.val, by omega⟩ := fun x =>
    part m c t o inb r x i0 _ ho hi0 (by show i1.val / 128 * 128 + x.val = _; omega)
  simp only [es]

/-- A head's columns after the rotation. -/
theorem turned_part (c : Dev nD) (t : Fin cfg0.N) (g : Vec Ideal S1x128 .f32) (G : FVec Ideal S128 .f32) (hg : ∀ d, g (ix2 0 d) = G (ix1 d))
    (o : ℕ) (inb) (r : Fin 1024) (d : Fin 128) (i0 : Fin 16384) (i1 : Fin 6144) (ho : o + 128 ≤ 512)
    (hm : o % 128 = 0) (hi0 : i0.val = t.val / 12 * 1024 + r.val) (hi1 : i1.val = t.val % 12 * 512 + (o + d.val)) :
    k0_pay16 (View.ld (Val := Elt Ideal) (e' := .f32) (k0_pay1 (iblk m c 0 t) (iblk m c 1 t)) (Rect.unit (s := S1024x512) ![0, o] ![1024, 128] inb)) g (iblk m c 2 t) (iblk m c 3 t) (ix2 r d)
      = turn (m ((c : Thread nD τ).loc main_arg0)) (m ((c : Thread nD τ).loc main_arg1))
          (m ((c : Thread nD τ).loc main_arg2)) (m ((c : Thread nD τ).loc main_arg3)) (m ((c : Thread nD τ).loc main_arg4)) (m ((c : Thread nD τ).loc main_arg5)) G i0 i1 := by
  have hd := d.isLt
  have h1 := i1.isLt
  rw [turned, cosine m c t r d i0 hi0, sine m c t r d i0 hi0, normed_part m c t g G hg o inb r d i0 i1 ho hm hi0 hi1]
  unfold turn
  have e : (⟨i1.val % 128, by omega⟩ : Fin 128) = d := Fin.ext (by show i1.val % 128 = d.val; omega)
  rw [e]
  by_cases h : d.val % 64 < 32
  · have h' : i1.val % 64 < 32 := by omega
    rw [if_pos h, if_pos h, dif_pos h', normed_part m c t g G hg o inb r _ i0 ⟨i1.val + 32, by omega⟩ ho hm hi0 (by show i1.val + 32 = _ + (o + (d.val + 128 - 96) % 128); omega),
      mul_neg, ← sub_eq_add_neg]
  · have h' : ¬i1.val % 64 < 32 := by omega
    rw [if_neg h, if_neg h, dif_neg h', normed_part m c t g G hg o inb r _ i0 ⟨i1.val - 32, by omega⟩ ho hm hi0 (by show i1.val - 32 = _ + (o + (d.val + 128 - 32) % 128); omega),
      add_comm]

theorem row (t : Fin cfg0.N) (y : S1024x512.Idx) : (((cfg0.win 6).blk t).view.emb y 0).val = t.val / 12 * 1024 + (y 0).val := by
  blk_simp [idx t]
theorem column (t : Fin cfg0.N) (y : S1024x512.Idx) : (((cfg0.win 6).blk t).view.emb y 1).val = t.val % 12 * 512 + (y 1).val := by
  blk_simp [idx t]

/-- What a point of the queries stores. -/
theorem pointA (c : Dev nD) (t : Fin cfg0.N) (h0 : t.val % 12 ≤ 7) (h1 : ¬(8 ≤ t.val % 12 ∧ t.val % 12 ≤ 9)) (h2 : ¬10 ≤ t.val % 12)
    (y : S1024x512.Idx) :
    outsAt0 m c t.val t.isLt y
      = projection (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (((cfg0.win 6).blk t).view.emb y) := by
  have hz : (![0, 0] : Fin 2 → ℕ) = fun _ => 0 := funext fun a => by fin_cases a <;> rfl
  rw [outsAt0_A m c t h0 h1 h2]
  unfold out0_A_6
  rw [View.read_writes_junk_apply_eq_canon]
  unfold kernelRun0_A
  dsimp only
  sl_unfold_words
  simp only [read_part, scaled1, scaled2, scaled3]
  simp only [View.readAt_eq_ld, (hs0_0 t).read_unread, (hs0_1 t).read_unread, (hs0_2 t).read_unread, (hs0_3 t).read_unread, (hs0_4 t).read_unread]
  simp only [View.ld_unit_zero (S := S1024x4096) hz, View.ld_unit_zero (S := S4096x512) hz, View.ld_unit_zero (S := S1024x128) hz, View.ld_unit_zero (S := S1x128) hz]
  have hr := row t y
  have hc := column t y
  have hy : (y 1).val < 512 := (y 1).isLt
  have hq : (((cfg0.win 6).blk t).view.emb y 1).val < 4096 := by omega
  refine Eq.trans ?_ (if_pos hq).symm
  canon_tiles x h
  all_goals idx_vars x
  all_goals
    rw [scaled]
    refine congrArg (· * Ideal.ofBits .f32 0x3DB504F3#32) (turned_part m c t _ _ (gainQ m c t) _ _ x0 x1 _ _ (by decide) (by decide) (hr.trans (by omega)) (hc.trans (by omega)))

/-- What a point of the keys stores. -/
theorem pointB (c : Dev nD) (t : Fin cfg0.N) (h0 : ¬t.val % 12 ≤ 7) (h1 : 8 ≤ t.val % 12 ∧ t.val % 12 ≤ 9) (h2 : ¬10 ≤ t.val % 12)
    (y : S1024x512.Idx) :
    outsAt0 m c t.val t.isLt y
      = projection (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (((cfg0.win 6).blk t).view.emb y) := by
  have hz : (![0, 0] : Fin 2 → ℕ) = fun _ => 0 := funext fun a => by fin_cases a <;> rfl
  rw [outsAt0_B m c t h0 h1 h2]
  unfold out0_B_6
  rw [View.read_writes_junk_apply_eq_canon]
  unfold kernelRun0_B
  dsimp only
  sl_unfold_words
  simp only [read_part, ← turned0, turned1, turned2]
  simp only [View.readAt_eq_ld, (hs0_0 t).read_unread, (hs0_1 t).read_unread, (hs0_2 t).read_unread, (hs0_3 t).read_unread, (hs0_5 t).read_unread]
  simp only [View.ld_unit_zero (S := S1024x4096) hz, View.ld_unit_zero (S := S4096x512) hz, View.ld_unit_zero (S := S1024x128) hz, View.ld_unit_zero (S := S1x128) hz]
  have hr := row t y
  have hc := column t y
  have hy : (y 1).val < 512 := (y 1).isLt
  have hq : ¬(((cfg0.win 6).blk t).view.emb y 1).val < 4096 := by omega
  have hk : (((cfg0.win 6).blk t).view.emb y 1).val < 5120 := by omega
  refine Eq.trans ?_ ((if_neg hq).trans (if_pos hk)).symm
  canon_tiles x h
  all_goals idx_vars x
  all_goals exact turned_part m c t _ _ (gainK m c t) _ _ x0 x1 _ _ (by decide) (by decide) (hr.trans (by omega)) (hc.trans (by omega))

/-- What a point of the values stores. -/
theorem pointC (c : Dev nD) (t : Fin cfg0.N) (h0 : ¬t.val % 12 ≤ 7) (h1 : ¬(8 ≤ t.val % 12 ∧ t.val % 12 ≤ 9)) (h2 : 10 ≤ t.val % 12)
    (y : S1024x512.Idx) :
    outsAt0 m c t.val t.isLt y
      = projection (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (((cfg0.win 6).blk t).view.emb y) := by
  have hz : (![0, 0] : Fin 2 → ℕ) = fun _ => 0 := funext fun a => by fin_cases a <;> rfl
  rw [outsAt0_C m c t h0 h1 h2]
  unfold out0_C_6
  rw [View.read_writes_junk_apply_eq_canon]
  unfold kernelRun0_C
  dsimp only
  sl_unfold_words
  simp only [read_part]
  simp only [View.readAt_eq_ld, (hs0_0 t).read_unread, (hs0_1 t).read_unread]
  rw [View.ld_unit_zero (S := S1024x4096) hz, View.ld_unit_zero (S := S4096x512) hz]
  have hr := row t y
  have hc := column t y
  have hq : ¬(((cfg0.win 6).blk t).view.emb y 1).val < 4096 := by omega
  have hk : ¬(((cfg0.win 6).blk t).view.emb y 1).val < 5120 := by omega
  refine Eq.trans ?_ ((if_neg hq).trans (if_neg hk)).symm
  canon_tiles x h
  all_goals idx_vars x
  all_goals exact part m c t _ _ x0 x1 _ _ (by decide) (hr.trans (by omega)) (hc.trans (by omega))

/-- The result array after the run. -/
theorem final (c : Dev nD) : (dats m 0 c).arrAt 6 (cfgs 0).N
    = projection (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 6 _ (by decide +kernel) fun t _ y => ?_
  blk_simp
  rw [after0_6]
  by_cases h : t.val % 12 ≤ 7
  · exact pointA m c t h (by omega) (by omega) y
  · by_cases h' : t.val % 12 ≤ 9
    · exact pointB m c t h (by omega) (by omega) y
    · exact pointC m c t h (by omega) (by omega) y

end Cert.Kernel9Ideal.RefValue
-- ==== Proof.GqaClaim.lean ====
/- The projection onto queries, keys and values with normalised and rotated heads: the claims about the call, and about its reference. -/
module

public import proofs.«01_k».proof.Defs
public import proofs.«01_k».proof.Proof.GqaBlock
public import proofs.«01_k».proof.Proof.Gen.Kernel9.Frame
public import proofs.«01_k».proof.Proof.Gen.Reference9Ideal.Run
public import proofs.«01_k».proof.Proof.Gen.Reference9Ideal.Read
public import Idealize.ShloMosaic.Lib.Claim
public import Idealize.ShloMosaic.Lib.IdealHost

@[expose] public section

set_option maxRecDepth 16384

noncomputable section

open Idealize.ShloMosaic Idealize.ShloMosaic.TcCoe Idealize.SL.Sem

namespace Cert.GqaClaim

open Cert.Reference9Ideal Cert.Reference9Ideal.Gen Cert.Reference9Ideal.Read
open Cert.Kernel9Ideal.RefValue (product normed entry entry_lo entry_hi turn projection)

variable (X : FVec Ideal S16384x4096 .bf16) (W : FVec Ideal S4096x6144 .bf16) (RC RS CC CS : FVec Ideal S4096x32 .f32) (GQ GK : FVec Ideal S128 .f32)

theorem product_apply (i : S16384x6144.Idx) : val_main_v2 (F := Ideal) X W i = product X W (i 0) (i 1) := by
  refine (val_main_v2_apply X W i).trans ?_
  refine Finset.sum_congr rfl fun k _ => congrArg₂ (· * ·) (congrArg X ?_) (congrArg W ?_)
  all_goals
    funext a
    match a with
    | ⟨0, _⟩ => rfl
    | ⟨1, _⟩ => rfl

/-- The tables with axes of size one. -/
theorem table6 (A : FVec Ideal S4096x32 .f32) (i : S1x4096x1x32.Idx) (t : Fin 4096) (d : Fin 32) (ht : t.val = (i 1).val) (hd : d.val = (i 3).val) :
    val_main_v6 (F := Ideal) A i = A (ix2 t d) := by
  refine (val_main_v6_apply (F := Ideal) A i).trans (congrArg A (funext fun a => Fin.ext ?_))
  have h0 : (i 0).val < 1 := (i 0).isLt
  have h2 : (i 2).val < 1 := (i 2).isLt
  have h3 : (i 3).val < 32 := (i 3).isLt
  match a with
  | ⟨0, _⟩ => show _ = t.val; simp only [idx_main_v6]; omega
  | ⟨1, _⟩ => show _ = d.val; simp only [idx_main_v6]; omega

theorem table7 (A : FVec Ideal S4096x32 .f32) (i : S1x4096x1x32.Idx) (t : Fin 4096) (d : Fin 32) (ht : t.val = (i 1).val) (hd : d.val = (i 3).val) :
    val_main_v7 (F := Ideal) A i = A (ix2 t d) := by
  refine (val_main_v7_apply (F := Ideal) A i).trans (congrArg A (funext fun a => Fin.ext ?_))
  have h0 : (i 0).val < 1 := (i 0).isLt
  have h2 : (i 2).val < 1 := (i 2).isLt
  have h3 : (i 3).val < 32 := (i 3).isLt
  match a with
  | ⟨0, _⟩ => show _ = t.val; simp only [idx_main_v7]; omega
  | ⟨1, _⟩ => show _ = d.val; simp only [idx_main_v7]; omega

theorem table8 (A : FVec Ideal S4096x32 .f32) (i : S1x4096x1x32.Idx) (t : Fin 4096) (d : Fin 32) (ht : t.val = (i 1).val) (hd : d.val = (i 3).val) :
    val_main_v8 (F := Ideal) A i = A (ix2 t d) := by
  refine (val_main_v8_apply (F := Ideal) A i).trans (congrArg A (funext fun a => Fin.ext ?_))
  have h0 : (i 0).val < 1 := (i 0).isLt
  have h2 : (i 2).val < 1 := (i 2).isLt
  have h3 : (i 3).val < 32 := (i 3).isLt
  match a with
  | ⟨0, _⟩ => show _ = t.val; simp only [idx_main_v8]; omega
  | ⟨1, _⟩ => show _ = d.val; simp only [idx_main_v8]; omega

theorem table9 (A : FVec Ideal S4096x32 .f32) (i : S1x4096x1x32.Idx) (t : Fin 4096) (d : Fin 32) (ht : t.val = (i 1).val) (hd : d.val = (i 3).val) :
    val_main_v9 (F := Ideal) A i = A (ix2 t d) := by
  refine (val_main_v9_apply (F := Ideal) A i).trans (congrArg A (funext fun a => Fin.ext ?_))
  have h0 : (i 0).val < 1 := (i 0).isLt
  have h2 : (i 2).val < 1 := (i 2).isLt
  have h3 : (i 3).val < 32 := (i 3).isLt
  match a with
  | ⟨0, _⟩ => show _ = t.val; simp only [idx_main_v9]; omega
  | ⟨1, _⟩ => show _ = d.val; simp only [idx_main_v9]; omega

/-- The queries before the normalisation, head by head. -/
theorem query (j : S4x4096x32x128.Idx) (r : Fin 16384) (n : Fin 6144) (hr : r.val = (j 0).val * 4096 + (j 1).val)
    (hn : n.val = (j 2).val * 128 + (j 3).val) : val_main_v10 (F := Ideal) X W j = product X W r n := by
  have h1 : (j 1).val < 4096 := (j 1).isLt
  have h2 : (j 2).val < 32 := (j 2).isLt
  have h3 : (j 3).val < 128 := (j 3).isLt
  refine (val_main_v10_apply (F := Ideal) X W j).trans ((val_main_v3_apply (F := Ideal) X W _).trans ((product_apply X W _).trans ?_))
  refine congrArg₂ (product X W) (Fin.ext ?_) (Fin.ext ?_)
  · simp only [idx_main_v3, idx_main_v10]; omega
  · simp only [idx_main_v3, idx_main_v10]; omega

/-- The queries after the normalisation. -/
theorem query_normed (j : S4x4096x32x128.Idx) (r : Fin 16384) (n : Fin 6144) (hr : r.val = (j 0).val * 4096 + (j 1).val)
    (hn : n.val = (j 2).val * 128 + (j 3).val) : val_main_v23 (F := Ideal) X W GQ j = normed X W GQ r n := by
  have h3 : (j 3).val < 128 := (j 3).isLt
  have e : ∀ x : Fin 128, val_main_v10 (F := Ideal) X W (ix4 (j 0) (j 1) (j 2) x) = product X W r ⟨n.val / 128 * 128 + x.val, by omega⟩ := fun x =>
    query X W (ix4 (j 0) (j 1) (j 2) x) r _ hr (by show n.val / 128 * 128 + x.val = (j 2).val * 128 + x.val; omega)
  have e0 := query X W j r n hr hn
  have eg : (⟨n.val % 128, by omega⟩ : Fin 128) = j 3 := Fin.ext (by show n.val % 128 = (j 3).val; omega)
  unfold normed
  rw [eg, ← e0]
  simp only [← e]
  unfold val_main_v23 val_main_v22 val_main_v21 val_main_v20 val_main_v19 val_main_v18 val_main_v17 val_main_v16 val_main_v15 val_main_v14 val_main_v13 val_main_v12 val_main_v11
  generalize val_main_v10 (F := Ideal) X W = A
  idx_vars j
  pointwise [val_main_cst, val_main_cst_0, val_main_cst_1]

/-- The queries after the rotation: the first half of a head, the second, and the head. -/
theorem query_lo (b : Fin 4) (s : Fin 4096) (g : Fin 32) (e : Fin 64) (r : Fin 16384) (n : Fin 6144)
    (hr : r.val = b.val * 4096 + s.val) (hn : n.val = g.val * 128 + (e.val)) :
    val_main_v37 (F := Ideal) X W RC RS GQ (ix4 b s g e) = turn X W RC RS CC CS GQ r n := by
  have hs := s.isLt
  have he := e.isLt
  have hg := g.isLt
  unfold val_main_v37 turn
  pointwise
  by_cases h : e.val < 32
  · rw [dif_pos h, dif_pos (by omega)]
    refine (val_main_v31_apply (F := Ideal) X W RC RS GQ _).trans (congrArg₂ (fun x y : EReal => x - y) ?_ ?_)
    · refine (val_main_v28_apply (F := Ideal) X W RC GQ _).trans (congrArg₂ (fun x y : EReal => x * y) ?_ ?_)
      · exact (val_main_v25_apply (F := Ideal) X W GQ _).trans ((val_main_v24_apply (F := Ideal) X W GQ _).trans (query_normed X W GQ _ r n hr (by show n.val = g.val * 128 + (e.val); omega)))
      · exact (val_main_v27_apply (F := Ideal) RC _).trans ((table6 RC _ ⟨r.val % 4096, by omega⟩ ⟨e.val, h⟩ (by show r.val % 4096 = s.val; omega) (by rfl)).trans (entry_lo RC CC _ _ _ (by show n.val % 128 < 64; omega) (by show e.val = n.val % 128 % 32; omega)))
    · refine (val_main_v30_apply (F := Ideal) X W RS GQ _).trans (congrArg₂ (fun x y : EReal => x * y) ?_ ?_)
      · exact (val_main_v26_apply (F := Ideal) X W GQ _).trans ((val_main_v24_apply (F := Ideal) X W GQ _).trans (query_normed X W GQ _ r _ hr (by show n.val + 32 = g.val * 128 + ((32 + e.val)); omega)))
      · exact (val_main_v29_apply (F := Ideal) RS _).trans ((table7 RS _ ⟨r.val % 4096, by omega⟩ ⟨e.val, h⟩ (by show r.val % 4096 = s.val; omega) (by rfl)).trans (entry_lo RS CS _ _ _ (by show n.val % 128 < 64; omega) (by show e.val = n.val % 128 % 32; omega)))
  · rw [dif_neg h, dif_neg (by omega)]
    refine (val_main_v36_apply (F := Ideal) X W RC RS GQ _).trans (congrArg₂ (fun x y : EReal => x + y) ?_ ?_)
    · refine (val_main_v33_apply (F := Ideal) X W RS GQ _).trans (congrArg₂ (fun x y : EReal => x * y) ?_ ?_)
      · exact (val_main_v25_apply (F := Ideal) X W GQ _).trans ((val_main_v24_apply (F := Ideal) X W GQ _).trans (query_normed X W GQ _ r _ hr (by show n.val - 32 = g.val * 128 + ((e.val - 32)); omega)))
      · exact (val_main_v32_apply (F := Ideal) RS _).trans ((table7 RS _ ⟨r.val % 4096, by omega⟩ ⟨e.val - 32, by omega⟩ (by show r.val % 4096 = s.val; omega) (by rfl)).trans (entry_lo RS CS _ _ _ (by show n.val % 128 < 64; omega) (by show e.val - 32 = n.val % 128 % 32; omega)))
    · refine (val_main_v35_apply (F := Ideal) X W RC GQ _).trans (congrArg₂ (fun x y : EReal => x * y) ?_ ?_)
      · exact (val_main_v26_apply (F := Ideal) X W GQ _).trans ((val_main_v24_apply (F := Ideal) X W GQ _).trans (query_normed X W GQ _ r n hr (by show n.val = g.val * 128 + ((32 + (e.val - 32))); omega)))
      · exact (val_main_v34_apply (F := Ideal) RC _).trans ((table6 RC _ ⟨r.val % 4096, by omega⟩ ⟨e.val - 32, by omega⟩ (by show r.val % 4096 = s.val; omega) (by rfl)).trans (entry_lo RC CC _ _ _ (by show n.val % 128 < 64; omega) (by show e.val - 32 = n.val % 128 % 32; omega)))

theorem query_hi (b : Fin 4) (s : Fin 4096) (g : Fin 32) (e : Fin 64) (r : Fin 16384) (n : Fin 6144)
    (hr : r.val = b.val * 4096 + s.val) (hn : n.val = g.val * 128 + (64 + e.val)) :
    val_main_v51 (F := Ideal) X W CC CS GQ (ix4 b s g e) = turn X W RC RS CC CS GQ r n := by
  have hs := s.isLt
  have he := e.isLt
  have hg := g.isLt
  unfold val_main_v51 turn
  pointwise
  by_cases h : e.val < 32
  · rw [dif_pos h, dif_pos (by omega)]
    refine (val_main_v45_apply (F := Ideal) X W CC CS GQ _).trans (congrArg₂ (fun x y : EReal => x - y) ?_ ?_)
    · refine (val_main_v42_apply (F := Ideal) X W CC GQ _).trans (congrArg₂ (fun x y : EReal => x * y) ?_ ?_)
      · exact (val_main_v39_apply (F := Ideal) X W GQ _).trans ((val_main_v38_apply (F := Ideal) X W GQ _).trans (query_normed X W GQ _ r n hr (by show n.val = g.val * 128 + (64 + e.val); omega)))
      · exact (val_main_v41_apply (F := Ideal) CC _).trans ((table8 CC _ ⟨r.val % 4096, by omega⟩ ⟨e.val, h⟩ (by show r.val % 4096 = s.val; omega) (by rfl)).trans (entry_hi RC CC _ _ _ (by show ¬n.val % 128 < 64; omega) (by show e.val = n.val % 128 % 32; omega)))
    · refine (val_main_v44_apply (F := Ideal) X W CS GQ _).trans (congrArg₂ (fun x y : EReal => x * y) ?_ ?_)
      · exact (val_main_v40_apply (F := Ideal) X W GQ _).trans ((val_main_v38_apply (F := Ideal) X W GQ _).trans (query_normed X W GQ _ r _ hr (by show n.val + 32 = g.val * 128 + (64 + (32 + e.val)); omega)))
      · exact (val_main_v43_apply (F := Ideal) CS _).trans ((table9 CS _ ⟨r.val % 4096, by omega⟩ ⟨e.val, h⟩ (by show r.val % 4096 = s.val; omega) (by rfl)).trans (entry_hi RS CS _ _ _ (by show ¬n.val % 128 < 64; omega) (by show e.val = n.val % 128 % 32; omega)))
  · rw [dif_neg h, dif_neg (by omega)]
    refine (val_main_v50_apply (F := Ideal) X W CC CS GQ _).trans (congrArg₂ (fun x y : EReal => x + y) ?_ ?_)
    · refine (val_main_v47_apply (F := Ideal) X W CS GQ _).trans (congrArg₂ (fun x y : EReal => x * y) ?_ ?_)
      · exact (val_main_v39_apply (F := Ideal) X W GQ _).trans ((val_main_v38_apply (F := Ideal) X W GQ _).trans (query_normed X W GQ _ r _ hr (by show n.val - 32 = g.val * 128 + (64 + (e.val - 32)); omega)))
      · exact (val_main_v46_apply (F := Ideal) CS _).trans ((table9 CS _ ⟨r.val % 4096, by omega⟩ ⟨e.val - 32, by omega⟩ (by show r.val % 4096 = s.val; omega) (by rfl)).trans (entry_hi RS CS _ _ _ (by show ¬n.val % 128 < 64; omega) (by show e.val - 32 = n.val % 128 % 32; omega)))
    · refine (val_main_v49_apply (F := Ideal) X W CC GQ _).trans (congrArg₂ (fun x y : EReal => x * y) ?_ ?_)
      · exact (val_main_v40_apply (F := Ideal) X W GQ _).trans ((val_main_v38_apply (F := Ideal) X W GQ _).trans (query_normed X W GQ _ r n hr (by show n.val = g.val * 128 + (64 + (32 + (e.val - 32))); omega)))
      · exact (val_main_v48_apply (F := Ideal) CC _).trans ((table8 CC _ ⟨r.val % 4096, by omega⟩ ⟨e.val - 32, by omega⟩ (by show r.val % 4096 = s.val; omega) (by rfl)).trans (entry_hi RC CC _ _ _ (by show ¬n.val % 128 < 64; omega) (by show e.val - 32 = n.val % 128 % 32; omega)))

theorem query_turned (b : Fin 4) (s : Fin 4096) (g : Fin 32) (e : Fin 128) (r : Fin 16384) (n : Fin 6144)
    (hr : r.val = b.val * 4096 + s.val) (hn : n.val = g.val * 128 + e.val) :
    val_main_v52 (F := Ideal) X W RC RS CC CS GQ (ix4 b s g e) = turn X W RC RS CC CS GQ r n := by
  have he := e.isLt
  unfold val_main_v52
  pointwise
  by_cases h : e.val < 64
  · rw [dif_pos h]
    exact query_lo X W RC RS CC CS GQ b s g _ r n hr (by show n.val = g.val * 128 + (e.val); omega)
  · rw [dif_neg h]
    exact query_hi X W RC RS CC CS GQ b s g _ r n hr (by show n.val = g.val * 128 + (64 + (e.val - 64)); omega)

/-- The keys before the normalisation, head by head. -/
theorem key (j : S4x4096x8x128.Idx) (r : Fin 16384) (n : Fin 6144) (hr : r.val = (j 0).val * 4096 + (j 1).val)
    (hn : n.val = 4096 + ((j 2).val * 128 + (j 3).val)) : val_main_v54 (F := Ideal) X W j = product X W r n := by
  have h1 : (j 1).val < 4096 := (j 1).isLt
  have h2 : (j 2).val < 8 := (j 2).isLt
  have h3 : (j 3).val < 128 := (j 3).isLt
  refine (val_main_v54_apply (F := Ideal) X W j).trans ((val_main_v4_apply (F := Ideal) X W _).trans ((product_apply X W _).trans ?_))
  refine congrArg₂ (product X W) (Fin.ext ?_) (Fin.ext ?_)
  · simp only [idx_main_v4, idx_main_v54]; omega
  · simp only [idx_main_v4, idx_main_v54]; omega

/-- The keys after the normalisation. -/
theorem key_normed (j : S4x4096x8x128.Idx) (r : Fin 16384) (n : Fin 6144) (hr : r.val = (j 0).val * 4096 + (j 1).val)
    (hn : n.val = 4096 + ((j 2).val * 128 + (j 3).val)) : val_main_v67 (F := Ideal) X W GK j = normed X W GK r n := by
  have h3 : (j 3).val < 128 := (j 3).isLt
  have e : ∀ x : Fin 128, val_main_v54 (F := Ideal) X W (ix4 (j 0) (j 1) (j 2) x) = product X W r ⟨n.val / 128 * 128 + x.val, by omega⟩ := fun x =>
    key X W (ix4 (j 0) (j 1) (j 2) x) r _ hr (by show n.val / 128 * 128 + x.val = 4096 + ((j 2).val * 128 + x.val); omega)
  have e0 := key X W j r n hr hn
  have eg : (⟨n.val % 128, by omega⟩ : Fin 128) = j 3 := Fin.ext (by show n.val % 128 = (j 3).val; omega)
  unfold normed
  rw [eg, ← e0]
  simp only [← e]
  unfold val_main_v67 val_main_v66 val_main_v65 val_main_v64 val_main_v63 val_main_v62 val_main_v61 val_main_v60 val_main_v59 val_main_v58 val_main_v57 val_main_v56 val_main_v55
  generalize val_main_v54 (F := Ideal) X W = A
  idx_vars j
  pointwise [val_main_cst_2, val_main_cst_3, val_main_cst_4]

/-- The keys after the rotation: the first half of a head, the second, and the head. -/
theorem key_lo (b : Fin 4) (s : Fin 4096) (g : Fin 8) (e : Fin 64) (r : Fin 16384) (n : Fin 6144)
    (hr : r.val = b.val * 4096 + s.val) (hn : n.val = 4096 + (g.val * 128 + (e.val))) :
    val_main_v81 (F := Ideal) X W RC RS GK (ix4 b s g e) = turn X W RC RS CC CS GK r n := by
  have hs := s.isLt
  have he := e.isLt
  have hg := g.isLt
  unfold val_main_v81 turn
  pointwise
  by_cases h : e.val < 32
  · rw [dif_pos h, dif_pos (by omega)]
    refine (val_main_v75_apply (F := Ideal) X W RC RS GK _).trans (congrArg₂ (fun x y : EReal => x - y) ?_ ?_)
    · refine (val_main_v72_apply (F := Ideal) X W RC GK _).trans (congrArg₂ (fun x y : EReal => x * y) ?_ ?_)
      · exact (val_main_v69_apply (F := Ideal) X W GK _).trans ((val_main_v68_apply (F := Ideal) X W GK _).trans (key_normed X W GK _ r n hr (by show n.val = 4096 + (g.val * 128 + (e.val)); omega)))
      · exact (val_main_v71_apply (F := Ideal) RC _).trans ((table6 RC _ ⟨r.val % 4096, by omega⟩ ⟨e.val, h⟩ (by show r.val % 4096 = s.val; omega) (by rfl)).trans (entry_lo RC CC _ _ _ (by show n.val % 128 < 64; omega) (by show e.val = n.val % 128 % 32; omega)))
    · refine (val_main_v74_apply (F := Ideal) X W RS GK _).trans (congrArg₂ (fun x y : EReal => x * y) ?_ ?_)
      · exact (val_main_v70_apply (F := Ideal) X W GK _).trans ((val_main_v68_apply (F := Ideal) X W GK _).trans (key_normed X W GK _ r _ hr (by show n.val + 32 = 4096 + (g.val * 128 + ((32 + e.val))); omega)))
      · exact (val_main_v73_apply (F := Ideal) RS _).trans ((table7 RS _ ⟨r.val % 4096, by omega⟩ ⟨e.val, h⟩ (by show r.val % 4096 = s.val; omega) (by rfl)).trans (entry_lo RS CS _ _ _ (by show n.val % 128 < 64; omega) (by show e.val = n.val % 128 % 32; omega)))
  · rw [dif_neg h, dif_neg (by omega)]
    refine (val_main_v80_apply (F := Ideal) X W RC RS GK _).trans (congrArg₂ (fun x y : EReal => x + y) ?_ ?_)
    · refine (val_main_v77_apply (F := Ideal) X W RS GK _).trans (congrArg₂ (fun x y : EReal => x * y) ?_ ?_)
      · exact (val_main_v69_apply (F := Ideal) X W GK _).trans ((val_main_v68_apply (F := Ideal) X W GK _).trans (key_normed X W GK _ r _ hr (by show n.val - 32 = 4096 + (g.val * 128 + ((e.val - 32))); omega)))
      · exact (val_main_v76_apply (F := Ideal) RS _).trans ((table7 RS _ ⟨r.val % 4096, by omega⟩ ⟨e.val - 32, by omega⟩ (by show r.val % 4096 = s.val; omega) (by rfl)).trans (entry_lo RS CS _ _ _ (by show n.val % 128 < 64; omega) (by show e.val - 32 = n.val % 128 % 32; omega)))
    · refine (val_main_v79_apply (F := Ideal) X W RC GK _).trans (congrArg₂ (fun x y : EReal => x * y) ?_ ?_)
      · exact (val_main_v70_apply (F := Ideal) X W GK _).trans ((val_main_v68_apply (F := Ideal) X W GK _).trans (key_normed X W GK _ r n hr (by show n.val = 4096 + (g.val * 128 + ((32 + (e.val - 32)))); omega)))
      · exact (val_main_v78_apply (F := Ideal) RC _).trans ((table6 RC _ ⟨r.val % 4096, by omega⟩ ⟨e.val - 32, by omega⟩ (by show r.val % 4096 = s.val; omega) (by rfl)).trans (entry_lo RC CC _ _ _ (by show n.val % 128 < 64; omega) (by show e.val - 32 = n.val % 128 % 32; omega)))

theorem key_hi (b : Fin 4) (s : Fin 4096) (g : Fin 8) (e : Fin 64) (r : Fin 16384) (n : Fin 6144)
    (hr : r.val = b.val * 4096 + s.val) (hn : n.val = 4096 + (g.val * 128 + (64 + e.val))) :
    val_main_v95 (F := Ideal) X W CC CS GK (ix4 b s g e) = turn X W RC RS CC CS GK r n := by
  have hs := s.isLt
  have he := e.isLt
  have hg := g.isLt
  unfold val_main_v95 turn
  pointwise
  by_cases h : e.val < 32
  · rw [dif_pos h, dif_pos (by omega)]
    refine (val_main_v89_apply (F := Ideal) X W CC CS GK _).trans (congrArg₂ (fun x y : EReal => x - y) ?_ ?_)
    · refine (val_main_v86_apply (F := Ideal) X W CC GK _).trans (congrArg₂ (fun x y : EReal => x * y) ?_ ?_)
      · exact (val_main_v83_apply (F := Ideal) X W GK _).trans ((val_main_v82_apply (F := Ideal) X W GK _).trans (key_normed X W GK _ r n hr (by show n.val = 4096 + (g.val * 128 + (64 + e.val)); omega)))
      · exact (val_main_v85_apply (F := Ideal) CC _).trans ((table8 CC _ ⟨r.val % 4096, by omega⟩ ⟨e.val, h⟩ (by show r.val % 4096 = s.val; omega) (by rfl)).trans (entry_hi RC CC _ _ _ (by show ¬n.val % 128 < 64; omega) (by show e.val = n.val % 128 % 32; omega)))
    · refine (val_main_v88_apply (F := Ideal) X W CS GK _).trans (congrArg₂ (fun x y : EReal => x * y) ?_ ?_)
      · exact (val_main_v84_apply (F := Ideal) X W GK _).trans ((val_main_v82_apply (F := Ideal) X W GK _).trans (key_normed X W GK _ r _ hr (by show n.val + 32 = 4096 + (g.val * 128 + (64 + (32 + e.val))); omega)))
      · exact (val_main_v87_apply (F := Ideal) CS _).trans ((table9 CS _ ⟨r.val % 4096, by omega⟩ ⟨e.val, h⟩ (by show r.val % 4096 = s.val; omega) (by rfl)).trans (entry_hi RS CS _ _ _ (by show ¬n.val % 128 < 64; omega) (by show e.val = n.val % 128 % 32; omega)))
  · rw [dif_neg h, dif_neg (by omega)]
    refine (val_main_v94_apply (F := Ideal) X W CC CS GK _).trans (congrArg₂ (fun x y : EReal => x + y) ?_ ?_)
    · refine (val_main_v91_apply (F := Ideal) X W CS GK _).trans (congrArg₂ (fun x y : EReal => x * y) ?_ ?_)
      · exact (val_main_v83_apply (F := Ideal) X W GK _).trans ((val_main_v82_apply (F := Ideal) X W GK _).trans (key_normed X W GK _ r _ hr (by show n.val - 32 = 4096 + (g.val * 128 + (64 + (e.val - 32))); omega)))
      · exact (val_main_v90_apply (F := Ideal) CS _).trans ((table9 CS _ ⟨r.val % 4096, by omega⟩ ⟨e.val - 32, by omega⟩ (by show r.val % 4096 = s.val; omega) (by rfl)).trans (entry_hi RS CS _ _ _ (by show ¬n.val % 128 < 64; omega) (by show e.val - 32 = n.val % 128 % 32; omega)))
    · refine (val_main_v93_apply (F := Ideal) X W CC GK _).trans (congrArg₂ (fun x y : EReal => x * y) ?_ ?_)
      · exact (val_main_v84_apply (F := Ideal) X W GK _).trans ((val_main_v82_apply (F := Ideal) X W GK _).trans (key_normed X W GK _ r n hr (by show n.val = 4096 + (g.val * 128 + (64 + (32 + (e.val - 32)))); omega)))
      · exact (val_main_v92_apply (F := Ideal) CC _).trans ((table8 CC _ ⟨r.val % 4096, by omega⟩ ⟨e.val - 32, by omega⟩ (by show r.val % 4096 = s.val; omega) (by rfl)).trans (entry_hi RC CC _ _ _ (by show ¬n.val % 128 < 64; omega) (by show e.val - 32 = n.val % 128 % 32; omega)))

theorem key_turned (b : Fin 4) (s : Fin 4096) (g : Fin 8) (e : Fin 128) (r : Fin 16384) (n : Fin 6144)
    (hr : r.val = b.val * 4096 + s.val) (hn : n.val = 4096 + (g.val * 128 + e.val)) :
    val_main_v96 (F := Ideal) X W RC RS CC CS GK (ix4 b s g e) = turn X W RC RS CC CS GK r n := by
  have he := e.isLt
  unfold val_main_v96
  pointwise
  by_cases h : e.val < 64
  · rw [dif_pos h]
    exact key_lo X W RC RS CC CS GK b s g _ r n hr (by show n.val = 4096 + (g.val * 128 + (e.val)); omega)
  · rw [dif_neg h]
    exact key_hi X W RC RS CC CS GK b s g _ r n hr (by show n.val = 4096 + (g.val * 128 + (64 + (e.val - 64))); omega)

/-- The reference's result is the projection. -/
theorem result : val_main_v101 (F := Ideal) X W RC RS CC CS GQ GK = projection X W RC RS CC CS GQ GK := by
  funext i
  refine (val_main_v101_apply (F := Ideal) X W RC RS CC CS GQ GK i).trans ?_
  idx_vars i
  have h0 := i0.isLt
  have h1 := i1.isLt
  unfold val_main_v100 projection
  pointwise
  by_cases h : i1.val < 4096
  · rw [dif_pos h, if_pos h]
    refine (val_main_v99_apply (F := Ideal) X W RC RS CC CS GQ _).trans (congrArg₂ (fun x y : EReal => x * y) ?_ ?_)
    · refine (val_main_v53_apply (F := Ideal) X W RC RS CC CS GQ _).trans ?_
      refine Eq.trans (congrArg (val_main_v52 (F := Ideal) X W RC RS CC CS GQ) (funext fun a => Fin.ext ?_))
        (query_turned X W RC RS CC CS GQ ⟨i0.val / 4096, by omega⟩ ⟨i0.val % 4096, by omega⟩ ⟨i1.val / 128, by omega⟩ ⟨i1.val % 128, by omega⟩ i0 i1
          (by show i0.val = i0.val / 4096 * 4096 + i0.val % 4096; omega) (by show i1.val = i1.val / 128 * 128 + i1.val % 128; omega))
      match a with
      | ⟨0, _⟩ => show (i0.val * 4096 + i1.val) / 16777216 = i0.val / 4096; omega
      | ⟨1, _⟩ => show (i0.val * 4096 + i1.val) / 4096 % 4096 = i0.val % 4096; omega
      | ⟨2, _⟩ => show (i0.val * 4096 + i1.val) / 128 % 32 = i1.val / 128; omega
      | ⟨3, _⟩ => show (i0.val * 4096 + i1.val) % 128 = i1.val % 128; omega
    · exact (val_main_v98_apply (F := Ideal) _).trans (val_main_cst_5_apply (F := Ideal) _)
  · rw [dif_neg h, if_neg h]
    by_cases h' : i1.val < 5120
    · rw [dif_pos (by omega), if_pos h']
      refine (val_main_v97_apply (F := Ideal) X W RC RS CC CS GK _).trans ?_
      refine Eq.trans (congrArg (val_main_v96 (F := Ideal) X W RC RS CC CS GK) (funext fun a => Fin.ext ?_))
        (key_turned X W RC RS CC CS GK ⟨i0.val / 4096, by omega⟩ ⟨i0.val % 4096, by omega⟩ ⟨(i1.val - 4096) / 128, by omega⟩ ⟨i1.val % 128, by omega⟩ i0 i1
          (by show i0.val = i0.val / 4096 * 4096 + i0.val % 4096; omega) (by show i1.val = 4096 + ((i1.val - 4096) / 128 * 128 + i1.val % 128); omega))
      match a with
      | ⟨0, _⟩ => show (i0.val * 1024 + (i1.val - 4096)) / 4194304 = i0.val / 4096; omega
      | ⟨1, _⟩ => show (i0.val * 1024 + (i1.val - 4096)) / 1024 % 4096 = i0.val % 4096; omega
      | ⟨2, _⟩ => show (i0.val * 1024 + (i1.val - 4096)) / 128 % 8 = (i1.val - 4096) / 128; omega
      | ⟨3, _⟩ => show (i0.val * 1024 + (i1.val - 4096)) % 128 = i1.val % 128; omega
    · rw [dif_neg (by omega), if_neg h']
      refine ((val_main_v5_apply (F := Ideal) X W _).trans (product_apply X W _)).trans (congrArg (product X W i0) (Fin.ext ?_))
      show 5120 + (i1.val - 4096 - 1024) = i1.val
      omega

theorem kernel : Cert.quiescent_Kernel9 := fun m ρ _ => Cert.Kernel9.Gen.frame m ρ
theorem kernelIdeal : Cert.quiescent_Kernel9Ideal := fun m ρ _ => Cert.Kernel9Ideal.Gen.frame m ρ
theorem reference : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem algebraic : Cert.algebraic_Kernel9Ideal_Reference9Ideal := by
  pair_intro
  · run_from Cert.Kernel9Ideal.Gen.run_main m g
  · run_from Cert.Reference9Ideal.Value.run m' g'
    rw [Cert.Reference9Ideal.Read.val_main_v101_eq, Cert.Kernel9Ideal.RefValue.final]
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    exact result _ _ _ _ _ _ _ _

end Cert.GqaClaim
-- ==== Proof.SharedBlock.lean ====
/- The shared expert: what one grid point stores, and the result array after the run. -/
module

public import proofs.«01_k».proof.Proof.Gen.Kernel10Ideal.Value
public import Idealize.ShloMosaic.Lib.Pipeline.ValueKit
public import Idealize.ShloMosaic.Lib.Pointwise
public import Idealize.ShloMosaic.Lib.VecWindow

@[expose] public section

set_option maxRecDepth 16384

noncomputable section

open Idealize.ShloMosaic Idealize.ShloMosaic.TcCoe Idealize.SL.Sem
open Idealize.ShloMosaic.Pipeline (Dat)

namespace Cert.Kernel10Ideal.RefValue

open Cert.Kernel10Ideal Cert.Kernel10Ideal.Gen

/-- A projection of a row of words on a weight's row: the low halves on its first half, the high halves on its second. -/
def dots (x : Fin 2048 → BitVec 32) (a : Fin 4096 → EReal) : EReal :=
  (∑ k : Fin 2048, Ideal.ofBits .f32 (x k <<< 16#32) * a ⟨k.val, by omega⟩)
    + ∑ k : Fin 2048, Ideal.ofBits .f32 (x k &&& 4294901760#32) * a ⟨2048 + k.val, by omega⟩

theorem gate_apply (w : Vec Ideal S1x192x4096 .f32) (h : Fin 192) (k : Fin 4096) : k0_pay1 w (ix2 h k) = w (ix3 0 h k) := by
  pointwise [k0_pay1]
theorem up_apply (w : Vec Ideal S1x192x4096 .f32) (h : Fin 192) (k : Fin 4096) : k0_pay2 w (ix2 h k) = w (ix3 0 h k) := by
  pointwise [k0_pay2]
theorem down_apply (w : Vec Ideal S1x192x4096 .f32) (h : Fin 192) (k : Fin 4096) : k0_pay3 w (ix2 h k) = w (ix3 0 h k) := by
  pointwise [k0_pay3]

/-- A tile. -/
theorem tile_apply (x : Vec Ideal S512x2048 .i32) (a b e : Vec Ideal S192x4096 .bf16) (r : Fin 512) (d : Fin 4096) :
    k0_pay4 x a b e (ix2 r d)
      = ∑ h : Fin 192, dots (fun k => x (ix2 r k)) (fun k => a (ix2 h k)) * Ideal.logistic (dots (fun k => x (ix2 r k)) (fun k => a (ix2 h k)))
          * dots (fun k => x (ix2 r k)) (fun k => b (ix2 h k)) * e (ix2 h d) := by
  unfold dots
  pointwise [k0_pay4]
  rfl

/-- The shared expert on every row. -/
def expert (X : IVec S16384x2048 32) (A B C : FVec Ideal S4x192x4096 .f32) : FVec Ideal S16384x4096 .bf16 := fun i =>
  ∑ h : Fin 192, dots (fun k => X (ix2 (i 0) k)) (fun k => A (ix3 0 h k)) * Ideal.logistic (dots (fun k => X (ix2 (i 0) k)) (fun k => A (ix3 0 h k)))
    * dots (fun k => X (ix2 (i 0) k)) (fun k => B (ix3 0 h k)) * C (ix3 0 h (i 1))

theorem idx : ∀ t : Fin cfg0.N,
    win0_0.index t = ![t.val, 0] ∧ win0_1.index t = ![0, 0, 0] ∧ win0_2.index t = ![0, 0, 0] ∧ win0_3.index t = ![0, 0, 0]
      ∧ win0_4.index t = ![t.val, 0] :=
  (by decide +kernel : ∀ t : Fin grid0.N, _)

variable (m : (ℓ : Loc nD τ sig) → Buf (Elt Ideal) ℓ)

/-- The weights as the body keeps them are the same blocks at every point. -/
theorem gates (c : Dev nD) (t : Fin cfg0.N) (g : Fin 192) (k : Fin 4096) :
    k0_pay1 (iblk m c 1 t) (ix2 g k) = (m ((c : Thread nD τ).loc main_arg1) : FVec Ideal S4x192x4096 .f32) (ix3 0 g k) := by
  rw [gate_apply]
  blk_ext [iblk, V, idx t]
theorem ups (c : Dev nD) (t : Fin cfg0.N) (g : Fin 192) (k : Fin 4096) :
    k0_pay2 (iblk m c 2 t) (ix2 g k) = (m ((c : Thread nD τ).loc main_arg2) : FVec Ideal S4x192x4096 .f32) (ix3 0 g k) := by
  rw [up_apply]
  blk_ext [iblk, V, idx t]
theorem downs (c : Dev nD) (t : Fin cfg0.N) (g : Fin 192) (k : Fin 4096) :
    k0_pay3 (iblk m c 3 t) (ix2 g k) = (m ((c : Thread nD τ).loc main_arg3) : FVec Ideal S4x192x4096 .f32) (ix3 0 g k) := by
  rw [down_apply]
  blk_ext [iblk, V, idx t]

/-- The tile of a point. -/
abbrev tile (c : Dev nD) (t : Fin cfg0.N) : Vec Ideal S512x4096 .bf16 :=
  k0_pay4 (iblk m c 0 t) (k0_pay1 (iblk m c 1 t)) (k0_pay2 (iblk m c 2 t)) (k0_pay3 (iblk m c 3 t))

theorem same (c : Dev nD) (t s : Fin cfg0.N) :
    k0_pay1 (F := Ideal) (iblk m c 1 t) = k0_pay1 (iblk m c 1 s) ∧ k0_pay2 (F := Ideal) (iblk m c 2 t) = k0_pay2 (iblk m c 2 s)
      ∧ k0_pay3 (F := Ideal) (iblk m c 3 t) = k0_pay3 (iblk m c 3 s) := by
  refine ⟨?_, ?_, ?_⟩
  all_goals
    funext y
    idx_vars y
  · exact (gates m c t _ _).trans (gates m c s _ _).symm
  · exact (ups m c t _ _).trans (ups m c s _ _).symm
  · exact (downs m c t _ _).trans (downs m c s _ _).symm

/-- What the first point leaves. -/
theorem first (c : Dev nD) (t : Fin cfg0.N) (h0 : t.val % 32 = 0) :
    outsAt0 m c t.val t.isLt = (tile m c t, k0_pay1 (iblk m c 1 t), k0_pay2 (iblk m c 2 t), k0_pay3 (iblk m c 3 t)) := by
  rw [outsAt0_A m c t h0]
  unfold out0_A_4 sout0_A_0 sout0_A_1 sout0_A_2
  unfold kernelRun0_A
  dsimp only
  sl_unfold_words
  exact congrArg₂ Prod.mk
    ((View.read_writes_full _ _ inb_S512x4096_S512x4096_0_0 _ []).trans (congr (congr (congr (congrArg k0_pay4 ((View.readAt_full _ _ inb_S512x2048_S512x2048_0_0).trans ((hs0_0 t).read_unread _)))
      ((View.readCov_full _ inb_S192x4096_S192x4096_0_0 inb_S192x4096_S192x4096_0_0 _ []).trans (congrArg k0_pay1 ((View.readAt_full _ _ inb_S1x192x4096_S1x192x4096_0_0_0).trans ((hs0_1 t).read_unread _)))))
      ((View.readCov_full _ inb_S192x4096_S192x4096_0_0 inb_S192x4096_S192x4096_0_0 _ []).trans (congrArg k0_pay2 ((View.readAt_full _ _ inb_S1x192x4096_S1x192x4096_0_0_0).trans ((hs0_2 t).read_unread _)))))
      ((View.readCov_full _ inb_S192x4096_S192x4096_0_0 inb_S192x4096_S192x4096_0_0 _ []).trans (congrArg k0_pay3 ((View.readAt_full _ _ inb_S1x192x4096_S1x192x4096_0_0_0).trans ((hs0_3 t).read_unread _))))))
    (congrArg₂ Prod.mk ((View.read_writes_full _ _ inb_S192x4096_S192x4096_0_0 _ []).trans (congrArg k0_pay1 ((View.readAt_full _ _ inb_S1x192x4096_S1x192x4096_0_0_0).trans ((hs0_1 t).read_unread _))))
      (congrArg₂ Prod.mk ((View.read_writes_full _ _ inb_S192x4096_S192x4096_0_0 _ []).trans (congrArg k0_pay2 ((View.readAt_full _ _ inb_S1x192x4096_S1x192x4096_0_0_0).trans ((hs0_2 t).read_unread _))))
        ((View.read_writes_full _ _ inb_S192x4096_S192x4096_0_0 _ []).trans (congrArg k0_pay3 ((View.readAt_full _ _ inb_S1x192x4096_S1x192x4096_0_0_0).trans ((hs0_3 t).read_unread _))))))

/-- What a later point leaves, where the point before left the weights. -/
theorem later (c : Dev nD) (t : Fin cfg0.N) (h0 : ¬t.val % 32 = 0)
    (hk : ∀ h, (outsAt0 m c (t.val - 1) h).2 = (k0_pay1 (iblk m c 1 t), k0_pay2 (iblk m c 2 t), k0_pay3 (iblk m c 3 t))) :
    outsAt0 m c t.val t.isLt = (tile m c t, k0_pay1 (iblk m c 1 t), k0_pay2 (iblk m c 2 t), k0_pay3 (iblk m c 3 t)) := by
  rw [outsAt0_B m c t h0, hk]
  unfold out0_B_4 sout0_B_0 sout0_B_1 sout0_B_2
  unfold kernelRun0_B
  dsimp only
  sl_unfold_words
  exact congrArg₂ Prod.mk
    ((View.read_writes_full _ _ inb_S512x4096_S512x4096_0_0 _ []).trans (congr (congr (congr (congrArg k0_pay4 ((View.readAt_full _ _ inb_S512x2048_S512x2048_0_0).trans ((hs0_0 t).read_unread _)))
      ((View.readAt_full _ _ inb_S192x4096_S192x4096_0_0).trans (Memref.IsWhole.read_unread _ _)))
      ((View.readAt_full _ _ inb_S192x4096_S192x4096_0_0).trans (Memref.IsWhole.read_unread _ _)))
      ((View.readAt_full _ _ inb_S192x4096_S192x4096_0_0).trans (Memref.IsWhole.read_unread _ _))))
    rfl

/-- What every point leaves: its tile, and the weights. -/
theorem leaves (c : Dev nD) : ∀ (n : ℕ) (hn : n < cfg0.N),
    outsAt0 m c n hn = (tile m c ⟨n, hn⟩, k0_pay1 (iblk m c 1 ⟨n, hn⟩), k0_pay2 (iblk m c 2 ⟨n, hn⟩), k0_pay3 (iblk m c 3 ⟨n, hn⟩))
  | 0, hn => first m c ⟨0, hn⟩ rfl
  | n + 1, hn => by
    have hN : cfg0.N = 32 := N_0
    refine later m c ⟨n + 1, hn⟩ (by show ¬(n + 1) % 32 = 0; omega) fun h => ?_
    obtain ⟨e1, e2, e3⟩ := same m c ⟨n, h⟩ ⟨n + 1, hn⟩
    exact (congrArg Prod.snd (leaves c n h)).trans (by rw [e1, e2, e3])

/-- What point `t` stores at block index `y`. -/
theorem point (c : Dev nD) (t : Fin cfg0.N) (y : S512x4096.Idx) :
    (outsAt0 m c t.val t.isLt).1 y
      = expert (m ((c : Thread nD τ).loc main_arg0)) (m ((c : Thread nD τ).loc main_arg1)) (m ((c : Thread nD τ).loc main_arg2))
          (m ((c : Thread nD τ).loc main_arg3)) (((cfg0.win 4).blk t).view.emb y) := by
  have e0 : (((cfg0.win 4).blk t).view.emb y 0).val = t.val * 512 + (y 0).val := by blk_simp [idx t]
  have e1 : (((cfg0.win 4).blk t).view.emb y 1).val = (y 1).val := by blk_simp [idx t]
  rw [leaves m c t.val t.isLt]
  dsimp only
  idx_vars y
  unfold tile
  rw [tile_apply]
  unfold expert
  have hx : (fun k => iblk m c 0 t (ix2 y0 k))
      = fun k => (m ((c : Thread nD τ).loc main_arg0) : IVec S16384x2048 32) (ix2 (((cfg0.win 4).blk t).view.emb (ix2 y0 y1) 0) k) := by
    funext k
    blk_ext [iblk, V, idx t]
  have hd : (((cfg0.win 4).blk t).view.emb (ix2 y0 y1) 1 : Fin 4096) = y1 := Fin.ext e1
  refine Finset.sum_congr rfl fun g _ => ?_
  have ha := funext fun k => gates m c t g k
  have hb := funext fun k => ups m c t g k
  have hc := (downs m c t g y1).trans (congrArg _ (congrArg (ix3 0 g) hd.symm))
  exact congrArg₂ (· * ·) (congrArg₂ (· * ·) (congrArg₂ (fun x a => dots x a * Ideal.logistic (dots x a)) hx ha) (congrArg₂ dots hx hb)) hc

/-- The result array after the run. -/
theorem final (c : Dev nD) : (dats m 0 c).arrAt 4 (cfgs 0).N
    = expert (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]; exact point m c t y

end Cert.Kernel10Ideal.RefValue
-- ==== Proof.SharedClaim.lean ====
/- The shared expert: the claims about the call, and about its reference. -/
module

public import proofs.«01_k».proof.Defs
public import proofs.«01_k».proof.Proof.SharedBlock
public import proofs.«01_k».proof.Proof.Gen.Kernel10.Frame
public import proofs.«01_k».proof.Proof.Gen.Reference10Ideal.Run
public import proofs.«01_k».proof.Proof.Gen.Reference10Ideal.Read
public import Idealize.ShloMosaic.Lib.Claim
public import Idealize.ShloMosaic.Lib.IdealHost

@[expose] public section

set_option maxRecDepth 16384

noncomputable section

open Idealize.ShloMosaic Idealize.ShloMosaic.TcCoe Idealize.SL.Sem

namespace Cert.SharedClaim

open Cert.Reference10Ideal Cert.Reference10Ideal.Gen Cert.Reference10Ideal.Read
open Cert.Kernel10Ideal.RefValue (dots expert)

variable (X : IVec S16384x2048 32) (A B C : FVec Ideal S4x192x4096 .f32)

/-- The numbers in the low and in the high halves of a word. -/
theorem low_apply (p : Fin 16384) (k : Fin 2048) : val_main_v2 (F := Ideal) X (ix2 p k) = Ideal.ofBits .f32 (X (ix2 p k) <<< 16#32) := by
  rw [val_main_v2_apply, val_main_v1_apply, val_main_v0_apply, val_main_c_apply]
  rfl
theorem high_apply (p : Fin 16384) (k : Fin 2048) : val_main_v5 (F := Ideal) X (ix2 p k) = Ideal.ofBits .f32 (X (ix2 p k) &&& 4294901760#32) := by
  rw [val_main_v5_apply, val_main_v4_apply, val_main_v3_apply, val_main_c_0_apply]
  rfl

/-- A row's first half, and its second. -/
theorem first_apply (p : Fin 16384) (k : Fin 2048) : val_main_v6 (F := Ideal) X (ix2 p ⟨k.val, by omega⟩) = val_main_v2 (F := Ideal) X (ix2 p k) := by
  unfold val_main_v6
  refine concatenate_pair_apply_left (t := S16384x4096) (s₁ := S16384x2048) (s₂ := S16384x2048) 1 (val_main_v2 (F := Ideal) X) (val_main_v5 (F := Ideal) X)
    _ _ rfl (ix2 p k) fun b => ?_
  match b with
  | ⟨0, _⟩ => rfl
  | ⟨1, _⟩ => rfl
theorem second_apply (p : Fin 16384) (k : Fin 2048) :
    val_main_v6 (F := Ideal) X (ix2 p ⟨2048 + k.val, by omega⟩) = val_main_v5 (F := Ideal) X (ix2 p k) := by
  unfold val_main_v6
  refine concatenate_pair_apply_right (t := S16384x4096) (s₁ := S16384x2048) (s₂ := S16384x2048) 1 (val_main_v2 (F := Ideal) X) (val_main_v5 (F := Ideal) X)
    _ _ rfl rfl (ix2 p k) (fun b hb => ?_) ?_
  · match b with
    | ⟨0, _⟩ => rfl
    | ⟨1, _⟩ => exact absurd rfl hb
  · show k.val + 2048 = 2048 + k.val; omega

/-- The first layer's weights. -/
theorem gate_apply (k : Fin 4096) (h : Fin 192) : val_main_v9 (F := Ideal) A (ix2 k h) = A (ix3 0 h k) := by
  rw [val_main_v9_apply, val_main_v8_apply, val_main_v7_apply]
  blk_ext []
theorem down_apply (h : Fin 192) (k : Fin 4096) : val_main_v24 (F := Ideal) C (ix2 h k) = C (ix3 0 h k) := by
  rw [val_main_v24_apply, val_main_v23_apply]
  blk_ext []

theorem halves (f : Fin 4096 → EReal) :
    ∑ k : Fin 4096, f k = (∑ k : Fin 2048, f ⟨k.val, by omega⟩) + ∑ k : Fin 2048, f ⟨2048 + k.val, by omega⟩ :=
  Fin.sum_univ_add (a := 2048) (b := 2048) f

/-- A projection of a row. -/
theorem gated_apply (p : Fin 16384) (h : Fin 192) :
    val_main_v10 (F := Ideal) X A (ix2 p h) = dots (fun k => X (ix2 p k)) (fun k => A (ix3 0 h k)) := by
  rw [val_main_v10_apply, halves]
  unfold dots
  refine congrArg₂ (· + ·) (Finset.sum_congr rfl fun k _ => ?_) (Finset.sum_congr rfl fun k _ => ?_)
  · refine congrArg₂ (· * ·) (Eq.trans (congrArg _ ?_) ((first_apply X p k).trans (low_apply X p k))) (Eq.trans (congrArg _ ?_) (gate_apply A _ h))
    all_goals (funext a; match a with | ⟨0, _⟩ => rfl | ⟨1, _⟩ => rfl)
  · refine congrArg₂ (· * ·) (Eq.trans (congrArg _ ?_) ((second_apply X p k).trans (high_apply X p k))) (Eq.trans (congrArg _ ?_) (gate_apply A _ h))
    all_goals (funext a; match a with | ⟨0, _⟩ => rfl | ⟨1, _⟩ => rfl)
theorem upped_apply (p : Fin 16384) (h : Fin 192) :
    val_main_v14 (F := Ideal) X B (ix2 p h) = dots (fun k => X (ix2 p k)) (fun k => B (ix3 0 h k)) := gated_apply X B p h

/-- The activation of a row. -/
theorem act_apply (p : Fin 16384) (h : Fin 192) :
    val_main_v22 (F := Ideal) X A B (ix2 p h)
      = dots (fun k => X (ix2 p k)) (fun k => A (ix3 0 h k)) * Ideal.logistic (dots (fun k => X (ix2 p k)) (fun k => A (ix3 0 h k)))
        * dots (fun k => X (ix2 p k)) (fun k => B (ix3 0 h k)) := by
  rw [val_main_v22_apply, val_main_v21_apply, val_main_v20_apply, val_main_v19_apply, val_main_v18_apply, val_main_v17_apply, val_main_v16_apply,
    val_main_v15_apply, val_main_cst_apply, val_main_cst_1_apply, gated_apply, upped_apply]
  simp only [Ideal.mulf_def, Ideal.hostUnary_exp_def, Ideal.hostNegf_def, Ideal.hostDivf_def, Ideal.addf_def, Ideal.ofBits_def, Ideal.ofBits_one_f32]
  rfl

/-- The reference's result is the shared expert on every row. -/
theorem result : val_main_v26 (F := Ideal) X A B C = expert X A B C := by
  funext i
  refine (val_main_v26_apply (F := Ideal) X A B C i).trans ?_
  refine (val_main_v25_apply X A B C i).trans ?_
  unfold expert
  refine Finset.sum_congr rfl fun h _ => congrArg₂ (· * ·) (Eq.trans (congrArg _ ?_) (act_apply X A B (i 0) h)) (Eq.trans (congrArg _ ?_) (down_apply C h (i 1)))
  all_goals (funext a; match a with | ⟨0, _⟩ => rfl | ⟨1, _⟩ => rfl)

theorem kernel : Cert.quiescent_Kernel10 := fun m ρ _ => Cert.Kernel10.Gen.frame m ρ
theorem kernelIdeal : Cert.quiescent_Kernel10Ideal := fun m ρ _ => Cert.Kernel10Ideal.Gen.frame m ρ
theorem reference : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem algebraic : Cert.algebraic_Kernel10Ideal_Reference10Ideal := by
  pair_intro
  · run_from Cert.Kernel10Ideal.Gen.run_main m g
  · run_from Cert.Reference10Ideal.Value.run m' g'
    rw [Cert.Reference10Ideal.Read.val_main_v26_eq, Cert.Kernel10Ideal.RefValue.final]
    exact result _ _ _ _

end Cert.SharedClaim
-- ==== Proof.lean ====
/- The two attentions, the routed experts, the shared expert and six projections of the trunk: each kernel and each reference ends and leaves its arguments
   and its semaphores as they were, and each kernel's result is its reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Pre_diff_finite
public import proofs.«01_k».proof.Proof.Gen.Pre_full_finite
public import proofs.«01_k».proof.Proof.Gen.Pre_gmm_tables
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel10Ideal.Value
public import proofs.«01_k».proof.Proof.Gen.Reference10Ideal.Run
public import proofs.«01_k».proof.Proof.Gen.Reference10Ideal.Read
public import proofs.«01_k».proof.Proof.FullClaim
public import proofs.«01_k».proof.Proof.DiffClaim
public import proofs.«01_k».proof.Proof.GmmClaim
public import proofs.«01_k».proof.Proof.OutClaim
public import proofs.«01_k».proof.Proof.NatClaim
public import proofs.«01_k».proof.Proof.RotClaim
public import proofs.«01_k».proof.Proof.DilClaim
public import proofs.«01_k».proof.Proof.DilOutClaim
public import proofs.«01_k».proof.Proof.GqaClaim
public import proofs.«01_k».proof.Proof.SharedClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Pre_diff_finite.Gen.facts, Cert.Pre_full_finite.Gen.facts, Cert.Pre_gmm_tables.Gen.facts,
  DiffClaim.kernel, DiffClaim.kernelIdeal, DiffClaim.kernelIdealPre, DiffClaim.reference, DiffClaim.referencePre,
  FullClaim.kernel, FullClaim.kernelIdeal, FullClaim.kernelIdealPre, FullClaim.reference, FullClaim.referencePre,
  GmmClaim.kernel, GmmClaim.kernelIdeal, GmmClaim.reference, GmmClaim.referencePre,
  OutClaim.kernel, OutClaim.kernelIdeal, OutClaim.reference,
  NatClaim.kernel, NatClaim.kernelIdeal, NatClaim.reference,
  RotClaim.kernel, RotClaim.kernelIdeal, RotClaim.reference,
  DilClaim.kernel, DilClaim.kernelIdeal, DilClaim.reference,
  DilOutClaim.kernel, DilOutClaim.kernelIdeal, DilOutClaim.reference,
  GqaClaim.kernel, GqaClaim.kernelIdeal, GqaClaim.reference,
  SharedClaim.kernel, SharedClaim.kernelIdeal, SharedClaim.reference,
  trivial, DiffClaim.algebraic, trivial, FullClaim.algebraic, trivial, GmmClaim.algebraic, trivial, OutClaim.algebraic, trivial, NatClaim.algebraic, trivial, RotClaim.algebraic, trivial, DilClaim.algebraic, trivial, DilOutClaim.algebraic, trivial, GqaClaim.algebraic, trivial, SharedClaim.algebraic⟩

end Cert.Proof

end
